-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.bf16_pair.PackStatement Cert.KernelIdeal.S128x128
  ∧ IdealRules.bf16_pair.Statement Cert.KernelIdeal.S256x128 Cert.KernelIdeal.S128x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v336) = v0 c
          ∧ r.2.mem ((c.tc : Thread Cert.ReferenceIdeal.nD Cert.ReferenceIdeal.τ).loc Cert.ReferenceIdeal.main_v226) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6144x1x4096 : Shape := ⟨3, ![6144, 1, 4096]⟩
abbrev S14336x2048 : Shape := ⟨2, ![14336, 2048]⟩
abbrev S14336x64 : Shape := ⟨2, ![14336, 64]⟩
abbrev S3584 : Shape := ⟨1, ![3584]⟩
abbrev S_ : Shape := ⟨0, ![]⟩
abbrev S4096x7168 : Shape := ⟨2, ![4096, 7168]⟩
abbrev S4096x224 : Shape := ⟨2, ![4096, 224]⟩
abbrev S16 : Shape := ⟨1, ![16]⟩
abbrev S6144x4096 : Shape := ⟨2, ![6144, 4096]⟩
abbrev S1x16 : Shape := ⟨2, ![1, 16]⟩
abbrev S8x16 : Shape := ⟨2, ![8, 16]⟩
abbrev S128 : Shape := ⟨1, ![128]⟩
abbrev S1x128 : Shape := ⟨2, ![1, 128]⟩
abbrev S3584x256 : Shape := ⟨2, ![3584, 256]⟩
abbrev S3584x1 : Shape := ⟨2, ![3584, 1]⟩
abbrev S64x14336 : Shape := ⟨2, ![64, 14336]⟩
abbrev S16x4x14336 : Shape := ⟨3, ![16, 4, 14336]⟩
abbrev S224x4096 : Shape := ⟨2, ![224, 4096]⟩
abbrev S56x4x4096 : Shape := ⟨3, ![56, 4, 4096]⟩
abbrev S6144x14336 : Shape := ⟨2, ![6144, 14336]⟩
abbrev S512x4096 : Shape := ⟨2, ![512, 4096]⟩
abbrev S512x2048 : Shape := ⟨2, ![512, 2048]⟩
abbrev S16x4x512 : Shape := ⟨3, ![16, 4, 512]⟩
abbrev S512x512 : Shape := ⟨2, ![512, 512]⟩
abbrev S4096x1024 : Shape := ⟨2, ![4096, 1024]⟩
abbrev S128x128 : Shape := ⟨2, ![128, 128]⟩
abbrev S1x4x128 : Shape := ⟨3, ![1, 4, 128]⟩
abbrev S4x128 : Shape := ⟨2, ![4, 128]⟩
abbrev S4x1x128 : Shape := ⟨3, ![4, 1, 128]⟩
abbrev S4x32x128 : Shape := ⟨3, ![4, 32, 128]⟩
abbrev S128x128x1 : Shape := ⟨3, ![128, 128, 1]⟩
abbrev S256x128 : Shape := ⟨2, ![256, 128]⟩
abbrev S512x1024 : Shape := ⟨2, ![512, 1024]⟩
abbrev S256x14336 : Shape := ⟨2, ![256, 14336]⟩
abbrev S512x7168 : Shape := ⟨2, ![512, 7168]⟩
abbrev S56x4x512 : Shape := ⟨3, ![56, 4, 512]⟩
abbrev S256x512 : Shape := ⟨2, ![256, 512]⟩
abbrev S14336x512 : Shape := ⟨2, ![14336, 512]⟩
abbrev S6144x1x14336 : Shape := ⟨3, ![6144, 1, 14336]⟩

abbrev nBuf : Space → Nat
  | .hbm => 56
  | .vmem => 24
  | .smem => 0
  | _ => 0

abbrev bufTy : (tb : Table) → Fin (tcTables nBuf tb) → BufTy
  | .hbm, ⟨0, _⟩ => ⟨S6144x1x4096, .bf16⟩
  | .hbm, ⟨1, _⟩ => ⟨S14336x2048, .i8⟩
  | .hbm, ⟨2, _⟩ => ⟨S14336x64, .i8⟩
  | .hbm, ⟨3, _⟩ => ⟨S3584, .f32⟩
  | .hbm, ⟨4, _⟩ => ⟨S_, .f32⟩
  | .hbm, ⟨5, _⟩ => ⟨S14336x2048, .i8⟩
  | .hbm, ⟨6, _⟩ => ⟨S14336x64, .i8⟩
  | .hbm, ⟨7, _⟩ => ⟨S3584, .f32⟩
  | .hbm, ⟨8, _⟩ => ⟨S_, .f32⟩
  | .hbm, ⟨9, _⟩ => ⟨S4096x7168, .i8⟩
  | .hbm, ⟨10, _⟩ => ⟨S4096x224, .i8⟩
  | .hbm, ⟨11, _⟩ => ⟨S3584, .f32⟩
  | .hbm, ⟨12, _⟩ => ⟨S_, .f32⟩
  | .hbm, ⟨13, _⟩ => ⟨S16, .f32⟩
  | .hbm, ⟨14, _⟩ => ⟨S6144x4096, .bf16⟩
  | .hbm, ⟨15, _⟩ => ⟨S1x16, .f32⟩
  | .hbm, ⟨16, _⟩ => ⟨S8x16, .f32⟩
  | .hbm, ⟨17, _⟩ => ⟨S128, .f32⟩
  | .hbm, ⟨18, _⟩ => ⟨S1x128, .f32⟩
  | .hbm, ⟨19, _⟩ => ⟨S3584x256, .i8⟩
  | .hbm, ⟨20, _⟩ => ⟨S3584x256, .i32⟩
  | .hbm, ⟨21, _⟩ => ⟨S3584x256, .f32⟩
  | .hbm, ⟨22, _⟩ => ⟨S3584x1, .f32⟩
  | .hbm, ⟨23, _⟩ => ⟨S3584x256, .f32⟩
  | .hbm, ⟨24, _⟩ => ⟨S3584x256, .f32⟩
  | .hbm, ⟨25, _⟩ => ⟨S3584x256, .f32⟩
  | .hbm, ⟨26, _⟩ => ⟨S3584x256, .f32⟩
  | .hbm, ⟨27, _⟩ => ⟨S14336x64, .f32⟩
  | .hbm, ⟨28, _⟩ => ⟨S64x14336, .f32⟩
  | .hbm, ⟨29, _⟩ => ⟨S16x4x14336, .f32⟩
  | .hbm, ⟨30, _⟩ => ⟨S3584x256, .i8⟩
  | .hbm, ⟨31, _⟩ => ⟨S3584x256, .i32⟩
  | .hbm, ⟨32, _⟩ => ⟨S3584x256, .f32⟩
  | .hbm, ⟨33, _⟩ => ⟨S3584x1, .f32⟩
  | .hbm, ⟨34, _⟩ => ⟨S3584x256, .f32⟩
  | .hbm, ⟨35, _⟩ => ⟨S3584x256, .f32⟩
  | .hbm, ⟨36, _⟩ => ⟨S3584x256, .f32⟩
  | .hbm, ⟨37, _⟩ => ⟨S3584x256, .f32⟩
  | .hbm, ⟨38, _⟩ => ⟨S14336x64, .f32⟩
  | .hbm, ⟨39, _⟩ => ⟨S64x14336, .f32⟩
  | .hbm, ⟨40, _⟩ => ⟨S16x4x14336, .f32⟩
  | .hbm, ⟨41, _⟩ => ⟨S3584x256, .i8⟩
  | .hbm, ⟨42, _⟩ => ⟨S3584x256, .i32⟩
  | .hbm, ⟨43, _⟩ => ⟨S3584x256, .f32⟩
  | .hbm, ⟨44, _⟩ => ⟨S3584x1, .f32⟩
  | .hbm, ⟨45, _⟩ => ⟨S3584x256, .f32⟩
  | .hbm, ⟨46, _⟩ => ⟨S3584x256, .f32⟩
  | .hbm, ⟨47, _⟩ => ⟨S3584x256, .f32⟩
  | .hbm, ⟨48, _⟩ => ⟨S3584x256, .f32⟩
  | .hbm, ⟨49, _⟩ => ⟨S4096x224, .f32⟩
  | .hbm, ⟨50, _⟩ => ⟨S224x4096, .f32⟩
  | .hbm, ⟨51, _⟩ => ⟨S56x4x4096, .f32⟩
  | .hbm, ⟨52, _⟩ => ⟨S6144x14336, .bf16⟩
  | .hbm, ⟨53, _⟩ => ⟨S6144x4096, .bf16⟩
  | .hbm, ⟨54, _⟩ => ⟨S6144x1x4096, .bf16⟩
  | .hbm, ⟨55, _⟩ => ⟨S6144x1x14336, .bf16⟩
  | .local _ .vmem, ⟨0, _⟩ => ⟨S512x4096, .bf16⟩
  | .local _ .vmem, ⟨1, _⟩ => ⟨S512x4096, .bf16⟩
  | .local _ .vmem, ⟨2, _⟩ => ⟨S512x2048, .i8⟩
  | .local _ .vmem, ⟨3, _⟩ => ⟨S512x2048, .i8⟩
  | .local _ .vmem, ⟨4, _⟩ => ⟨S16x4x512, .f32⟩
  | .local _ .vmem, ⟨5, _⟩ => ⟨S16x4x512, .f32⟩
  | .local _ .vmem, ⟨6, _⟩ => ⟨S512x2048, .i8⟩
  | .local _ .vmem, ⟨7, _⟩ => ⟨S512x2048, .i8⟩
  | .local _ .vmem, ⟨8, _⟩ => ⟨S16x4x512, .f32⟩
  | .local _ .vmem, ⟨9, _⟩ => ⟨S16x4x512, .f32⟩
  | .local _ .vmem, ⟨10, _⟩ => ⟨S1x128, .f32⟩
  | .local _ .vmem, ⟨11, _⟩ => ⟨S512x512, .bf16⟩
  | .local _ .vmem, ⟨12, _⟩ => ⟨S512x512, .bf16⟩
  | .local _ .vmem, ⟨13, _⟩ => ⟨S4096x1024, .bf16⟩
  | .local _ .vmem, ⟨14, _⟩ => ⟨S256x14336, .bf16⟩
  | .local _ .vmem, ⟨15, _⟩ => ⟨S256x14336, .bf16⟩
  | .local _ .vmem, ⟨16, _⟩ => ⟨S512x7168, .i8⟩
  | .local _ .vmem, ⟨17, _⟩ => ⟨S512x7168, .i8⟩
  | .local _ .vmem, ⟨18, _⟩ => ⟨S56x4x512, .f32⟩
  | .local _ .vmem, ⟨19, _⟩ => ⟨S56x4x512, .f32⟩
  | .local _ .vmem, ⟨20, _⟩ => ⟨S1x128, .f32⟩
  | .local _ .vmem, ⟨21, _⟩ => ⟨S256x512, .bf16⟩
  | .local _ .vmem, ⟨22, _⟩ => ⟨S256x512, .bf16⟩
  | .local _ .vmem, ⟨23, _⟩ => ⟨S14336x512, .bf16⟩
  | _, _ => ⟨S6144x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg4_1 : Ref sig .tc := ⟨.vmem, 22, rfl⟩
abbrev cc1_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem4_1 : DmaSem sig := 21

abbrev nD : Nat := 1
abbrev τ : Topo := Topo.v7x

variable {F : FTy → Type} [BitOps F]

abbrev grid0 : Pipeline.Grid := ⟨2, ![28, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c16_i32 : BitVec 32 := 16#32
  let v18 : BitVec 32 := Scalar.addi c0_i32_8 c16_i32
  let c1_i32 : BitVec 32 := 1#32
  ⟨c0_i32_8, v18, c1_i32⟩
def k0_mult1 (k0_t1 : Fin k0_t1_loop.trips) : BitVec 32 :=
  let c0_i32_17 : BitVec 32 := 0#32
  let c0_i32_8 : BitVec 32 := 0#32
  let c1_i32 : BitVec 32 := 1#32
  let arg10 : BitVec 32 := Scf.iv c0_i32_8 c1_i32 k0_t1
  let c1_i32_16 : BitVec 32 := 1#32
  let v24 : BitVec 32 := Scalar.muli arg10 c1_i32_16
  let v25 : BitVec 32 := Scalar.addi c0_i32_17 v24
  let c128_i32 : BitVec 32 := 128#32
  let v26 : BitVec 32 := Scalar.muli v25 c128_i32
  v26
def k0_off1 (k0_t1 : Fin k0_t1_loop.trips) : Fin 2 → Nat :=
  let c0_18 : Index := 0#32
  let c0_i32_17 : BitVec 32 := 0#32
  let c0_i32_8 : BitVec 32 := 0#32
  let c1_i32 : BitVec 32 := 1#32
  let arg10 : BitVec 32 := Scf.iv c0_i32_8 c1_i32 k0_t1
  let c1_i32_16 : BitVec 32 := 1#32
  let v24 : BitVec 32 := Scalar.muli arg10 c1_i32_16
  let v25 : BitVec 32 := Scalar.addi c0_i32_17 v24
  let c128_i32 : BitVec 32 := 128#32
  let v26 : BitVec 32 := Scalar.muli v25 c128_i32
  let v27 : BitVec 32 := v26
  let v28 : Index := Scalar.indexCast v27
  ![0, v28.toNat]
def k0_off2 (k0_t1 : Fin k0_t1_loop.trips) : Fin 3 → Nat :=
  let c0_i32_17 : BitVec 32 := 0#32
  let c0_i32_8 : BitVec 32 := 0#32
  let c1_i32 : BitVec 32 := 1#32
  let arg10 : BitVec 32 := Scf.iv c0_i32_8 c1_i32 k0_t1
  let c1_i32_16 : BitVec 32 := 1#32
  let v24 : BitVec 32 := Scalar.muli arg10 c1_i32_16
  let v25 : BitVec 32 := Scalar.addi c0_i32_17 v24
  let v30 : Index := Scalar.indexCast v25
  let c0_19 : Index := 0#32
  let c0_20 : Index := 0#32
  ![v30.toNat, 0, 0]
def k0_mult2 (k0_t1 : Fin k0_t1_loop.trips) : BitVec 32 :=
  let c0_i32_17 : BitVec 32 := 0#32
  let c0_i32_8 : BitVec 32 := 0#32
  let c1_i32 : BitVec 32 := 1#32
  let arg10 : BitVec 32 := Scf.iv c0_i32_8 c1_i32 k0_t1
  let c1_i32_16 : BitVec 32 := 1#32
  let v24 : BitVec 32 := Scalar.muli arg10 c1_i32_16
  let v25 : BitVec 32 := Scalar.addi c0_i32_17 v24
  let c2_i32 : BitVec 32 := 2#32
  let v62 : BitVec 32 := Scalar.muli v25 c2_i32
  let c128_i32_25 : BitVec 32 := 128#32
  let v63 : BitVec 32 := Scalar.muli v62 c128_i32_25
  v63
def k0_off3 (k0_t1 : Fin k0_t1_loop.trips) : Fin 2 → Nat :=
  let c0_i32_17 : BitVec 32 := 0#32
  let c0_i32_8 : BitVec 32 := 0#32
  let c1_i32 : BitVec 32 := 1#32
  let arg10 : BitVec 32 := Scf.iv c0_i32_8 c1_i32 k0_t1
  let c1_i32_16 : BitVec 32 := 1#32
  let v24 : BitVec 32 := Scalar.muli arg10 c1_i32_16
  let v25 : BitVec 32 := Scalar.addi c0_i32_17 v24
  let c2_i32 : BitVec 32 := 2#32
  let v62 : BitVec 32 := Scalar.muli v25 c2_i32
  let c128_i32_25 : BitVec 32 := 128#32
  let v63 : BitVec 32 := Scalar.muli v62 c128_i32_25
  let v64 : BitVec 32 := v63
  let v65 : Index := Scalar.indexCast v64
  let c0_26 : Index := 0#32
  ![v65.toNat, 0]
def k0_mult3 (k0_t1 : Fin k0_t1_loop.trips) : BitVec 32 :=
  let c0_i32_17 : BitVec 32 := 0#32
  let c0_i32_8 : BitVec 32 := 0#32
  let c1_i32 : BitVec 32 := 1#32
  let arg10 : BitVec 32 := Scf.iv c0_i32_8 c1_i32 k0_t1
  let c1_i32_16 : BitVec 32 := 1#32
  let v24 : BitVec 32 := Scalar.muli arg10 c1_i32_16
  let v25 : BitVec 32 := Scalar.addi c0_i32_17 v24
  let c128_i32_27 : BitVec 32 := 128#32
  let v69 : BitVec 32 := Scalar.muli v25 c128_i32_27
  v69
def k0_off4 (k0_t1 : Fin k0_t1_loop.trips) : Fin 2 → Nat :=
  let c128 : Index := 128#32
  let c0_i32_17 : BitVec 32 := 0#32
  let c0_i32_8 : BitVec 32 := 0#32
  let c1_i32 : BitVec 32 := 1#32
  let arg10 : BitVec 32 := Scf.iv c0_i32_8 c1_i32 k0_t1
  let c1_i32_16 : BitVec 32 := 1#32
  let v24 : BitVec 32 := Scalar.muli arg10 c1_i32_16
  let v25 : BitVec 32 := Scalar.addi c0_i32_17 v24
  let c128_i32_27 : BitVec 32 := 128#32
  let v69 : BitVec 32 := Scalar.muli v25 c128_i32_27
  let v70 : BitVec 32 := v69
  let v71 : Index := Scalar.indexCast v70
  ![128, v71.toNat]
def k0_off5 (k0_t1 : Fin k0_t1_loop.trips) : Fin 3 → Nat :=
  let c0_i32_17 : BitVec 32 := 0#32
  let c0_i32_8 : BitVec 32 := 0#32
  let c1_i32 : BitVec 32 := 1#32
  let arg10 : BitVec 32 := Scf.iv c0_i32_8 c1_i32 k0_t1
  let c1_i32_16 : BitVec 32 := 1#32
  let v24 : BitVec 32 := Scalar.muli arg10 c1_i32_16
  let v25 : BitVec 32 := Scalar.addi c0_i32_17 v24
  let v73 : Index := Scalar.indexCast v25
  let c0_28 : Index := 0#32
  let c128_29 : Index := 128#32
  ![v73.toNat, 0, 128]
def k0_mult4 (k0_t1 : Fin k0_t1_loop.trips) : BitVec 32 :=
  let c0_i32_17 : BitVec 32 := 0#32
  let c0_i32_8 : BitVec 32 := 0#32
  let c1_i32 : BitVec 32 := 1#32
  let arg10 : BitVec 32 := Scf.iv c0_i32_8 c1_i32 k0_t1
  let c1_i32_16 : BitVec 32 := 1#32
  let v24 : BitVec 32 := Scalar.muli arg10 c1_i32_16
  let v25 : BitVec 32 := Scalar.addi c0_i32_17 v24
  let c2_i32_36 : BitVec 32 := 2#32
  let v105 : BitVec 32 := Scalar.muli v25 c2_i32_36
  let c128_i32_37 : BitVec 32 := 128#32
  let v106 : BitVec 32 := Scalar.muli v105 c128_i32_37
  v106
def k0_off6 (k0_t1 : Fin k0_t1_loop.trips) : Fin 2 → Nat :=
  let c0_i32_17 : BitVec 32 := 0#32
  let c0_i32_8 : BitVec 32 := 0#32
  let c1_i32 : BitVec 32 := 1#32
  let arg10 : BitVec 32 := Scf.iv c0_i32_8 c1_i32 k0_t1
  let c1_i32_16 : BitVec 32 := 1#32
  let v24 : BitVec 32 := Scalar.muli arg10 c1_i32_16
  let v25 : BitVec 32 := Scalar.addi c0_i32_17 v24
  let c2_i32_36 : BitVec 32 := 2#32
  let v105 : BitVec 32 := Scalar.muli v25 c2_i32_36
  let c128_i32_37 : BitVec 32 := 128#32
  let v106 : BitVec 32 := Scalar.muli v105 c128_i32_37
  let v107 : BitVec 32 := v106
  let v108 : Index := Scalar.indexCast v107
  let c128_38 : Index := 128#32
  ![v108.toNat, 128]
def k0_mult5 (k0_t1 : Fin k0_t1_loop.trips) : BitVec 32 :=
  let c0_i32_17 : BitVec 32 := 0#32
  let c0_i32_8 : BitVec 32 := 0#32
  let c1_i32 : BitVec 32 := 1#32
  let arg10 : BitVec 32 := Scf.iv c0_i32_8 c1_i32 k0_t1
  let c1_i32_16 : BitVec 32 := 1#32
  let v24 : BitVec 32 := Scalar.muli arg10 c1_i32_16
  let v25 : BitVec 32 := Scalar.addi c0_i32_17 v24
  let c128_i32_39 : BitVec 32 := 128#32
  let v112 : BitVec 32 := Scalar.muli v25 c128_i32_39
  v112
def k0_off7 (k0_t1 : Fin k0_t1_loop.trips) : Fin 2 → Nat :=
  let c256 : Index := 256#32
  let c0_i32_17 : BitVec 32 := 0#32
  let c0_i32_8 : BitVec 32 := 0#32
  let c1_i32 : BitVec 32 := 1#32
  let arg10 : BitVec 32 := Scf.iv c0_i32_8 c1_i32 k0_t1
  let c1_i32_16 : BitVec 32 := 1#32
  let v24 : BitVec 32 := Scalar.muli arg10 c1_i32_16
  let v25 : BitVec 32 := Scalar.addi c0_i32_17 v24
  let c128_i32_39 : BitVec 32 := 128#32
  let v112 : BitVec 32 := Scalar.muli v25 c128_i32_39
  let v113 : BitVec 32 := v112
  let v114 : Index := Scalar.indexCast v113
  ![256, v114.toNat]
def k0_off8 (k0_t1 : Fin k0_t1_loop.trips) : Fin 3 → Nat :=
  let c0_i32_17 : BitVec 32 := 0#32
  let c0_i32_8 : BitVec 32 := 0#32
  let c1_i32 : BitVec 32 := 1#32
  let arg10 : BitVec 32 := Scf.iv c0_i32_8 c1_i32 k0_t1
  let c1_i32_16 : BitVec 32 := 1#32
  let v24 : BitVec 32 := Scalar.muli arg10 c1_i32_16
  let v25 : BitVec 32 := Scalar.addi c0_i32_17 v24
  let v116 : Index := Scalar.indexCast v25
  let c0_40 : Index := 0#32
  let c256_41 : Index := 256#32
  ![v116.toNat, 0, 256]
def k0_mult6 (k0_t1 : Fin k0_t1_loop.trips) : BitVec 32 :=
  let c0_i32_17 : BitVec 32 := 0#32
  let c0_i32_8 : BitVec 32 := 0#32
  let c1_i32 : BitVec 32 := 1#32
  let arg10 : BitVec 32 := Scf.iv c0_i32_8 c1_i32 k0_t1
  let c1_i32_16 : BitVec 32 := 1#32
  let v24 : BitVec 32 := Scalar.muli arg10 c1_i32_16
  let v25 : BitVec 32 := Scalar.addi c0_i32_17 v24
  let c2_i32_48 : BitVec 32 := 2#32
  let v148 : BitVec 32 := Scalar.muli v25 c2_i32_48
  let c128_i32_49 : BitVec 32 := 128#32
  let v149 : BitVec 32 := Scalar.muli v148 c128_i32_49
  v149
def k0_off9 (k0_t1 : Fin k0_t1_loop.trips) : Fin 2 → Nat :=
  let c0_i32_17 : BitVec 32 := 0#32
  let c0_i32_8 : BitVec 32 := 0#32
  let c1_i32 : BitVec 32 := 1#32
  let arg10 : BitVec 32 := Scf.iv c0_i32_8 c1_i32 k0_t1
  let c1_i32_16 : BitVec 32 := 1#32
  let v24 : BitVec 32 := Scalar.muli arg10 c1_i32_16
  let v25 : BitVec 32 := Scalar.addi c0_i32_17 v24
  let c2_i32_48 : BitVec 32 := 2#32
  let v148 : BitVec 32 := Scalar.muli v25 c2_i32_48
  let c128_i32_49 : BitVec 32 := 128#32
  let v149 : BitVec 32 := Scalar.muli v148 c128_i32_49
  let v150 : BitVec 32 := v149
  let v151 : Index := Scalar.indexCast v150
  let c256_50 : Index := 256#32
  ![v151.toNat, 256]
def k0_mult7 (k0_t1 : Fin k0_t1_loop.trips) : BitVec 32 :=
  let c0_i32_17 : BitVec 32 := 0#32
  let c0_i32_8 : BitVec 32 := 0#32
  let c1_i32 : BitVec 32 := 1#32
  let arg10 : BitVec 32 := Scf.iv c0_i32_8 c1_i32 k0_t1
  let c1_i32_16 : BitVec 32 := 1#32
  let v24 : BitVec 32 := Scalar.muli arg10 c1_i32_16
  let v25 : BitVec 32 := Scalar.addi c0_i32_17 v24
  let c128_i32_51 : BitVec 32 := 128#32
  let v155 : BitVec 32 := Scalar.muli v25 c128_i32_51
  v155
def k0_off10 (k0_t1 : Fin k0_t1_loop.trips) : Fin 2 → Nat :=
  let c384 : Index := 384#32
  let c0_i32_17 : BitVec 32 := 0#32
  let c0_i32_8 : BitVec 32 := 0#32
  let c1_i32 : BitVec 32 := 1#32
  let arg10 : BitVec 32 := Scf.iv c0_i32_8 c1_i32 k0_t1
  let c1_i32_16 : BitVec 32 := 1#32
  let v24 : BitVec 32 := Scalar.muli arg10 c1_i32_16
  let v25 : BitVec 32 := Scalar.addi c0_i32_17 v24
  let c128_i32_51 : BitVec 32 := 128#32
  let v155 : BitVec 32 := Scalar.muli v25 c128_i32_51
  let v156 : BitVec 32 := v155
  let v157 : Index := Scalar.indexCast v156
  ![384, v157.toNat]
def k0_off11 (k0_t1 : Fin k0_t1_loop.trips) : Fin 3 → Nat :=
  let c0_i32_17 : BitVec 32 := 0#32
  let c0_i32_8 : BitVec 32 := 0#32
  let c1_i32 : BitVec 32 := 1#32
  let arg10 : BitVec 32 := Scf.iv c0_i32_8 c1_i32 k0_t1
  let c1_i32_16 : BitVec 32 := 1#32
  let v24 : BitVec 32 := Scalar.muli arg10 c1_i32_16
  let v25 : BitVec 32 := Scalar.addi c0_i32_17 v24
  let v159 : Index := Scalar.indexCast v25
  let c0_52 : Index := 0#32
  let c384_53 : Index := 384#32
  ![v159.toNat, 0, 384]
def k0_mult8 (k0_t1 : Fin k0_t1_loop.trips) : BitVec 32 :=
  let c0_i32_17 : BitVec 32 := 0#32
  let c0_i32_8 : BitVec 32 := 0#32
  let c1_i32 : BitVec 32 := 1#32
  let arg10 : BitVec 32 := Scf.iv c0_i32_8 c1_i32 k0_t1
  let c1_i32_16 : BitVec 32 := 1#32
  let v24 : BitVec 32 := Scalar.muli arg10 c1_i32_16
  let v25 : BitVec 32 := Scalar.addi c0_i32_17 v24
  let c2_i32_60 : BitVec 32 := 2#32
  let v191 : BitVec 32 := Scalar.muli v25 c2_i32_60
  let c128_i32_61 : BitVec 32 := 128#32
  let v192 : BitVec 32 := Scalar.muli v191 c128_i32_61
  v192
def k0_off12 (k0_t1 : Fin k0_t1_loop.trips) : Fin 2 → Nat :=
  let c0_i32_17 : BitVec 32 := 0#32
  let c0_i32_8 : BitVec 32 := 0#32
  let c1_i32 : BitVec 32 := 1#32
  let arg10 : BitVec 32 := Scf.iv c0_i32_8 c1_i32 k0_t1
  let c1_i32_16 : BitVec 32 := 1#32
  let v24 : BitVec 32 := Scalar.muli arg10 c1_i32_16
  let v25 : BitVec 32 := Scalar.addi c0_i32_17 v24
  let c2_i32_60 : BitVec 32 := 2#32
  let v191 : BitVec 32 := Scalar.muli v25 c2_i32_60
  let c128_i32_61 : BitVec 32 := 128#32
  let v192 : BitVec 32 := Scalar.muli v191 c128_i32_61
  let v193 : BitVec 32 := v192
  let v194 : Index := Scalar.indexCast v193
  let c384_62 : Index := 384#32
  ![v194.toNat, 384]
@[reducible] def k0_t2_loop : Scf.Loop 32 :=
  let c0_i32_12 : BitVec 32 := 0#32
  let c16_i32_13 : BitVec 32 := 16#32
  let v23 : BitVec 32 := Scalar.addi c0_i32_12 c16_i32_13
  let c1_i32_14 : BitVec 32 := 1#32
  ⟨c0_i32_12, v23, c1_i32_14⟩
def k0_mult9 (k0_t2 : Fin k0_t2_loop.trips) : BitVec 32 :=
  let c0_i32_17 : BitVec 32 := 0#32
  let c0_i32_12 : BitVec 32 := 0#32
  let c1_i32_14 : BitVec 32 := 1#32
  let arg10 : BitVec 32 := Scf.iv c0_i32_12 c1_i32_14 k0_t2
  let c1_i32_16 : BitVec 32 := 1#32
  let v24 : BitVec 32 := Scalar.muli arg10 c1_i32_16
  let v25 : BitVec 32 := Scalar.addi c0_i32_17 v24
  let c128_i32 : BitVec 32 := 128#32
  let v26 : BitVec 32 := Scalar.muli v25 c128_i32
  v26
def k0_off13 (k0_t2 : Fin k0_t2_loop.trips) : Fin 2 → Nat :=
  let c0_18 : Index := 0#32
  let c0_i32_17 : BitVec 32 := 0#32
  let c0_i32_12 : BitVec 32 := 0#32
  let c1_i32_14 : BitVec 32 := 1#32
  let arg10 : BitVec 32 := Scf.iv c0_i32_12 c1_i32_14 k0_t2
  let c1_i32_16 : BitVec 32 := 1#32
  let v24 : BitVec 32 := Scalar.muli arg10 c1_i32_16
  let v25 : BitVec 32 := Scalar.addi c0_i32_17 v24
  let c128_i32 : BitVec 32 := 128#32
  let v26 : BitVec 32 := Scalar.muli v25 c128_i32
  let v27 : BitVec 32 := v26
  let v28 : Index := Scalar.indexCast v27
  ![0, v28.toNat]
def k0_off14 (k0_t2 : Fin k0_t2_loop.trips) : Fin 3 → Nat :=
  let c0_i32_17 : BitVec 32 := 0#32
  let c0_i32_12 : BitVec 32 := 0#32
  let c1_i32_14 : BitVec 32 := 1#32
  let arg10 : BitVec 32 := Scf.iv c0_i32_12 c1_i32_14 k0_t2
  let c1_i32_16 : BitVec 32 := 1#32
  let v24 : BitVec 32 := Scalar.muli arg10 c1_i32_16
  let v25 : BitVec 32 := Scalar.addi c0_i32_17 v24
  let v30 : Index := Scalar.indexCast v25
  let c0_19 : Index := 0#32
  let c0_20 : Index := 0#32
  ![v30.toNat, 0, 0]
def k0_mult10 (k0_t2 : Fin k0_t2_loop.trips) : BitVec 32 :=
  let c0_i32_17 : BitVec 32 := 0#32
  let c0_i32_12 : BitVec 32 := 0#32
  let c1_i32_14 : BitVec 32 := 1#32
  let arg10 : BitVec 32 := Scf.iv c0_i32_12 c1_i32_14 k0_t2
  let c1_i32_16 : BitVec 32 := 1#32
  let v24 : BitVec 32 := Scalar.muli arg10 c1_i32_16
  let v25 : BitVec 32 := Scalar.addi c0_i32_17 v24
  let c2_i32 : BitVec 32 := 2#32
  let v62 : BitVec 32 := Scalar.muli v25 c2_i32
  let c128_i32_25 : BitVec 32 := 128#32
  let v63 : BitVec 32 := Scalar.muli v62 c128_i32_25
  v63
def k0_off15 (k0_t2 : Fin k0_t2_loop.trips) : Fin 2 → Nat :=
  let c0_i32_17 : BitVec 32 := 0#32
  let c0_i32_12 : BitVec 32 := 0#32
  let c1_i32_14 : BitVec 32 := 1#32
  let arg10 : BitVec 32 := Scf.iv c0_i32_12 c1_i32_14 k0_t2
  let c1_i32_16 : BitVec 32 := 1#32
  let v24 : BitVec 32 := Scalar.muli arg10 c1_i32_16
  let v25 : BitVec 32 := Scalar.addi c0_i32_17 v24
  let c2_i32 : BitVec 32 := 2#32
  let v62 : BitVec 32 := Scalar.muli v25 c2_i32
  let c128_i32_25 : BitVec 32 := 128#32
  let v63 : BitVec 32 := Scalar.muli v62 c128_i32_25
  let v64 : BitVec 32 := v63
  let v65 : Index := Scalar.indexCast v64
  let c512 : Index := 512#32
  ![v65.toNat, 512]
def k0_mult11 (k0_t2 : Fin k0_t2_loop.trips) : BitVec 32 :=
  let c0_i32_17 : BitVec 32 := 0#32
  let c0_i32_12 : BitVec 32 := 0#32
  let c1_i32_14 : BitVec 32 := 1#32
  let arg10 : BitVec 32 := Scf.iv c0_i32_12 c1_i32_14 k0_t2
  let c1_i32_16 : BitVec 32 := 1#32
  let v24 : BitVec 32 := Scalar.muli arg10 c1_i32_16
  let v25 : BitVec 32 := Scalar.addi c0_i32_17 v24
  let c128_i32_26 : BitVec 32 := 128#32
  let v69 : BitVec 32 := Scalar.muli v25 c128_i32_26
  v69
def k0_off16 (k0_t2 : Fin k0_t2_loop.trips) : Fin 2 → Nat :=
  let c128 : Index := 128#32
  let c0_i32_17 : BitVec 32 := 0#32
  let c0_i32_12 : BitVec 32 := 0#32
  let c1_i32_14 : BitVec 32 := 1#32
  let arg10 : BitVec 32 := Scf.iv c0_i32_12 c1_i32_14 k0_t2
  let c1_i32_16 : BitVec 32 := 1#32
  let v24 : BitVec 32 := Scalar.muli arg10 c1_i32_16
  let v25 : BitVec 32 := Scalar.addi c0_i32_17 v24
  let c128_i32_26 : BitVec 32 := 128#32
  let v69 : BitVec 32 := Scalar.muli v25 c128_i32_26
  let v70 : BitVec 32 := v69
  let v71 : Index := Scalar.indexCast v70
  ![128, v71.toNat]
def k0_off17 (k0_t2 : Fin k0_t2_loop.trips) : Fin 3 → Nat :=
  let c0_i32_17 : BitVec 32 := 0#32
  let c0_i32_12 : BitVec 32 := 0#32
  let c1_i32_14 : BitVec 32 := 1#32
  let arg10 : BitVec 32 := Scf.iv c0_i32_12 c1_i32_14 k0_t2
  let c1_i32_16 : BitVec 32 := 1#32
  let v24 : BitVec 32 := Scalar.muli arg10 c1_i32_16
  let v25 : BitVec 32 := Scalar.addi c0_i32_17 v24
  let v73 : Index := Scalar.indexCast v25
  let c0_27 : Index := 0#32
  let c128_28 : Index := 128#32
  ![v73.toNat, 0, 128]
def k0_mult12 (k0_t2 : Fin k0_t2_loop.trips) : BitVec 32 :=
  let c0_i32_17 : BitVec 32 := 0#32
  let c0_i32_12 : BitVec 32 := 0#32
  let c1_i32_14 : BitVec 32 := 1#32
  let arg10 : BitVec 32 := Scf.iv c0_i32_12 c1_i32_14 k0_t2
  let c1_i32_16 : BitVec 32 := 1#32
  let v24 : BitVec 32 := Scalar.muli arg10 c1_i32_16
  let v25 : BitVec 32 := Scalar.addi c0_i32_17 v24
  let c2_i32_35 : BitVec 32 := 2#32
  let v105 : BitVec 32 := Scalar.muli v25 c2_i32_35
  let c128_i32_36 : BitVec 32 := 128#32
  let v106 : BitVec 32 := Scalar.muli v105 c128_i32_36
  v106
def k0_off18 (k0_t2 : Fin k0_t2_loop.trips) : Fin 2 → Nat :=
  let c0_i32_17 : BitVec 32 := 0#32
  let c0_i32_12 : BitVec 32 := 0#32
  let c1_i32_14 : BitVec 32 := 1#32
  let arg10 : BitVec 32 := Scf.iv c0_i32_12 c1_i32_14 k0_t2
  let c1_i32_16 : BitVec 32 := 1#32
  let v24 : BitVec 32 := Scalar.muli arg10 c1_i32_16
  let v25 : BitVec 32 := Scalar.addi c0_i32_17 v24
  let c2_i32_35 : BitVec 32 := 2#32
  let v105 : BitVec 32 := Scalar.muli v25 c2_i32_35
  let c128_i32_36 : BitVec 32 := 128#32
  let v106 : BitVec 32 := Scalar.muli v105 c128_i32_36
  let v107 : BitVec 32 := v106
  let v108 : Index := Scalar.indexCast v107
  let c640 : Index := 640#32
  ![v108.toNat, 640]
def k0_mult13 (k0_t2 : Fin k0_t2_loop.trips) : BitVec 32 :=
  let c0_i32_17 : BitVec 32 := 0#32
  let c0_i32_12 : BitVec 32 := 0#32
  let c1_i32_14 : BitVec 32 := 1#32
  let arg10 : BitVec 32 := Scf.iv c0_i32_12 c1_i32_14 k0_t2
  let c1_i32_16 : BitVec 32 := 1#32
  let v24 : BitVec 32 := Scalar.muli arg10 c1_i32_16
  let v25 : BitVec 32 := Scalar.addi c0_i32_17 v24
  let c128_i32_37 : BitVec 32 := 128#32
  let v112 : BitVec 32 := Scalar.muli v25 c128_i32_37
  v112
def k0_off19 (k0_t2 : Fin k0_t2_loop.trips) : Fin 2 → Nat :=
  let c256 : Index := 256#32
  let c0_i32_17 : BitVec 32 := 0#32
  let c0_i32_12 : BitVec 32 := 0#32
  let c1_i32_14 : BitVec 32 := 1#32
  let arg10 : BitVec 32 := Scf.iv c0_i32_12 c1_i32_14 k0_t2
  let c1_i32_16 : BitVec 32 := 1#32
  let v24 : BitVec 32 := Scalar.muli arg10 c1_i32_16
  let v25 : BitVec 32 := Scalar.addi c0_i32_17 v24
  let c128_i32_37 : BitVec 32 := 128#32
  let v112 : BitVec 32 := Scalar.muli v25 c128_i32_37
  let v113 : BitVec 32 := v112
  let v114 : Index := Scalar.indexCast v113
  ![256, v114.toNat]
def k0_off20 (k0_t2 : Fin k0_t2_loop.trips) : Fin 3 → Nat :=
  let c0_i32_17 : BitVec 32 := 0#32
  let c0_i32_12 : BitVec 32 := 0#32
  let c1_i32_14 : BitVec 32 := 1#32
  let arg10 : BitVec 32 := Scf.iv c0_i32_12 c1_i32_14 k0_t2
  let c1_i32_16 : BitVec 32 := 1#32
  let v24 : BitVec 32 := Scalar.muli arg10 c1_i32_16
  let v25 : BitVec 32 := Scalar.addi c0_i32_17 v24
  let v116 : Index := Scalar.indexCast v25
  let c0_38 : Index := 0#32
  let c256_39 : Index := 256#32
  ![v116.toNat, 0, 256]
def k0_mult14 (k0_t2 : Fin k0_t2_loop.trips) : BitVec 32 :=
  let c0_i32_17 : BitVec 32 := 0#32
  let c0_i32_12 : BitVec 32 := 0#32
  let c1_i32_14 : BitVec 32 := 1#32
  let arg10 : BitVec 32 := Scf.iv c0_i32_12 c1_i32_14 k0_t2
  let c1_i32_16 : BitVec 32 := 1#32
  let v24 : BitVec 32 := Scalar.muli arg10 c1_i32_16
  let v25 : BitVec 32 := Scalar.addi c0_i32_17 v24
  let c2_i32_46 : BitVec 32 := 2#32
  let v148 : BitVec 32 := Scalar.muli v25 c2_i32_46
  let c128_i32_47 : BitVec 32 := 128#32
  let v149 : BitVec 32 := Scalar.muli v148 c128_i32_47
  v149
def k0_off21 (k0_t2 : Fin k0_t2_loop.trips) : Fin 2 → Nat :=
  let c0_i32_17 : BitVec 32 := 0#32
  let c0_i32_12 : BitVec 32 := 0#32
  let c1_i32_14 : BitVec 32 := 1#32
  let arg10 : BitVec 32 := Scf.iv c0_i32_12 c1_i32_14 k0_t2
  let c1_i32_16 : BitVec 32 := 1#32
  let v24 : BitVec 32 := Scalar.muli arg10 c1_i32_16
  let v25 : BitVec 32 := Scalar.addi c0_i32_17 v24
  let c2_i32_46 : BitVec 32 := 2#32
  let v148 : BitVec 32 := Scalar.muli v25 c2_i32_46
  let c128_i32_47 : BitVec 32 := 128#32
  let v149 : BitVec 32 := Scalar.muli v148 c128_i32_47
  let v150 : BitVec 32 := v149
  let v151 : Index := Scalar.indexCast v150
  let c768 : Index := 768#32
  ![v151.toNat, 768]
def k0_mult15 (k0_t2 : Fin k0_t2_loop.trips) : BitVec 32 :=
  let c0_i32_17 : BitVec 32 := 0#32
  let c0_i32_12 : BitVec 32 := 0#32
  let c1_i32_14 : BitVec 32 := 1#32
  let arg10 : BitVec 32 := Scf.iv c0_i32_12 c1_i32_14 k0_t2
  let c1_i32_16 : BitVec 32 := 1#32
  let v24 : BitVec 32 := Scalar.muli arg10 c1_i32_16
  let v25 : BitVec 32 := Scalar.addi c0_i32_17 v24
  let c128_i32_48 : BitVec 32 := 128#32
  let v155 : BitVec 32 := Scalar.muli v25 c128_i32_48
  v155
def k0_off22 (k0_t2 : Fin k0_t2_loop.trips) : Fin 2 → Nat :=
  let c384 : Index := 384#32
  let c0_i32_17 : BitVec 32 := 0#32
  let c0_i32_12 : BitVec 32 := 0#32
  let c1_i32_14 : BitVec 32 := 1#32
  let arg10 : BitVec 32 := Scf.iv c0_i32_12 c1_i32_14 k0_t2
  let c1_i32_16 : BitVec 32 := 1#32
  let v24 : BitVec 32 := Scalar.muli arg10 c1_i32_16
  let v25 : BitVec 32 := Scalar.addi c0_i32_17 v24
  let c128_i32_48 : BitVec 32 := 128#32
  let v155 : BitVec 32 := Scalar.muli v25 c128_i32_48
  let v156 : BitVec 32 := v155
  let v157 : Index := Scalar.indexCast v156
  ![384, v157.toNat]
def k0_off23 (k0_t2 : Fin k0_t2_loop.trips) : Fin 3 → Nat :=
  let c0_i32_17 : BitVec 32 := 0#32
  let c0_i32_12 : BitVec 32 := 0#32
  let c1_i32_14 : BitVec 32 := 1#32
  let arg10 : BitVec 32 := Scf.iv c0_i32_12 c1_i32_14 k0_t2
  let c1_i32_16 : BitVec 32 := 1#32
  let v24 : BitVec 32 := Scalar.muli arg10 c1_i32_16
  let v25 : BitVec 32 := Scalar.addi c0_i32_17 v24
  let v159 : Index := Scalar.indexCast v25
  let c0_49 : Index := 0#32
  let c384_50 : Index := 384#32
  ![v159.toNat, 0, 384]
def k0_mult16 (k0_t2 : Fin k0_t2_loop.trips) : BitVec 32 :=
  let c0_i32_17 : BitVec 32 := 0#32
  let c0_i32_12 : BitVec 32 := 0#32
  let c1_i32_14 : BitVec 32 := 1#32
  let arg10 : BitVec 32 := Scf.iv c0_i32_12 c1_i32_14 k0_t2
  let c1_i32_16 : BitVec 32 := 1#32
  let v24 : BitVec 32 := Scalar.muli arg10 c1_i32_16
  let v25 : BitVec 32 := Scalar.addi c0_i32_17 v24
  let c2_i32_57 : BitVec 32 := 2#32
  let v191 : BitVec 32 := Scalar.muli v25 c2_i32_57
  let c128_i32_58 : BitVec 32 := 128#32
  let v192 : BitVec 32 := Scalar.muli v191 c128_i32_58
  v192
def k0_off24 (k0_t2 : Fin k0_t2_loop.trips) : Fin 2 → Nat :=
  let c0_i32_17 : BitVec 32 := 0#32
  let c0_i32_12 : BitVec 32 := 0#32
  let c1_i32_14 : BitVec 32 := 1#32
  let arg10 : BitVec 32 := Scf.iv c0_i32_12 c1_i32_14 k0_t2
  let c1_i32_16 : BitVec 32 := 1#32
  let v24 : BitVec 32 := Scalar.muli arg10 c1_i32_16
  let v25 : BitVec 32 := Scalar.addi c0_i32_17 v24
  let c2_i32_57 : BitVec 32 := 2#32
  let v191 : BitVec 32 := Scalar.muli v25 c2_i32_57
  let c128_i32_58 : BitVec 32 := 128#32
  let v192 : BitVec 32 := Scalar.muli v191 c128_i32_58
  let v193 : BitVec 32 := v192
  let v194 : Index := Scalar.indexCast v193
  let c896 : Index := 896#32
  ![v194.toNat, 896]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![8, 24], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k1_t1_loop : Scf.Loop 32 :=
  let c0_i32_8 : BitVec 32 := 0#32
  let c56_i32 : BitVec 32 := 56#32
  let v13 : BitVec 32 := Scalar.addi c0_i32_8 c56_i32
  let c1_i32 : BitVec 32 := 1#32
  ⟨c0_i32_8, v13, c1_i32⟩
def k1_mult1 (k1_t1 : Fin k1_t1_loop.trips) : BitVec 32 :=
  let c0_i32_11 : BitVec 32 := 0#32
  let c0_i32_8 : BitVec 32 := 0#32
  let c1_i32 : BitVec 32 := 1#32
  let arg8 : BitVec 32 := Scf.iv c0_i32_8 c1_i32 k1_t1
  let c1_i32_10 : BitVec 32 := 1#32
  let v14 : BitVec 32 := Scalar.muli arg8 c1_i32_10
  let v15 : BitVec 32 := Scalar.addi c0_i32_11 v14
  let c128_i32 : BitVec 32 := 128#32
  let v16 : BitVec 32 := Scalar.muli v15 c128_i32
  v16
def k1_off1 (k1_t1 : Fin k1_t1_loop.trips) : Fin 2 → Nat :=
  let c0_12 : Index := 0#32
  let c0_i32_11 : BitVec 32 := 0#32
  let c0_i32_8 : BitVec 32 := 0#32
  let c1_i32 : BitVec 32 := 1#32
  let arg8 : BitVec 32 := Scf.iv c0_i32_8 c1_i32 k1_t1
  let c1_i32_10 : BitVec 32 := 1#32
  let v14 : BitVec 32 := Scalar.muli arg8 c1_i32_10
  let v15 : BitVec 32 := Scalar.addi c0_i32_11 v14
  let c128_i32 : BitVec 32 := 128#32
  let v16 : BitVec 32 := Scalar.muli v15 c128_i32
  let v17 : BitVec 32 := v16
  let v18 : Index := Scalar.indexCast v17
  ![0, v18.toNat]
def k1_off2 (k1_t1 : Fin k1_t1_loop.trips) : Fin 3 → Nat :=
  let c0_i32_11 : BitVec 32 := 0#32
  let c0_i32_8 : BitVec 32 := 0#32
  let c1_i32 : BitVec 32 := 1#32
  let arg8 : BitVec 32 := Scf.iv c0_i32_8 c1_i32 k1_t1
  let c1_i32_10 : BitVec 32 := 1#32
  let v14 : BitVec 32 := Scalar.muli arg8 c1_i32_10
  let v15 : BitVec 32 := Scalar.addi c0_i32_11 v14
  let v20 : Index := Scalar.indexCast v15
  let c0_13 : Index := 0#32
  let c0_14 : Index := 0#32
  ![v20.toNat, 0, 0]
def k1_mult2 (k1_t1 : Fin k1_t1_loop.trips) : BitVec 32 :=
  let c0_i32_11 : BitVec 32 := 0#32
  let c0_i32_8 : BitVec 32 := 0#32
  let c1_i32 : BitVec 32 := 1#32
  let arg8 : BitVec 32 := Scf.iv c0_i32_8 c1_i32 k1_t1
  let c1_i32_10 : BitVec 32 := 1#32
  let v14 : BitVec 32 := Scalar.muli arg8 c1_i32_10
  let v15 : BitVec 32 := Scalar.addi c0_i32_11 v14
  let c2_i32 : BitVec 32 := 2#32
  let v52 : BitVec 32 := Scalar.muli v15 c2_i32
  let c128_i32_19 : BitVec 32 := 128#32
  let v53 : BitVec 32 := Scalar.muli v52 c128_i32_19
  v53
def k1_off3 (k1_t1 : Fin k1_t1_loop.trips) : Fin 2 → Nat :=
  let c0_i32_11 : BitVec 32 := 0#32
  let c0_i32_8 : BitVec 32 := 0#32
  let c1_i32 : BitVec 32 := 1#32
  let arg8 : BitVec 32 := Scf.iv c0_i32_8 c1_i32 k1_t1
  let c1_i32_10 : BitVec 32 := 1#32
  let v14 : BitVec 32 := Scalar.muli arg8 c1_i32_10
  let v15 : BitVec 32 := Scalar.addi c0_i32_11 v14
  let c2_i32 : BitVec 32 := 2#32
  let v52 : BitVec 32 := Scalar.muli v15 c2_i32
  let c128_i32_19 : BitVec 32 := 128#32
  let v53 : BitVec 32 := Scalar.muli v52 c128_i32_19
  let v54 : BitVec 32 := v53
  let v55 : Index := Scalar.indexCast v54
  let c0_20 : Index := 0#32
  ![v55.toNat, 0]
def k1_mult3 (k1_t1 : Fin k1_t1_loop.trips) : BitVec 32 :=
  let c0_i32_11 : BitVec 32 := 0#32
  let c0_i32_8 : BitVec 32 := 0#32
  let c1_i32 : BitVec 32 := 1#32
  let arg8 : BitVec 32 := Scf.iv c0_i32_8 c1_i32 k1_t1
  let c1_i32_10 : BitVec 32 := 1#32
  let v14 : BitVec 32 := Scalar.muli arg8 c1_i32_10
  let v15 : BitVec 32 := Scalar.addi c0_i32_11 v14
  let c128_i32_21 : BitVec 32 := 128#32
  let v59 : BitVec 32 := Scalar.muli v15 c128_i32_21
  v59
def k1_off4 (k1_t1 : Fin k1_t1_loop.trips) : Fin 2 → Nat :=
  let c128 : Index := 128#32
  let c0_i32_11 : BitVec 32 := 0#32
  let c0_i32_8 : BitVec 32 := 0#32
  let c1_i32 : BitVec 32 := 1#32
  let arg8 : BitVec 32 := Scf.iv c0_i32_8 c1_i32 k1_t1
  let c1_i32_10 : BitVec 32 := 1#32
  let v14 : BitVec 32 := Scalar.muli arg8 c1_i32_10
  let v15 : BitVec 32 := Scalar.addi c0_i32_11 v14
  let c128_i32_21 : BitVec 32 := 128#32
  let v59 : BitVec 32 := Scalar.muli v15 c128_i32_21
  let v60 : BitVec 32 := v59
  let v61 : Index := Scalar.indexCast v60
  ![128, v61.toNat]
def k1_off5 (k1_t1 : Fin k1_t1_loop.trips) : Fin 3 → Nat :=
  let c0_i32_11 : BitVec 32 := 0#32
  let c0_i32_8 : BitVec 32 := 0#32
  let c1_i32 : BitVec 32 := 1#32
  let arg8 : BitVec 32 := Scf.iv c0_i32_8 c1_i32 k1_t1
  let c1_i32_10 : BitVec 32 := 1#32
  let v14 : BitVec 32 := Scalar.muli arg8 c1_i32_10
  let v15 : BitVec 32 := Scalar.addi c0_i32_11 v14
  let v63 : Index := Scalar.indexCast v15
  let c0_22 : Index := 0#32
  let c128_23 : Index := 128#32
  ![v63.toNat, 0, 128]
def k1_mult4 (k1_t1 : Fin k1_t1_loop.trips) : BitVec 32 :=
  let c0_i32_11 : BitVec 32 := 0#32
  let c0_i32_8 : BitVec 32 := 0#32
  let c1_i32 : BitVec 32 := 1#32
  let arg8 : BitVec 32 := Scf.iv c0_i32_8 c1_i32 k1_t1
  let c1_i32_10 : BitVec 32 := 1#32
  let v14 : BitVec 32 := Scalar.muli arg8 c1_i32_10
  let v15 : BitVec 32 := Scalar.addi c0_i32_11 v14
  let c2_i32_30 : BitVec 32 := 2#32
  let v95 : BitVec 32 := Scalar.muli v15 c2_i32_30
  let c128_i32_31 : BitVec 32 := 128#32
  let v96 : BitVec 32 := Scalar.muli v95 c128_i32_31
  v96
def k1_off6 (k1_t1 : Fin k1_t1_loop.trips) : Fin 2 → Nat :=
  let c0_i32_11 : BitVec 32 := 0#32
  let c0_i32_8 : BitVec 32 := 0#32
  let c1_i32 : BitVec 32 := 1#32
  let arg8 : BitVec 32 := Scf.iv c0_i32_8 c1_i32 k1_t1
  let c1_i32_10 : BitVec 32 := 1#32
  let v14 : BitVec 32 := Scalar.muli arg8 c1_i32_10
  let v15 : BitVec 32 := Scalar.addi c0_i32_11 v14
  let c2_i32_30 : BitVec 32 := 2#32
  let v95 : BitVec 32 := Scalar.muli v15 c2_i32_30
  let c128_i32_31 : BitVec 32 := 128#32
  let v96 : BitVec 32 := Scalar.muli v95 c128_i32_31
  let v97 : BitVec 32 := v96
  let v98 : Index := Scalar.indexCast v97
  let c128_32 : Index := 128#32
  ![v98.toNat, 128]
def k1_mult5 (k1_t1 : Fin k1_t1_loop.trips) : BitVec 32 :=
  let c0_i32_11 : BitVec 32 := 0#32
  let c0_i32_8 : BitVec 32 := 0#32
  let c1_i32 : BitVec 32 := 1#32
  let arg8 : BitVec 32 := Scf.iv c0_i32_8 c1_i32 k1_t1
  let c1_i32_10 : BitVec 32 := 1#32
  let v14 : BitVec 32 := Scalar.muli arg8 c1_i32_10
  let v15 : BitVec 32 := Scalar.addi c0_i32_11 v14
  let c128_i32_33 : BitVec 32 := 128#32
  let v102 : BitVec 32 := Scalar.muli v15 c128_i32_33
  v102
def k1_off7 (k1_t1 : Fin k1_t1_loop.trips) : Fin 2 → Nat :=
  let c256 : Index := 256#32
  let c0_i32_11 : BitVec 32 := 0#32
  let c0_i32_8 : BitVec 32 := 0#32
  let c1_i32 : BitVec 32 := 1#32
  let arg8 : BitVec 32 := Scf.iv c0_i32_8 c1_i32 k1_t1
  let c1_i32_10 : BitVec 32 := 1#32
  let v14 : BitVec 32 := Scalar.muli arg8 c1_i32_10
  let v15 : BitVec 32 := Scalar.addi c0_i32_11 v14
  let c128_i32_33 : BitVec 32 := 128#32
  let v102 : BitVec 32 := Scalar.muli v15 c128_i32_33
  let v103 : BitVec 32 := v102
  let v104 : Index := Scalar.indexCast v103
  ![256, v104.toNat]
def k1_off8 (k1_t1 : Fin k1_t1_loop.trips) : Fin 3 → Nat :=
  let c0_i32_11 : BitVec 32 := 0#32
  let c0_i32_8 : BitVec 32 := 0#32
  let c1_i32 : BitVec 32 := 1#32
  let arg8 : BitVec 32 := Scf.iv c0_i32_8 c1_i32 k1_t1
  let c1_i32_10 : BitVec 32 := 1#32
  let v14 : BitVec 32 := Scalar.muli arg8 c1_i32_10
  let v15 : BitVec 32 := Scalar.addi c0_i32_11 v14
  let v106 : Index := Scalar.indexCast v15
  let c0_34 : Index := 0#32
  let c256_35 : Index := 256#32
  ![v106.toNat, 0, 256]
def k1_mult6 (k1_t1 : Fin k1_t1_loop.trips) : BitVec 32 :=
  let c0_i32_11 : BitVec 32 := 0#32
  let c0_i32_8 : BitVec 32 := 0#32
  let c1_i32 : BitVec 32 := 1#32
  let arg8 : BitVec 32 := Scf.iv c0_i32_8 c1_i32 k1_t1
  let c1_i32_10 : BitVec 32 := 1#32
  let v14 : BitVec 32 := Scalar.muli arg8 c1_i32_10
  let v15 : BitVec 32 := Scalar.addi c0_i32_11 v14
  let c2_i32_42 : BitVec 32 := 2#32
  let v138 : BitVec 32 := Scalar.muli v15 c2_i32_42
  let c128_i32_43 : BitVec 32 := 128#32
  let v139 : BitVec 32 := Scalar.muli v138 c128_i32_43
  v139
def k1_off9 (k1_t1 : Fin k1_t1_loop.trips) : Fin 2 → Nat :=
  let c0_i32_11 : BitVec 32 := 0#32
  let c0_i32_8 : BitVec 32 := 0#32
  let c1_i32 : BitVec 32 := 1#32
  let arg8 : BitVec 32 := Scf.iv c0_i32_8 c1_i32 k1_t1
  let c1_i32_10 : BitVec 32 := 1#32
  let v14 : BitVec 32 := Scalar.muli arg8 c1_i32_10
  let v15 : BitVec 32 := Scalar.addi c0_i32_11 v14
  let c2_i32_42 : BitVec 32 := 2#32
  let v138 : BitVec 32 := Scalar.muli v15 c2_i32_42
  let c128_i32_43 : BitVec 32 := 128#32
  let v139 : BitVec 32 := Scalar.muli v138 c128_i32_43
  let v140 : BitVec 32 := v139
  let v141 : Index := Scalar.indexCast v140
  let c256_44 : Index := 256#32
  ![v141.toNat, 256]
def k1_mult7 (k1_t1 : Fin k1_t1_loop.trips) : BitVec 32 :=
  let c0_i32_11 : BitVec 32 := 0#32
  let c0_i32_8 : BitVec 32 := 0#32
  let c1_i32 : BitVec 32 := 1#32
  let arg8 : BitVec 32 := Scf.iv c0_i32_8 c1_i32 k1_t1
  let c1_i32_10 : BitVec 32 := 1#32
  let v14 : BitVec 32 := Scalar.muli arg8 c1_i32_10
  let v15 : BitVec 32 := Scalar.addi c0_i32_11 v14
  let c128_i32_45 : BitVec 32 := 128#32
  let v145 : BitVec 32 := Scalar.muli v15 c128_i32_45
  v145
def k1_off10 (k1_t1 : Fin k1_t1_loop.trips) : Fin 2 → Nat :=
  let c384 : Index := 384#32
  let c0_i32_11 : BitVec 32 := 0#32
  let c0_i32_8 : BitVec 32 := 0#32
  let c1_i32 : BitVec 32 := 1#32
  let arg8 : BitVec 32 := Scf.iv c0_i32_8 c1_i32 k1_t1
  let c1_i32_10 : BitVec 32 := 1#32
  let v14 : BitVec 32 := Scalar.muli arg8 c1_i32_10
  let v15 : BitVec 32 := Scalar.addi c0_i32_11 v14
  let c128_i32_45 : BitVec 32 := 128#32
  let v145 : BitVec 32 := Scalar.muli v15 c128_i32_45
  let v146 : BitVec 32 := v145
  let v147 : Index := Scalar.indexCast v146
  ![384, v147.toNat]
def k1_off11 (k1_t1 : Fin k1_t1_loop.trips) : Fin 3 → Nat :=
  let c0_i32_11 : BitVec 32 := 0#32
  let c0_i32_8 : BitVec 32 := 0#32
  let c1_i32 : BitVec 32 := 1#32
  let arg8 : BitVec 32 := Scf.iv c0_i32_8 c1_i32 k1_t1
  let c1_i32_10 : BitVec 32 := 1#32
  let v14 : BitVec 32 := Scalar.muli arg8 c1_i32_10
  let v15 : BitVec 32 := Scalar.addi c0_i32_11 v14
  let v149 : Index := Scalar.indexCast v15
  let c0_46 : Index := 0#32
  let c384_47 : Index := 384#32
  ![v149.toNat, 0, 384]
def k1_mult8 (k1_t1 : Fin k1_t1_loop.trips) : BitVec 32 :=
  let c0_i32_11 : BitVec 32 := 0#32
  let c0_i32_8 : BitVec 32 := 0#32
  let c1_i32 : BitVec 32 := 1#32
  let arg8 : BitVec 32 := Scf.iv c0_i32_8 c1_i32 k1_t1
  let c1_i32_10 : BitVec 32 := 1#32
  let v14 : BitVec 32 := Scalar.muli arg8 c1_i32_10
  let v15 : BitVec 32 := Scalar.addi c0_i32_11 v14
  let c2_i32_54 : BitVec 32 := 2#32
  let v181 : BitVec 32 := Scalar.muli v15 c2_i32_54
  let c128_i32_55 : BitVec 32 := 128#32
  let v182 : BitVec 32 := Scalar.muli v181 c128_i32_55
  v182
def k1_off12 (k1_t1 : Fin k1_t1_loop.trips) : Fin 2 → Nat :=
  let c0_i32_11 : BitVec 32 := 0#32
  let c0_i32_8 : BitVec 32 := 0#32
  let c1_i32 : BitVec 32 := 1#32
  let arg8 : BitVec 32 := Scf.iv c0_i32_8 c1_i32 k1_t1
  let c1_i32_10 : BitVec 32 := 1#32
  let v14 : BitVec 32 := Scalar.muli arg8 c1_i32_10
  let v15 : BitVec 32 := Scalar.addi c0_i32_11 v14
  let c2_i32_54 : BitVec 32 := 2#32
  let v181 : BitVec 32 := Scalar.muli v15 c2_i32_54
  let c128_i32_55 : BitVec 32 := 128#32
  let v182 : BitVec 32 := Scalar.muli v181 c128_i32_55
  let v183 : BitVec 32 := v182
  let v184 : Index := Scalar.indexCast v183
  let c384_56 : Index := 384#32
  ![v184.toNat, 384]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x14336 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x7168 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S56x4x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== KernelIdeal.lean ====
variable {F : FTy → Type} [FloatOps F]
-- ==== ReferenceIdeal.lean ====
abbrev S6144x1x4096 : Shape := ⟨3, ![6144, 1, 4096]⟩
abbrev S14336x2048 : Shape := ⟨2, ![14336, 2048]⟩
abbrev S14336x64 : Shape := ⟨2, ![14336, 64]⟩
abbrev S3584 : Shape := ⟨1, ![3584]⟩
abbrev S_ : Shape := ⟨0, ![]⟩
abbrev S4096x7168 : Shape := ⟨2, ![4096, 7168]⟩
abbrev S4096x224 : Shape := ⟨2, ![4096, 224]⟩
abbrev S3584x256 : Shape := ⟨2, ![3584, 256]⟩
abbrev S3584x1 : Shape := ⟨2, ![3584, 1]⟩
abbrev S14336x64x32 : Shape := ⟨3, ![14336, 64, 32]⟩
abbrev S14336x64x1 : Shape := ⟨3, ![14336, 64, 1]⟩
abbrev S6144x1x2048 : Shape := ⟨3, ![6144, 1, 2048]⟩
abbrev S6144x1x14336 : Shape := ⟨3, ![6144, 1, 14336]⟩
abbrev S4096x224x32 : Shape := ⟨3, ![4096, 224, 32]⟩
abbrev S4096x224x1 : Shape := ⟨3, ![4096, 224, 1]⟩
abbrev S6144x1x7168 : Shape := ⟨3, ![6144, 1, 7168]⟩

abbrev nBuf : Space → Nat
  | .hbm => 622
  | .vmem => 0
  | .smem => 0
  | _ => 0

abbrev hbmTy0_0 (i : Nat) : BufTy := match i % 128 with
  | 0 => ⟨S6144x1x4096, .bf16⟩
  | 1 => ⟨S14336x2048, .i8⟩
  | 2 => ⟨S14336x64, .i8⟩
  | 3 => ⟨S3584, .f32⟩
  | 4 => ⟨S_, .f32⟩
  | 5 => ⟨S14336x2048, .i8⟩
  | 6 => ⟨S14336x64, .i8⟩
  | 7 => ⟨S3584, .f32⟩
  | 8 => ⟨S_, .f32⟩
  | 9 => ⟨S4096x7168, .i8⟩
  | 10 => ⟨S4096x224, .i8⟩
  | 11 => ⟨S3584, .f32⟩
  | 12 => ⟨S_, .f32⟩
  | 13 => ⟨S3584x256, .i8⟩
  | 14 => ⟨S3584x256, .i32⟩
  | 15 => ⟨S3584x256, .f32⟩
  | 16 => ⟨S3584x1, .f32⟩
  | 17 => ⟨S3584x256, .f32⟩
  | 18 => ⟨S3584x256, .f32⟩
  | 19 => ⟨S3584x256, .f32⟩
  | 20 => ⟨S3584x256, .f32⟩
  | 21 => ⟨S14336x64, .f32⟩
  | 22 => ⟨S14336x2048, .i32⟩
  | 23 => ⟨S_, .i32⟩
  | 24 => ⟨S14336x2048, .i32⟩
  | 25 => ⟨S14336x2048, .i32⟩
  | 26 => ⟨S_, .i32⟩
  | 27 => ⟨S14336x2048, .i32⟩
  | 28 => ⟨S14336x2048, .i32⟩
  | 29 => ⟨S_, .i32⟩
  | 30 => ⟨S14336x2048, .i32⟩
  | 31 => ⟨S14336x2048, .i32⟩
  | 32 => ⟨S_, .i32⟩
  | 33 => ⟨S14336x2048, .i32⟩
  | 34 => ⟨S14336x2048, .i1⟩
  | 35 => ⟨S_, .i32⟩
  | 36 => ⟨S14336x2048, .i32⟩
  | 37 => ⟨S14336x2048, .i32⟩
  | 38 => ⟨S_, .i32⟩
  | 39 => ⟨S14336x2048, .i32⟩
  | 40 => ⟨S14336x2048, .i32⟩
  | 41 => ⟨S_, .i32⟩
  | 42 => ⟨S14336x2048, .i32⟩
  | 43 => ⟨S14336x2048, .i1⟩
  | 44 => ⟨S_, .i32⟩
  | 45 => ⟨S14336x2048, .i32⟩
  | 46 => ⟨S14336x2048, .i32⟩
  | 47 => ⟨S_, .i32⟩
  | 48 => ⟨S14336x2048, .i32⟩
  | 49 => ⟨S14336x2048, .i32⟩
  | 50 => ⟨S_, .i32⟩
  | 51 => ⟨S14336x2048, .i32⟩
  | 52 => ⟨S14336x2048, .i1⟩
  | 53 => ⟨S_, .i32⟩
  | 54 => ⟨S14336x2048, .i32⟩
  | 55 => ⟨S14336x2048, .i32⟩
  | 56 => ⟨S_, .i32⟩
  | 57 => ⟨S14336x2048, .i32⟩
  | 58 => ⟨S14336x2048, .i32⟩
  | 59 => ⟨S_, .i32⟩
  | 60 => ⟨S14336x2048, .i32⟩
  | 61 => ⟨S14336x2048, .i1⟩
  | 62 => ⟨S_, .f32⟩
  | 63 => ⟨S_, .f32⟩
  | 64 => ⟨S14336x2048, .f32⟩
  | 65 => ⟨S14336x2048, .f32⟩
  | 66 => ⟨S14336x2048, .f32⟩
  | 67 => ⟨S_, .f32⟩
  | 68 => ⟨S_, .f32⟩
  | 69 => ⟨S14336x2048, .f32⟩
  | 70 => ⟨S14336x2048, .f32⟩
  | 71 => ⟨S14336x2048, .f32⟩
  | 72 => ⟨S_, .f32⟩
  | 73 => ⟨S_, .f32⟩
  | 74 => ⟨S14336x2048, .f32⟩
  | 75 => ⟨S14336x2048, .f32⟩
  | 76 => ⟨S14336x2048, .f32⟩
  | 77 => ⟨S_, .f32⟩
  | 78 => ⟨S_, .f32⟩
  | 79 => ⟨S14336x2048, .f32⟩
  | 80 => ⟨S14336x2048, .f32⟩
  | 81 => ⟨S14336x2048, .f32⟩
  | 82 => ⟨S_, .f32⟩
  | 83 => ⟨S_, .f32⟩
  | 84 => ⟨S14336x2048, .f32⟩
  | 85 => ⟨S14336x2048, .f32⟩
  | 86 => ⟨S14336x2048, .f32⟩
  | 87 => ⟨S_, .f32⟩
  | 88 => ⟨S_, .f32⟩
  | 89 => ⟨S14336x2048, .f32⟩
  | 90 => ⟨S14336x2048, .f32⟩
  | 91 => ⟨S14336x2048, .f32⟩
  | 92 => ⟨S_, .f32⟩
  | 93 => ⟨S_, .f32⟩
  | 94 => ⟨S14336x2048, .f32⟩
  | 95 => ⟨S14336x2048, .f32⟩
  | 96 => ⟨S14336x2048, .f32⟩
  | 97 => ⟨S_, .f32⟩
  | 98 => ⟨S_, .f32⟩
  | 99 => ⟨S14336x2048, .f32⟩
  | 100 => ⟨S14336x2048, .f32⟩
  | 101 => ⟨S14336x2048, .f32⟩
  | 102 => ⟨S14336x2048, .f32⟩
  | 103 => ⟨S14336x2048, .f32⟩
  | 104 => ⟨S14336x2048, .f32⟩
  | 105 => ⟨S14336x2048, .f32⟩
  | 106 => ⟨S14336x2048, .f32⟩
  | 107 => ⟨S14336x2048, .f32⟩
  | 108 => ⟨S14336x2048, .f32⟩
  | 109 => ⟨S14336x64x32, .f32⟩
  | 110 => ⟨S14336x64x1, .f32⟩
  | 111 => ⟨S14336x64x32, .f32⟩
  | 112 => ⟨S14336x64x32, .f32⟩
  | 113 => ⟨S14336x64x32, .bf16⟩
  | 114 => ⟨S14336x2048, .bf16⟩
  | 115 => ⟨S_, .i32⟩
  | 116 => ⟨S14336x2048, .i32⟩
  | 117 => ⟨S14336x2048, .i32⟩
  | 118 => ⟨S_, .i32⟩
  | 119 => ⟨S14336x2048, .i32⟩
  | 120 => ⟨S14336x2048, .i32⟩
  | 121 => ⟨S_, .i32⟩
  | 122 => ⟨S14336x2048, .i32⟩
  | 123 => ⟨S14336x2048, .i32⟩
  | 124 => ⟨S_, .i32⟩
  | 125 => ⟨S14336x2048, .i32⟩
  | 126 => ⟨S14336x2048, .i1⟩
  | 127 => ⟨S_, .i32⟩
  | _ => ⟨S6144x1x4096, .bf16⟩

abbrev hbmTy0_1 (i : Nat) : BufTy := match i % 128 with
  | 0 => ⟨S14336x2048, .i32⟩
  | 1 => ⟨S14336x2048, .i32⟩
  | 2 => ⟨S_, .i32⟩
  | 3 => ⟨S14336x2048, .i32⟩
  | 4 => ⟨S14336x2048, .i32⟩
  | 5 => ⟨S_, .i32⟩
  | 6 => ⟨S14336x2048, .i32⟩
  | 7 => ⟨S14336x2048, .i1⟩
  | 8 => ⟨S_, .i32⟩
  | 9 => ⟨S14336x2048, .i32⟩
  | 10 => ⟨S14336x2048, .i32⟩
  | 11 => ⟨S_, .i32⟩
  | 12 => ⟨S14336x2048, .i32⟩
  | 13 => ⟨S14336x2048, .i32⟩
  | 14 => ⟨S_, .i32⟩
  | 15 => ⟨S14336x2048, .i32⟩
  | 16 => ⟨S14336x2048, .i1⟩
  | 17 => ⟨S_, .i32⟩
  | 18 => ⟨S14336x2048, .i32⟩
  | 19 => ⟨S14336x2048, .i32⟩
  | 20 => ⟨S_, .i32⟩
  | 21 => ⟨S14336x2048, .i32⟩
  | 22 => ⟨S14336x2048, .i32⟩
  | 23 => ⟨S_, .i32⟩
  | 24 => ⟨S14336x2048, .i32⟩
  | 25 => ⟨S14336x2048, .i1⟩
  | 26 => ⟨S_, .f32⟩
  | 27 => ⟨S_, .f32⟩
  | 28 => ⟨S14336x2048, .f32⟩
  | 29 => ⟨S14336x2048, .f32⟩
  | 30 => ⟨S14336x2048, .f32⟩
  | 31 => ⟨S_, .f32⟩
  | 32 => ⟨S_, .f32⟩
  | 33 => ⟨S14336x2048, .f32⟩
  | 34 => ⟨S14336x2048, .f32⟩
  | 35 => ⟨S14336x2048, .f32⟩
  | 36 => ⟨S_, .f32⟩
  | 37 => ⟨S_, .f32⟩
  | 38 => ⟨S14336x2048, .f32⟩
  | 39 => ⟨S14336x2048, .f32⟩
  | 40 => ⟨S14336x2048, .f32⟩
  | 41 => ⟨S_, .f32⟩
  | 42 => ⟨S_, .f32⟩
  | 43 => ⟨S14336x2048, .f32⟩
  | 44 => ⟨S14336x2048, .f32⟩
  | 45 => ⟨S14336x2048, .f32⟩
  | 46 => ⟨S_, .f32⟩
  | 47 => ⟨S_, .f32⟩
  | 48 => ⟨S14336x2048, .f32⟩
  | 49 => ⟨S14336x2048, .f32⟩
  | 50 => ⟨S14336x2048, .f32⟩
  | 51 => ⟨S_, .f32⟩
  | 52 => ⟨S_, .f32⟩
  | 53 => ⟨S14336x2048, .f32⟩
  | 54 => ⟨S14336x2048, .f32⟩
  | 55 => ⟨S14336x2048, .f32⟩
  | 56 => ⟨S_, .f32⟩
  | 57 => ⟨S_, .f32⟩
  | 58 => ⟨S14336x2048, .f32⟩
  | 59 => ⟨S14336x2048, .f32⟩
  | 60 => ⟨S14336x2048, .f32⟩
  | 61 => ⟨S_, .f32⟩
  | 62 => ⟨S_, .f32⟩
  | 63 => ⟨S14336x2048, .f32⟩
  | 64 => ⟨S14336x2048, .f32⟩
  | 65 => ⟨S14336x2048, .f32⟩
  | 66 => ⟨S14336x2048, .f32⟩
  | 67 => ⟨S14336x2048, .f32⟩
  | 68 => ⟨S14336x2048, .f32⟩
  | 69 => ⟨S14336x2048, .f32⟩
  | 70 => ⟨S14336x2048, .f32⟩
  | 71 => ⟨S14336x2048, .f32⟩
  | 72 => ⟨S14336x2048, .f32⟩
  | 73 => ⟨S14336x64x32, .f32⟩
  | 74 => ⟨S14336x64x1, .f32⟩
  | 75 => ⟨S14336x64x32, .f32⟩
  | 76 => ⟨S14336x64x32, .f32⟩
  | 77 => ⟨S14336x64x32, .bf16⟩
  | 78 => ⟨S14336x2048, .bf16⟩
  | 79 => ⟨S6144x1x2048, .bf16⟩
  | 80 => ⟨S6144x1x14336, .f32⟩
  | 81 => ⟨S6144x1x2048, .bf16⟩
  | 82 => ⟨S6144x1x14336, .f32⟩
  | 83 => ⟨S6144x1x14336, .f32⟩
  | 84 => ⟨S3584x256, .i8⟩
  | 85 => ⟨S3584x256, .i32⟩
  | 86 => ⟨S3584x256, .f32⟩
  | 87 => ⟨S3584x1, .f32⟩
  | 88 => ⟨S3584x256, .f32⟩
  | 89 => ⟨S3584x256, .f32⟩
  | 90 => ⟨S3584x256, .f32⟩
  | 91 => ⟨S3584x256, .f32⟩
  | 92 => ⟨S14336x64, .f32⟩
  | 93 => ⟨S14336x2048, .i32⟩
  | 94 => ⟨S_, .i32⟩
  | 95 => ⟨S14336x2048, .i32⟩
  | 96 => ⟨S14336x2048, .i32⟩
  | 97 => ⟨S_, .i32⟩
  | 98 => ⟨S14336x2048, .i32⟩
  | 99 => ⟨S14336x2048, .i32⟩
  | 100 => ⟨S_, .i32⟩
  | 101 => ⟨S14336x2048, .i32⟩
  | 102 => ⟨S14336x2048, .i32⟩
  | 103 => ⟨S_, .i32⟩
  | 104 => ⟨S14336x2048, .i32⟩
  | 105 => ⟨S14336x2048, .i1⟩
  | 106 => ⟨S_, .i32⟩
  | 107 => ⟨S14336x2048, .i32⟩
  | 108 => ⟨S14336x2048, .i32⟩
  | 109 => ⟨S_, .i32⟩
  | 110 => ⟨S14336x2048, .i32⟩
  | 111 => ⟨S14336x2048, .i32⟩
  | 112 => ⟨S_, .i32⟩
  | 113 => ⟨S14336x2048, .i32⟩
  | 114 => ⟨S14336x2048, .i1⟩
  | 115 => ⟨S_, .i32⟩
  | 116 => ⟨S14336x2048, .i32⟩
  | 117 => ⟨S14336x2048, .i32⟩
  | 118 => ⟨S_, .i32⟩
  | 119 => ⟨S14336x2048, .i32⟩
  | 120 => ⟨S14336x2048, .i32⟩
  | 121 => ⟨S_, .i32⟩
  | 122 => ⟨S14336x2048, .i32⟩
  | 123 => ⟨S14336x2048, .i1⟩
  | 124 => ⟨S_, .i32⟩
  | 125 => ⟨S14336x2048, .i32⟩
  | 126 => ⟨S14336x2048, .i32⟩
  | 127 => ⟨S_, .i32⟩
  | _ => ⟨S6144x1x4096, .bf16⟩

abbrev hbmTy0_2 (i : Nat) : BufTy := match i % 128 with
  | 0 => ⟨S14336x2048, .i32⟩
  | 1 => ⟨S14336x2048, .i32⟩
  | 2 => ⟨S_, .i32⟩
  | 3 => ⟨S14336x2048, .i32⟩
  | 4 => ⟨S14336x2048, .i1⟩
  | 5 => ⟨S_, .f32⟩
  | 6 => ⟨S_, .f32⟩
  | 7 => ⟨S14336x2048, .f32⟩
  | 8 => ⟨S14336x2048, .f32⟩
  | 9 => ⟨S14336x2048, .f32⟩
  | 10 => ⟨S_, .f32⟩
  | 11 => ⟨S_, .f32⟩
  | 12 => ⟨S14336x2048, .f32⟩
  | 13 => ⟨S14336x2048, .f32⟩
  | 14 => ⟨S14336x2048, .f32⟩
  | 15 => ⟨S_, .f32⟩
  | 16 => ⟨S_, .f32⟩
  | 17 => ⟨S14336x2048, .f32⟩
  | 18 => ⟨S14336x2048, .f32⟩
  | 19 => ⟨S14336x2048, .f32⟩
  | 20 => ⟨S_, .f32⟩
  | 21 => ⟨S_, .f32⟩
  | 22 => ⟨S14336x2048, .f32⟩
  | 23 => ⟨S14336x2048, .f32⟩
  | 24 => ⟨S14336x2048, .f32⟩
  | 25 => ⟨S_, .f32⟩
  | 26 => ⟨S_, .f32⟩
  | 27 => ⟨S14336x2048, .f32⟩
  | 28 => ⟨S14336x2048, .f32⟩
  | 29 => ⟨S14336x2048, .f32⟩
  | 30 => ⟨S_, .f32⟩
  | 31 => ⟨S_, .f32⟩
  | 32 => ⟨S14336x2048, .f32⟩
  | 33 => ⟨S14336x2048, .f32⟩
  | 34 => ⟨S14336x2048, .f32⟩
  | 35 => ⟨S_, .f32⟩
  | 36 => ⟨S_, .f32⟩
  | 37 => ⟨S14336x2048, .f32⟩
  | 38 => ⟨S14336x2048, .f32⟩
  | 39 => ⟨S14336x2048, .f32⟩
  | 40 => ⟨S_, .f32⟩
  | 41 => ⟨S_, .f32⟩
  | 42 => ⟨S14336x2048, .f32⟩
  | 43 => ⟨S14336x2048, .f32⟩
  | 44 => ⟨S14336x2048, .f32⟩
  | 45 => ⟨S14336x2048, .f32⟩
  | 46 => ⟨S14336x2048, .f32⟩
  | 47 => ⟨S14336x2048, .f32⟩
  | 48 => ⟨S14336x2048, .f32⟩
  | 49 => ⟨S14336x2048, .f32⟩
  | 50 => ⟨S14336x2048, .f32⟩
  | 51 => ⟨S14336x2048, .f32⟩
  | 52 => ⟨S14336x64x32, .f32⟩
  | 53 => ⟨S14336x64x1, .f32⟩
  | 54 => ⟨S14336x64x32, .f32⟩
  | 55 => ⟨S14336x64x32, .f32⟩
  | 56 => ⟨S14336x64x32, .bf16⟩
  | 57 => ⟨S14336x2048, .bf16⟩
  | 58 => ⟨S_, .i32⟩
  | 59 => ⟨S14336x2048, .i32⟩
  | 60 => ⟨S14336x2048, .i32⟩
  | 61 => ⟨S_, .i32⟩
  | 62 => ⟨S14336x2048, .i32⟩
  | 63 => ⟨S14336x2048, .i32⟩
  | 64 => ⟨S_, .i32⟩
  | 65 => ⟨S14336x2048, .i32⟩
  | 66 => ⟨S14336x2048, .i32⟩
  | 67 => ⟨S_, .i32⟩
  | 68 => ⟨S14336x2048, .i32⟩
  | 69 => ⟨S14336x2048, .i1⟩
  | 70 => ⟨S_, .i32⟩
  | 71 => ⟨S14336x2048, .i32⟩
  | 72 => ⟨S14336x2048, .i32⟩
  | 73 => ⟨S_, .i32⟩
  | 74 => ⟨S14336x2048, .i32⟩
  | 75 => ⟨S14336x2048, .i32⟩
  | 76 => ⟨S_, .i32⟩
  | 77 => ⟨S14336x2048, .i32⟩
  | 78 => ⟨S14336x2048, .i1⟩
  | 79 => ⟨S_, .i32⟩
  | 80 => ⟨S14336x2048, .i32⟩
  | 81 => ⟨S14336x2048, .i32⟩
  | 82 => ⟨S_, .i32⟩
  | 83 => ⟨S14336x2048, .i32⟩
  | 84 => ⟨S14336x2048, .i32⟩
  | 85 => ⟨S_, .i32⟩
  | 86 => ⟨S14336x2048, .i32⟩
  | 87 => ⟨S14336x2048, .i1⟩
  | 88 => ⟨S_, .i32⟩
  | 89 => ⟨S14336x2048, .i32⟩
  | 90 => ⟨S14336x2048, .i32⟩
  | 91 => ⟨S_, .i32⟩
  | 92 => ⟨S14336x2048, .i32⟩
  | 93 => ⟨S14336x2048, .i32⟩
  | 94 => ⟨S_, .i32⟩
  | 95 => ⟨S14336x2048, .i32⟩
  | 96 => ⟨S14336x2048, .i1⟩
  | 97 => ⟨S_, .f32⟩
  | 98 => ⟨S_, .f32⟩
  | 99 => ⟨S14336x2048, .f32⟩
  | 100 => ⟨S14336x2048, .f32⟩
  | 101 => ⟨S14336x2048, .f32⟩
  | 102 => ⟨S_, .f32⟩
  | 103 => ⟨S_, .f32⟩
  | 104 => ⟨S14336x2048, .f32⟩
  | 105 => ⟨S14336x2048, .f32⟩
  | 106 => ⟨S14336x2048, .f32⟩
  | 107 => ⟨S_, .f32⟩
  | 108 => ⟨S_, .f32⟩
  | 109 => ⟨S14336x2048, .f32⟩
  | 110 => ⟨S14336x2048, .f32⟩
  | 111 => ⟨S14336x2048, .f32⟩
  | 112 => ⟨S_, .f32⟩
  | 113 => ⟨S_, .f32⟩
  | 114 => ⟨S14336x2048, .f32⟩
  | 115 => ⟨S14336x2048, .f32⟩
  | 116 => ⟨S14336x2048, .f32⟩
  | 117 => ⟨S_, .f32⟩
  | 118 => ⟨S_, .f32⟩
  | 119 => ⟨S14336x2048, .f32⟩
  | 120 => ⟨S14336x2048, .f32⟩
  | 121 => ⟨S14336x2048, .f32⟩
  | 122 => ⟨S_, .f32⟩
  | 123 => ⟨S_, .f32⟩
  | 124 => ⟨S14336x2048, .f32⟩
  | 125 => ⟨S14336x2048, .f32⟩
  | 126 => ⟨S14336x2048, .f32⟩
  | 127 => ⟨S_, .f32⟩
  | _ => ⟨S6144x1x4096, .bf16⟩

abbrev hbmTy0_3 (i : Nat) : BufTy := match i % 128 with
  | 0 => ⟨S_, .f32⟩
  | 1 => ⟨S14336x2048, .f32⟩
  | 2 => ⟨S14336x2048, .f32⟩
  | 3 => ⟨S14336x2048, .f32⟩
  | 4 => ⟨S_, .f32⟩
  | 5 => ⟨S_, .f32⟩
  | 6 => ⟨S14336x2048, .f32⟩
  | 7 => ⟨S14336x2048, .f32⟩
  | 8 => ⟨S14336x2048, .f32⟩
  | 9 => ⟨S14336x2048, .f32⟩
  | 10 => ⟨S14336x2048, .f32⟩
  | 11 => ⟨S14336x2048, .f32⟩
  | 12 => ⟨S14336x2048, .f32⟩
  | 13 => ⟨S14336x2048, .f32⟩
  | 14 => ⟨S14336x2048, .f32⟩
  | 15 => ⟨S14336x2048, .f32⟩
  | 16 => ⟨S14336x64x32, .f32⟩
  | 17 => ⟨S14336x64x1, .f32⟩
  | 18 => ⟨S14336x64x32, .f32⟩
  | 19 => ⟨S14336x64x32, .f32⟩
  | 20 => ⟨S14336x64x32, .bf16⟩
  | 21 => ⟨S14336x2048, .bf16⟩
  | 22 => ⟨S6144x1x2048, .bf16⟩
  | 23 => ⟨S6144x1x14336, .f32⟩
  | 24 => ⟨S6144x1x2048, .bf16⟩
  | 25 => ⟨S6144x1x14336, .f32⟩
  | 26 => ⟨S6144x1x14336, .f32⟩
  | 27 => ⟨S6144x1x14336, .f32⟩
  | 28 => ⟨S6144x1x14336, .f32⟩
  | 29 => ⟨S_, .f32⟩
  | 30 => ⟨S6144x1x14336, .f32⟩
  | 31 => ⟨S6144x1x14336, .f32⟩
  | 32 => ⟨S_, .f32⟩
  | 33 => ⟨S6144x1x14336, .f32⟩
  | 34 => ⟨S6144x1x14336, .f32⟩
  | 35 => ⟨S6144x1x14336, .f32⟩
  | 36 => ⟨S6144x1x14336, .f32⟩
  | 37 => ⟨S6144x1x14336, .bf16⟩
  | 38 => ⟨S3584x256, .i8⟩
  | 39 => ⟨S3584x256, .i32⟩
  | 40 => ⟨S3584x256, .f32⟩
  | 41 => ⟨S3584x1, .f32⟩
  | 42 => ⟨S3584x256, .f32⟩
  | 43 => ⟨S3584x256, .f32⟩
  | 44 => ⟨S3584x256, .f32⟩
  | 45 => ⟨S3584x256, .f32⟩
  | 46 => ⟨S4096x224, .f32⟩
  | 47 => ⟨S4096x7168, .i32⟩
  | 48 => ⟨S_, .i32⟩
  | 49 => ⟨S4096x7168, .i32⟩
  | 50 => ⟨S4096x7168, .i32⟩
  | 51 => ⟨S_, .i32⟩
  | 52 => ⟨S4096x7168, .i32⟩
  | 53 => ⟨S4096x7168, .i32⟩
  | 54 => ⟨S_, .i32⟩
  | 55 => ⟨S4096x7168, .i32⟩
  | 56 => ⟨S4096x7168, .i32⟩
  | 57 => ⟨S_, .i32⟩
  | 58 => ⟨S4096x7168, .i32⟩
  | 59 => ⟨S4096x7168, .i1⟩
  | 60 => ⟨S_, .i32⟩
  | 61 => ⟨S4096x7168, .i32⟩
  | 62 => ⟨S4096x7168, .i32⟩
  | 63 => ⟨S_, .i32⟩
  | 64 => ⟨S4096x7168, .i32⟩
  | 65 => ⟨S4096x7168, .i32⟩
  | 66 => ⟨S_, .i32⟩
  | 67 => ⟨S4096x7168, .i32⟩
  | 68 => ⟨S4096x7168, .i1⟩
  | 69 => ⟨S_, .i32⟩
  | 70 => ⟨S4096x7168, .i32⟩
  | 71 => ⟨S4096x7168, .i32⟩
  | 72 => ⟨S_, .i32⟩
  | 73 => ⟨S4096x7168, .i32⟩
  | 74 => ⟨S4096x7168, .i32⟩
  | 75 => ⟨S_, .i32⟩
  | 76 => ⟨S4096x7168, .i32⟩
  | 77 => ⟨S4096x7168, .i1⟩
  | 78 => ⟨S_, .i32⟩
  | 79 => ⟨S4096x7168, .i32⟩
  | 80 => ⟨S4096x7168, .i32⟩
  | 81 => ⟨S_, .i32⟩
  | 82 => ⟨S4096x7168, .i32⟩
  | 83 => ⟨S4096x7168, .i32⟩
  | 84 => ⟨S_, .i32⟩
  | 85 => ⟨S4096x7168, .i32⟩
  | 86 => ⟨S4096x7168, .i1⟩
  | 87 => ⟨S_, .f32⟩
  | 88 => ⟨S_, .f32⟩
  | 89 => ⟨S4096x7168, .f32⟩
  | 90 => ⟨S4096x7168, .f32⟩
  | 91 => ⟨S4096x7168, .f32⟩
  | 92 => ⟨S_, .f32⟩
  | 93 => ⟨S_, .f32⟩
  | 94 => ⟨S4096x7168, .f32⟩
  | 95 => ⟨S4096x7168, .f32⟩
  | 96 => ⟨S4096x7168, .f32⟩
  | 97 => ⟨S_, .f32⟩
  | 98 => ⟨S_, .f32⟩
  | 99 => ⟨S4096x7168, .f32⟩
  | 100 => ⟨S4096x7168, .f32⟩
  | 101 => ⟨S4096x7168, .f32⟩
  | 102 => ⟨S_, .f32⟩
  | 103 => ⟨S_, .f32⟩
  | 104 => ⟨S4096x7168, .f32⟩
  | 105 => ⟨S4096x7168, .f32⟩
  | 106 => ⟨S4096x7168, .f32⟩
  | 107 => ⟨S_, .f32⟩
  | 108 => ⟨S_, .f32⟩
  | 109 => ⟨S4096x7168, .f32⟩
  | 110 => ⟨S4096x7168, .f32⟩
  | 111 => ⟨S4096x7168, .f32⟩
  | 112 => ⟨S_, .f32⟩
  | 113 => ⟨S_, .f32⟩
  | 114 => ⟨S4096x7168, .f32⟩
  | 115 => ⟨S4096x7168, .f32⟩
  | 116 => ⟨S4096x7168, .f32⟩
  | 117 => ⟨S_, .f32⟩
  | 118 => ⟨S_, .f32⟩
  | 119 => ⟨S4096x7168, .f32⟩
  | 120 => ⟨S4096x7168, .f32⟩
  | 121 => ⟨S4096x7168, .f32⟩
  | 122 => ⟨S_, .f32⟩
  | 123 => ⟨S_, .f32⟩
  | 124 => ⟨S4096x7168, .f32⟩
  | 125 => ⟨S4096x7168, .f32⟩
  | 126 => ⟨S4096x7168, .f32⟩
  | 127 => ⟨S4096x7168, .f32⟩
  | _ => ⟨S6144x1x4096, .bf16⟩

abbrev hbmTy0_4 (i : Nat) : BufTy := match i % 128 with
  | 0 => ⟨S4096x7168, .f32⟩
  | 1 => ⟨S4096x7168, .f32⟩
  | 2 => ⟨S4096x7168, .f32⟩
  | 3 => ⟨S4096x7168, .f32⟩
  | 4 => ⟨S4096x7168, .f32⟩
  | 5 => ⟨S4096x7168, .f32⟩
  | 6 => ⟨S4096x224x32, .f32⟩
  | 7 => ⟨S4096x224x1, .f32⟩
  | 8 => ⟨S4096x224x32, .f32⟩
  | 9 => ⟨S4096x224x32, .f32⟩
  | 10 => ⟨S4096x224x32, .bf16⟩
  | 11 => ⟨S4096x7168, .bf16⟩
  | 12 => ⟨S_, .i32⟩
  | 13 => ⟨S4096x7168, .i32⟩
  | 14 => ⟨S4096x7168, .i32⟩
  | 15 => ⟨S_, .i32⟩
  | 16 => ⟨S4096x7168, .i32⟩
  | 17 => ⟨S4096x7168, .i32⟩
  | 18 => ⟨S_, .i32⟩
  | 19 => ⟨S4096x7168, .i32⟩
  | 20 => ⟨S4096x7168, .i32⟩
  | 21 => ⟨S_, .i32⟩
  | 22 => ⟨S4096x7168, .i32⟩
  | 23 => ⟨S4096x7168, .i1⟩
  | 24 => ⟨S_, .i32⟩
  | 25 => ⟨S4096x7168, .i32⟩
  | 26 => ⟨S4096x7168, .i32⟩
  | 27 => ⟨S_, .i32⟩
  | 28 => ⟨S4096x7168, .i32⟩
  | 29 => ⟨S4096x7168, .i32⟩
  | 30 => ⟨S_, .i32⟩
  | 31 => ⟨S4096x7168, .i32⟩
  | 32 => ⟨S4096x7168, .i1⟩
  | 33 => ⟨S_, .i32⟩
  | 34 => ⟨S4096x7168, .i32⟩
  | 35 => ⟨S4096x7168, .i32⟩
  | 36 => ⟨S_, .i32⟩
  | 37 => ⟨S4096x7168, .i32⟩
  | 38 => ⟨S4096x7168, .i32⟩
  | 39 => ⟨S_, .i32⟩
  | 40 => ⟨S4096x7168, .i32⟩
  | 41 => ⟨S4096x7168, .i1⟩
  | 42 => ⟨S_, .i32⟩
  | 43 => ⟨S4096x7168, .i32⟩
  | 44 => ⟨S4096x7168, .i32⟩
  | 45 => ⟨S_, .i32⟩
  | 46 => ⟨S4096x7168, .i32⟩
  | 47 => ⟨S4096x7168, .i32⟩
  | 48 => ⟨S_, .i32⟩
  | 49 => ⟨S4096x7168, .i32⟩
  | 50 => ⟨S4096x7168, .i1⟩
  | 51 => ⟨S_, .f32⟩
  | 52 => ⟨S_, .f32⟩
  | 53 => ⟨S4096x7168, .f32⟩
  | 54 => ⟨S4096x7168, .f32⟩
  | 55 => ⟨S4096x7168, .f32⟩
  | 56 => ⟨S_, .f32⟩
  | 57 => ⟨S_, .f32⟩
  | 58 => ⟨S4096x7168, .f32⟩
  | 59 => ⟨S4096x7168, .f32⟩
  | 60 => ⟨S4096x7168, .f32⟩
  | 61 => ⟨S_, .f32⟩
  | 62 => ⟨S_, .f32⟩
  | 63 => ⟨S4096x7168, .f32⟩
  | 64 => ⟨S4096x7168, .f32⟩
  | 65 => ⟨S4096x7168, .f32⟩
  | 66 => ⟨S_, .f32⟩
  | 67 => ⟨S_, .f32⟩
  | 68 => ⟨S4096x7168, .f32⟩
  | 69 => ⟨S4096x7168, .f32⟩
  | 70 => ⟨S4096x7168, .f32⟩
  | 71 => ⟨S_, .f32⟩
  | 72 => ⟨S_, .f32⟩
  | 73 => ⟨S4096x7168, .f32⟩
  | 74 => ⟨S4096x7168, .f32⟩
  | 75 => ⟨S4096x7168, .f32⟩
  | 76 => ⟨S_, .f32⟩
  | 77 => ⟨S_, .f32⟩
  | 78 => ⟨S4096x7168, .f32⟩
  | 79 => ⟨S4096x7168, .f32⟩
  | 80 => ⟨S4096x7168, .f32⟩
  | 81 => ⟨S_, .f32⟩
  | 82 => ⟨S_, .f32⟩
  | 83 => ⟨S4096x7168, .f32⟩
  | 84 => ⟨S4096x7168, .f32⟩
  | 85 => ⟨S4096x7168, .f32⟩
  | 86 => ⟨S_, .f32⟩
  | 87 => ⟨S_, .f32⟩
  | 88 => ⟨S4096x7168, .f32⟩
  | 89 => ⟨S4096x7168, .f32⟩
  | 90 => ⟨S4096x7168, .f32⟩
  | 91 => ⟨S4096x7168, .f32⟩
  | 92 => ⟨S4096x7168, .f32⟩
  | 93 => ⟨S4096x7168, .f32⟩
  | 94 => ⟨S4096x7168, .f32⟩
  | 95 => ⟨S4096x7168, .f32⟩
  | 96 => ⟨S4096x7168, .f32⟩
  | 97 => ⟨S4096x7168, .f32⟩
  | 98 => ⟨S4096x224x32, .f32⟩
  | 99 => ⟨S4096x224x1, .f32⟩
  | 100 => ⟨S4096x224x32, .f32⟩
  | 101 => ⟨S4096x224x32, .f32⟩
  | 102 => ⟨S4096x224x32, .bf16⟩
  | 103 => ⟨S4096x7168, .bf16⟩
  | 104 => ⟨S6144x1x7168, .bf16⟩
  | 105 => ⟨S6144x1x4096, .f32⟩
  | 106 => ⟨S6144x1x7168, .bf16⟩
  | 107 => ⟨S6144x1x4096, .f32⟩
  | 108 => ⟨S6144x1x4096, .f32⟩
  | 109 => ⟨S6144x1x4096, .bf16⟩
  | _ => ⟨S6144x1x4096, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S6144x1x4096, .bf16⟩

abbrev bufTy : (tb : Table) → Fin (tcTables nBuf tb) → BufTy
  | .hbm, ⟨i, _⟩ => hbmTy i
  | _, _ => ⟨S6144x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_c_7 : Ref sig .tc := ⟨.hbm, 47, rfl⟩
abbrev main_v26 : Ref sig .tc := ⟨.hbm, 48, rfl⟩
abbrev main_v27 : Ref sig .tc := ⟨.hbm, 49, rfl⟩
abbrev main_c_8 : Ref sig .tc := ⟨.hbm, 50, rfl⟩
abbrev main_v28 : Ref sig .tc := ⟨.hbm, 51, rfl⟩
abbrev main_v29 : Ref sig .tc := ⟨.hbm, 52, rfl⟩
abbrev main_c_9 : Ref sig .tc := ⟨.hbm, 53, rfl⟩
abbrev main_v30 : Ref sig .tc := ⟨.hbm, 54, rfl⟩
abbrev main_v31 : Ref sig .tc := ⟨.hbm, 55, rfl⟩
abbrev main_c_10 : Ref sig .tc := ⟨.hbm, 56, rfl⟩
abbrev main_v32 : Ref sig .tc := ⟨.hbm, 57, rfl⟩
abbrev main_v33 : Ref sig .tc := ⟨.hbm, 58, rfl⟩
abbrev main_c_11 : Ref sig .tc := ⟨.hbm, 59, rfl⟩
abbrev main_v34 : Ref sig .tc := ⟨.hbm, 60, rfl⟩
abbrev main_v35 : Ref sig .tc := ⟨.hbm, 61, rfl⟩
abbrev main_cst : Ref sig .tc := ⟨.hbm, 62, rfl⟩
abbrev main_cst_12 : Ref sig .tc := ⟨.hbm, 63, rfl⟩
abbrev main_call0_v0 : Ref sig .tc := ⟨.hbm, 64, rfl⟩
abbrev main_call0_v1 : Ref sig .tc := ⟨.hbm, 65, rfl⟩
abbrev main_v36 : Ref sig .tc := ⟨.hbm, 66, rfl⟩
abbrev main_cst_13 : Ref sig .tc := ⟨.hbm, 67, rfl⟩
abbrev main_cst_14 : Ref sig .tc := ⟨.hbm, 68, rfl⟩
abbrev main_call1_v0 : Ref sig .tc := ⟨.hbm, 69, rfl⟩
abbrev main_call1_v1 : Ref sig .tc := ⟨.hbm, 70, rfl⟩
abbrev main_v37 : Ref sig .tc := ⟨.hbm, 71, rfl⟩
abbrev main_cst_15 : Ref sig .tc := ⟨.hbm, 72, rfl⟩
abbrev main_cst_16 : Ref sig .tc := ⟨.hbm, 73, rfl⟩
abbrev main_call2_v0 : Ref sig .tc := ⟨.hbm, 74, rfl⟩
abbrev main_call2_v1 : Ref sig .tc := ⟨.hbm, 75, rfl⟩
abbrev main_v38 : Ref sig .tc := ⟨.hbm, 76, rfl⟩
abbrev main_cst_17 : Ref sig .tc := ⟨.hbm, 77, rfl⟩
abbrev main_cst_18 : Ref sig .tc := ⟨.hbm, 78, rfl⟩
abbrev main_call3_v0 : Ref sig .tc := ⟨.hbm, 79, rfl⟩
abbrev main_call3_v1 : Ref sig .tc := ⟨.hbm, 80, rfl⟩
abbrev main_v39 : Ref sig .tc := ⟨.hbm, 81, rfl⟩
abbrev main_cst_19 : Ref sig .tc := ⟨.hbm, 82, rfl⟩
abbrev main_cst_20 : Ref sig .tc := ⟨.hbm, 83, rfl⟩
abbrev main_call4_v0 : Ref sig .tc := ⟨.hbm, 84, rfl⟩
abbrev main_call4_v1 : Ref sig .tc := ⟨.hbm, 85, rfl⟩
abbrev main_v40 : Ref sig .tc := ⟨.hbm, 86, rfl⟩
abbrev main_cst_21 : Ref sig .tc := ⟨.hbm, 87, rfl⟩
abbrev main_cst_22 : Ref sig .tc := ⟨.hbm, 88, rfl⟩
abbrev main_call5_v0 : Ref sig .tc := ⟨.hbm, 89, rfl⟩
abbrev main_call5_v1 : Ref sig .tc := ⟨.hbm, 90, rfl⟩
abbrev main_v41 : Ref sig .tc := ⟨.hbm, 91, rfl⟩
abbrev main_cst_23 : Ref sig .tc := ⟨.hbm, 92, rfl⟩
abbrev main_cst_24 : Ref sig .tc := ⟨.hbm, 93, rfl⟩
abbrev main_call6_v0 : Ref sig .tc := ⟨.hbm, 94, rfl⟩
abbrev main_call6_v1 : Ref sig .tc := ⟨.hbm, 95, rfl⟩
abbrev main_v42 : Ref sig .tc := ⟨.hbm, 96, rfl⟩
abbrev main_cst_25 : Ref sig .tc := ⟨.hbm, 97, rfl⟩
abbrev main_cst_26 : Ref sig .tc := ⟨.hbm, 98, rfl⟩
abbrev main_call7_v0 : Ref sig .tc := ⟨.hbm, 99, rfl⟩
abbrev main_call7_v1 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_c_27 : Ref sig .tc := ⟨.hbm, 115, rfl⟩
abbrev main_v57 : Ref sig .tc := ⟨.hbm, 116, rfl⟩
abbrev main_v58 : Ref sig .tc := ⟨.hbm, 117, rfl⟩
abbrev main_c_28 : Ref sig .tc := ⟨.hbm, 118, rfl⟩
abbrev main_v59 : Ref sig .tc := ⟨.hbm, 119, rfl⟩
abbrev main_v60 : Ref sig .tc := ⟨.hbm, 120, rfl⟩
abbrev main_c_29 : Ref sig .tc := ⟨.hbm, 121, rfl⟩
abbrev main_v61 : Ref sig .tc := ⟨.hbm, 122, rfl⟩
abbrev main_v62 : Ref sig .tc := ⟨.hbm, 123, rfl⟩
abbrev main_c_30 : Ref sig .tc := ⟨.hbm, 124, rfl⟩
abbrev main_v63 : Ref sig .tc := ⟨.hbm, 125, rfl⟩
abbrev main_v64 : Ref sig .tc := ⟨.hbm, 126, rfl⟩
abbrev main_c_31 : Ref sig .tc := ⟨.hbm, 127, rfl⟩
abbrev main_v65 : Ref sig .tc := ⟨.hbm, 128, rfl⟩
abbrev main_v66 : Ref sig .tc := ⟨.hbm, 129, rfl⟩
abbrev main_c_32 : Ref sig .tc := ⟨.hbm, 130, rfl⟩
abbrev main_v67 : Ref sig .tc := ⟨.hbm, 131, rfl⟩
abbrev main_v68 : Ref sig .tc := ⟨.hbm, 132, rfl⟩
abbrev main_c_33 : Ref sig .tc := ⟨.hbm, 133, rfl⟩
abbrev main_v69 : Ref sig .tc := ⟨.hbm, 134, rfl⟩
abbrev main_v70 : Ref sig .tc := ⟨.hbm, 135, rfl⟩
abbrev main_c_34 : Ref sig .tc := ⟨.hbm, 136, rfl⟩
abbrev main_v71 : Ref sig .tc := ⟨.hbm, 137, rfl⟩
abbrev main_v72 : Ref sig .tc := ⟨.hbm, 138, rfl⟩
abbrev main_c_35 : Ref sig .tc := ⟨.hbm, 139, rfl⟩
abbrev main_v73 : Ref sig .tc := ⟨.hbm, 140, rfl⟩
abbrev main_v74 : Ref sig .tc := ⟨.hbm, 141, rfl⟩
abbrev main_c_36 : Ref sig .tc := ⟨.hbm, 142, rfl⟩
abbrev main_v75 : Ref sig .tc := ⟨.hbm, 143, rfl⟩
abbrev main_v76 : Ref sig .tc := ⟨.hbm, 144, rfl⟩
abbrev main_c_37 : Ref sig .tc := ⟨.hbm, 145, rfl⟩
abbrev main_v77 : Ref sig .tc := ⟨.hbm, 146, rfl⟩
abbrev main_v78 : Ref sig .tc := ⟨.hbm, 147, rfl⟩
abbrev main_c_38 : Ref sig .tc := ⟨.hbm, 148, rfl⟩
abbrev main_v79 : Ref sig .tc := ⟨.hbm, 149, rfl⟩
abbrev main_v80 : Ref sig .tc := ⟨.hbm, 150, rfl⟩
abbrev main_c_39 : Ref sig .tc := ⟨.hbm, 151, rfl⟩
abbrev main_v81 : Ref sig .tc := ⟨.hbm, 152, rfl⟩
abbrev main_v82 : Ref sig .tc := ⟨.hbm, 153, rfl⟩
abbrev main_cst_40 : Ref sig .tc := ⟨.hbm, 154, rfl⟩
abbrev main_cst_41 : Ref sig .tc := ⟨.hbm, 155, rfl⟩
abbrev main_call15_v0 : Ref sig .tc := ⟨.hbm, 156, rfl⟩
abbrev main_call15_v1 : Ref sig .tc := ⟨.hbm, 157, rfl⟩
abbrev main_v83 : Ref sig .tc := ⟨.hbm, 158, rfl⟩
abbrev main_cst_42 : Ref sig .tc := ⟨.hbm, 159, rfl⟩
abbrev main_cst_43 : Ref sig .tc := ⟨.hbm, 160, rfl⟩
abbrev main_call16_v0 : Ref sig .tc := ⟨.hbm, 161, rfl⟩
abbrev main_call16_v1 : Ref sig .tc := ⟨.hbm, 162, rfl⟩
abbrev main_v84 : Ref sig .tc := ⟨.hbm, 163, rfl⟩
abbrev main_cst_44 : Ref sig .tc := ⟨.hbm, 164, rfl⟩
abbrev main_cst_45 : Ref sig .tc := ⟨.hbm, 165, rfl⟩
abbrev main_call17_v0 : Ref sig .tc := ⟨.hbm, 166, rfl⟩
abbrev main_call17_v1 : Ref sig .tc := ⟨.hbm, 167, rfl⟩
abbrev main_v85 : Ref sig .tc := ⟨.hbm, 168, rfl⟩
abbrev main_cst_46 : Ref sig .tc := ⟨.hbm, 169, rfl⟩
abbrev main_cst_47 : Ref sig .tc := ⟨.hbm, 170, rfl⟩
abbrev main_call18_v0 : Ref sig .tc := ⟨.hbm, 171, rfl⟩
abbrev main_call18_v1 : Ref sig .tc := ⟨.hbm, 172, rfl⟩
abbrev main_v86 : Ref sig .tc := ⟨.hbm, 173, rfl⟩
abbrev main_cst_48 : Ref sig .tc := ⟨.hbm, 174, rfl⟩
abbrev main_cst_49 : Ref sig .tc := ⟨.hbm, 175, rfl⟩
abbrev main_call19_v0 : Ref sig .tc := ⟨.hbm, 176, rfl⟩
abbrev main_call19_v1 : Ref sig .tc := ⟨.hbm, 177, rfl⟩
abbrev main_v87 : Ref sig .tc := ⟨.hbm, 178, rfl⟩
abbrev main_cst_50 : Ref sig .tc := ⟨.hbm, 179, rfl⟩
abbrev main_cst_51 : Ref sig .tc := ⟨.hbm, 180, rfl⟩
abbrev main_call20_v0 : Ref sig .tc := ⟨.hbm, 181, rfl⟩
abbrev main_call20_v1 : Ref sig .tc := ⟨.hbm, 182, rfl⟩
abbrev main_v88 : Ref sig .tc := ⟨.hbm, 183, rfl⟩
abbrev main_cst_52 : Ref sig .tc := ⟨.hbm, 184, rfl⟩
abbrev main_cst_53 : Ref sig .tc := ⟨.hbm, 185, rfl⟩
abbrev main_call21_v0 : Ref sig .tc := ⟨.hbm, 186, rfl⟩
abbrev main_call21_v1 : Ref sig .tc := ⟨.hbm, 187, rfl⟩
abbrev main_v89 : Ref sig .tc := ⟨.hbm, 188, rfl⟩
abbrev main_cst_54 : Ref sig .tc := ⟨.hbm, 189, rfl⟩
abbrev main_cst_55 : Ref sig .tc := ⟨.hbm, 190, rfl⟩
abbrev main_call22_v0 : Ref sig .tc := ⟨.hbm, 191, rfl⟩
abbrev main_call22_v1 : Ref sig .tc := ⟨.hbm, 192, rfl⟩
abbrev main_v90 : Ref sig .tc := ⟨.hbm, 193, rfl⟩
abbrev main_v91 : Ref sig .tc := ⟨.hbm, 194, rfl⟩
abbrev main_v92 : Ref sig .tc := ⟨.hbm, 195, rfl⟩
abbrev main_v93 : Ref sig .tc := ⟨.hbm, 196, rfl⟩
abbrev main_v94 : Ref sig .tc := ⟨.hbm, 197, rfl⟩
abbrev main_v95 : Ref sig .tc := ⟨.hbm, 198, rfl⟩
abbrev main_v96 : Ref sig .tc := ⟨.hbm, 199, rfl⟩
abbrev main_v97 : Ref sig .tc := ⟨.hbm, 200, rfl⟩
abbrev main_v98 : Ref sig .tc := ⟨.hbm, 201, rfl⟩
abbrev main_v99 : Ref sig .tc := ⟨.hbm, 202, rfl⟩
abbrev main_v100 : Ref sig .tc := ⟨.hbm, 203, rfl⟩
abbrev main_v101 : Ref sig .tc := ⟨.hbm, 204, rfl⟩
abbrev main_v102 : Ref sig .tc := ⟨.hbm, 205, rfl⟩
abbrev main_v103 : Ref sig .tc := ⟨.hbm, 206, rfl⟩
abbrev main_v104 : Ref sig .tc := ⟨.hbm, 207, rfl⟩
abbrev main_v105 : Ref sig .tc := ⟨.hbm, 208, rfl⟩
abbrev main_v106 : Ref sig .tc := ⟨.hbm, 209, rfl⟩
abbrev main_v107 : Ref sig .tc := ⟨.hbm, 210, rfl⟩
abbrev main_v108 : Ref sig .tc := ⟨.hbm, 211, rfl⟩
abbrev main_v109 : Ref sig .tc := ⟨.hbm, 212, rfl⟩
abbrev main_v110 : Ref sig .tc := ⟨.hbm, 213, rfl⟩
abbrev main_v111 : Ref sig .tc := ⟨.hbm, 214, rfl⟩
abbrev main_v112 : Ref sig .tc := ⟨.hbm, 215, rfl⟩
abbrev main_v113 : Ref sig .tc := ⟨.hbm, 216, rfl⟩
abbrev main_v114 : Ref sig .tc := ⟨.hbm, 217, rfl⟩
abbrev main_v115 : Ref sig .tc := ⟨.hbm, 218, rfl⟩
abbrev main_v116 : Ref sig .tc := ⟨.hbm, 219, rfl⟩
abbrev main_v117 : Ref sig .tc := ⟨.hbm, 220, rfl⟩
abbrev main_v118 : Ref sig .tc := ⟨.hbm, 221, rfl⟩
abbrev main_c_56 : Ref sig .tc := ⟨.hbm, 222, rfl⟩
abbrev main_v119 : Ref sig .tc := ⟨.hbm, 223, rfl⟩
abbrev main_v120 : Ref sig .tc := ⟨.hbm, 224, rfl⟩
abbrev main_c_57 : Ref sig .tc := ⟨.hbm, 225, rfl⟩
abbrev main_v121 : Ref sig .tc := ⟨.hbm, 226, rfl⟩
abbrev main_v122 : Ref sig .tc := ⟨.hbm, 227, rfl⟩
abbrev main_c_58 : Ref sig .tc := ⟨.hbm, 228, rfl⟩
abbrev main_v123 : Ref sig .tc := ⟨.hbm, 229, rfl⟩
abbrev main_v124 : Ref sig .tc := ⟨.hbm, 230, rfl⟩
abbrev main_c_59 : Ref sig .tc := ⟨.hbm, 231, rfl⟩
abbrev main_v125 : Ref sig .tc := ⟨.hbm, 232, rfl⟩
abbrev main_v126 : Ref sig .tc := ⟨.hbm, 233, rfl⟩
abbrev main_c_60 : Ref sig .tc := ⟨.hbm, 234, rfl⟩
abbrev main_v127 : Ref sig .tc := ⟨.hbm, 235, rfl⟩
abbrev main_v128 : Ref sig .tc := ⟨.hbm, 236, rfl⟩
abbrev main_c_61 : Ref sig .tc := ⟨.hbm, 237, rfl⟩
abbrev main_v129 : Ref sig .tc := ⟨.hbm, 238, rfl⟩
abbrev main_v130 : Ref sig .tc := ⟨.hbm, 239, rfl⟩
abbrev main_c_62 : Ref sig .tc := ⟨.hbm, 240, rfl⟩
abbrev main_v131 : Ref sig .tc := ⟨.hbm, 241, rfl⟩
abbrev main_v132 : Ref sig .tc := ⟨.hbm, 242, rfl⟩
abbrev main_c_63 : Ref sig .tc := ⟨.hbm, 243, rfl⟩
abbrev main_v133 : Ref sig .tc := ⟨.hbm, 244, rfl⟩
abbrev main_v134 : Ref sig .tc := ⟨.hbm, 245, rfl⟩
abbrev main_c_64 : Ref sig .tc := ⟨.hbm, 246, rfl⟩
abbrev main_v135 : Ref sig .tc := ⟨.hbm, 247, rfl⟩
abbrev main_v136 : Ref sig .tc := ⟨.hbm, 248, rfl⟩
abbrev main_c_65 : Ref sig .tc := ⟨.hbm, 249, rfl⟩
abbrev main_v137 : Ref sig .tc := ⟨.hbm, 250, rfl⟩
abbrev main_v138 : Ref sig .tc := ⟨.hbm, 251, rfl⟩
abbrev main_c_66 : Ref sig .tc := ⟨.hbm, 252, rfl⟩
abbrev main_v139 : Ref sig .tc := ⟨.hbm, 253, rfl⟩
abbrev main_v140 : Ref sig .tc := ⟨.hbm, 254, rfl⟩
abbrev main_c_67 : Ref sig .tc := ⟨.hbm, 255, rfl⟩
abbrev main_v141 : Ref sig .tc := ⟨.hbm, 256, rfl⟩
abbrev main_v142 : Ref sig .tc := ⟨.hbm, 257, rfl⟩
abbrev main_c_68 : Ref sig .tc := ⟨.hbm, 258, rfl⟩
abbrev main_v143 : Ref sig .tc := ⟨.hbm, 259, rfl⟩
abbrev main_v144 : Ref sig .tc := ⟨.hbm, 260, rfl⟩
abbrev main_cst_69 : Ref sig .tc := ⟨.hbm, 261, rfl⟩
abbrev main_cst_70 : Ref sig .tc := ⟨.hbm, 262, rfl⟩
abbrev main_call30_v0 : Ref sig .tc := ⟨.hbm, 263, rfl⟩
abbrev main_call30_v1 : Ref sig .tc := ⟨.hbm, 264, rfl⟩
abbrev main_v145 : Ref sig .tc := ⟨.hbm, 265, rfl⟩
abbrev main_cst_71 : Ref sig .tc := ⟨.hbm, 266, rfl⟩
abbrev main_cst_72 : Ref sig .tc := ⟨.hbm, 267, rfl⟩
abbrev main_call31_v0 : Ref sig .tc := ⟨.hbm, 268, rfl⟩
abbrev main_call31_v1 : Ref sig .tc := ⟨.hbm, 269, rfl⟩
abbrev main_v146 : Ref sig .tc := ⟨.hbm, 270, rfl⟩
abbrev main_cst_73 : Ref sig .tc := ⟨.hbm, 271, rfl⟩
abbrev main_cst_74 : Ref sig .tc := ⟨.hbm, 272, rfl⟩
abbrev main_call32_v0 : Ref sig .tc := ⟨.hbm, 273, rfl⟩
abbrev main_call32_v1 : Ref sig .tc := ⟨.hbm, 274, rfl⟩
abbrev main_v147 : Ref sig .tc := ⟨.hbm, 275, rfl⟩
abbrev main_cst_75 : Ref sig .tc := ⟨.hbm, 276, rfl⟩
abbrev main_cst_76 : Ref sig .tc := ⟨.hbm, 277, rfl⟩
abbrev main_call33_v0 : Ref sig .tc := ⟨.hbm, 278, rfl⟩
abbrev main_call33_v1 : Ref sig .tc := ⟨.hbm, 279, rfl⟩
abbrev main_v148 : Ref sig .tc := ⟨.hbm, 280, rfl⟩
abbrev main_cst_77 : Ref sig .tc := ⟨.hbm, 281, rfl⟩
abbrev main_cst_78 : Ref sig .tc := ⟨.hbm, 282, rfl⟩
abbrev main_call34_v0 : Ref sig .tc := ⟨.hbm, 283, rfl⟩
abbrev main_call34_v1 : Ref sig .tc := ⟨.hbm, 284, rfl⟩
abbrev main_v149 : Ref sig .tc := ⟨.hbm, 285, rfl⟩
abbrev main_cst_79 : Ref sig .tc := ⟨.hbm, 286, rfl⟩
abbrev main_cst_80 : Ref sig .tc := ⟨.hbm, 287, rfl⟩
abbrev main_call35_v0 : Ref sig .tc := ⟨.hbm, 288, rfl⟩
abbrev main_call35_v1 : Ref sig .tc := ⟨.hbm, 289, rfl⟩
abbrev main_v150 : Ref sig .tc := ⟨.hbm, 290, rfl⟩
abbrev main_cst_81 : Ref sig .tc := ⟨.hbm, 291, rfl⟩
abbrev main_cst_82 : Ref sig .tc := ⟨.hbm, 292, rfl⟩
abbrev main_call36_v0 : Ref sig .tc := ⟨.hbm, 293, rfl⟩
abbrev main_call36_v1 : Ref sig .tc := ⟨.hbm, 294, rfl⟩
abbrev main_v151 : Ref sig .tc := ⟨.hbm, 295, rfl⟩
abbrev main_cst_83 : Ref sig .tc := ⟨.hbm, 296, rfl⟩
abbrev main_cst_84 : Ref sig .tc := ⟨.hbm, 297, rfl⟩
abbrev main_call37_v0 : Ref sig .tc := ⟨.hbm, 298, rfl⟩
abbrev main_call37_v1 : Ref sig .tc := ⟨.hbm, 299, rfl⟩
abbrev main_v152 : Ref sig .tc := ⟨.hbm, 300, rfl⟩
abbrev main_v153 : Ref sig .tc := ⟨.hbm, 301, rfl⟩
abbrev main_v154 : Ref sig .tc := ⟨.hbm, 302, rfl⟩
abbrev main_v155 : Ref sig .tc := ⟨.hbm, 303, rfl⟩
abbrev main_v156 : Ref sig .tc := ⟨.hbm, 304, rfl⟩
abbrev main_v157 : Ref sig .tc := ⟨.hbm, 305, rfl⟩
abbrev main_v158 : Ref sig .tc := ⟨.hbm, 306, rfl⟩
abbrev main_v159 : Ref sig .tc := ⟨.hbm, 307, rfl⟩
abbrev main_v160 : Ref sig .tc := ⟨.hbm, 308, rfl⟩
abbrev main_v161 : Ref sig .tc := ⟨.hbm, 309, rfl⟩
abbrev main_v162 : Ref sig .tc := ⟨.hbm, 310, rfl⟩
abbrev main_v163 : Ref sig .tc := ⟨.hbm, 311, rfl⟩
abbrev main_v164 : Ref sig .tc := ⟨.hbm, 312, rfl⟩
abbrev main_v165 : Ref sig .tc := ⟨.hbm, 313, rfl⟩
abbrev main_c_85 : Ref sig .tc := ⟨.hbm, 314, rfl⟩
abbrev main_v166 : Ref sig .tc := ⟨.hbm, 315, rfl⟩
abbrev main_v167 : Ref sig .tc := ⟨.hbm, 316, rfl⟩
abbrev main_c_86 : Ref sig .tc := ⟨.hbm, 317, rfl⟩
abbrev main_v168 : Ref sig .tc := ⟨.hbm, 318, rfl⟩
abbrev main_v169 : Ref sig .tc := ⟨.hbm, 319, rfl⟩
abbrev main_c_87 : Ref sig .tc := ⟨.hbm, 320, rfl⟩
abbrev main_v170 : Ref sig .tc := ⟨.hbm, 321, rfl⟩
abbrev main_v171 : Ref sig .tc := ⟨.hbm, 322, rfl⟩
abbrev main_c_88 : Ref sig .tc := ⟨.hbm, 323, rfl⟩
abbrev main_v172 : Ref sig .tc := ⟨.hbm, 324, rfl⟩
abbrev main_v173 : Ref sig .tc := ⟨.hbm, 325, rfl⟩
abbrev main_c_89 : Ref sig .tc := ⟨.hbm, 326, rfl⟩
abbrev main_v174 : Ref sig .tc := ⟨.hbm, 327, rfl⟩
abbrev main_v175 : Ref sig .tc := ⟨.hbm, 328, rfl⟩
abbrev main_c_90 : Ref sig .tc := ⟨.hbm, 329, rfl⟩
abbrev main_v176 : Ref sig .tc := ⟨.hbm, 330, rfl⟩
abbrev main_v177 : Ref sig .tc := ⟨.hbm, 331, rfl⟩
abbrev main_c_91 : Ref sig .tc := ⟨.hbm, 332, rfl⟩
abbrev main_v178 : Ref sig .tc := ⟨.hbm, 333, rfl⟩
abbrev main_v179 : Ref sig .tc := ⟨.hbm, 334, rfl⟩
abbrev main_c_92 : Ref sig .tc := ⟨.hbm, 335, rfl⟩
abbrev main_v180 : Ref sig .tc := ⟨.hbm, 336, rfl⟩
abbrev main_v181 : Ref sig .tc := ⟨.hbm, 337, rfl⟩
abbrev main_c_93 : Ref sig .tc := ⟨.hbm, 338, rfl⟩
abbrev main_v182 : Ref sig .tc := ⟨.hbm, 339, rfl⟩
abbrev main_v183 : Ref sig .tc := ⟨.hbm, 340, rfl⟩
abbrev main_c_94 : Ref sig .tc := ⟨.hbm, 341, rfl⟩
abbrev main_v184 : Ref sig .tc := ⟨.hbm, 342, rfl⟩
abbrev main_v185 : Ref sig .tc := ⟨.hbm, 343, rfl⟩
abbrev main_c_95 : Ref sig .tc := ⟨.hbm, 344, rfl⟩
abbrev main_v186 : Ref sig .tc := ⟨.hbm, 345, rfl⟩
abbrev main_v187 : Ref sig .tc := ⟨.hbm, 346, rfl⟩
abbrev main_c_96 : Ref sig .tc := ⟨.hbm, 347, rfl⟩
abbrev main_v188 : Ref sig .tc := ⟨.hbm, 348, rfl⟩
abbrev main_v189 : Ref sig .tc := ⟨.hbm, 349, rfl⟩
abbrev main_c_97 : Ref sig .tc := ⟨.hbm, 350, rfl⟩
abbrev main_v190 : Ref sig .tc := ⟨.hbm, 351, rfl⟩
abbrev main_v191 : Ref sig .tc := ⟨.hbm, 352, rfl⟩
abbrev main_cst_98 : Ref sig .tc := ⟨.hbm, 353, rfl⟩
abbrev main_cst_99 : Ref sig .tc := ⟨.hbm, 354, rfl⟩
abbrev main_call45_v0 : Ref sig .tc := ⟨.hbm, 355, rfl⟩
abbrev main_call45_v1 : Ref sig .tc := ⟨.hbm, 356, rfl⟩
abbrev main_v192 : Ref sig .tc := ⟨.hbm, 357, rfl⟩
abbrev main_cst_100 : Ref sig .tc := ⟨.hbm, 358, rfl⟩
abbrev main_cst_101 : Ref sig .tc := ⟨.hbm, 359, rfl⟩
abbrev main_call46_v0 : Ref sig .tc := ⟨.hbm, 360, rfl⟩
abbrev main_call46_v1 : Ref sig .tc := ⟨.hbm, 361, rfl⟩
abbrev main_v193 : Ref sig .tc := ⟨.hbm, 362, rfl⟩
abbrev main_cst_102 : Ref sig .tc := ⟨.hbm, 363, rfl⟩
abbrev main_cst_103 : Ref sig .tc := ⟨.hbm, 364, rfl⟩
abbrev main_call47_v0 : Ref sig .tc := ⟨.hbm, 365, rfl⟩
abbrev main_call47_v1 : Ref sig .tc := ⟨.hbm, 366, rfl⟩
abbrev main_v194 : Ref sig .tc := ⟨.hbm, 367, rfl⟩
abbrev main_cst_104 : Ref sig .tc := ⟨.hbm, 368, rfl⟩
abbrev main_cst_105 : Ref sig .tc := ⟨.hbm, 369, rfl⟩
abbrev main_call48_v0 : Ref sig .tc := ⟨.hbm, 370, rfl⟩
abbrev main_call48_v1 : Ref sig .tc := ⟨.hbm, 371, rfl⟩
abbrev main_v195 : Ref sig .tc := ⟨.hbm, 372, rfl⟩
abbrev main_cst_106 : Ref sig .tc := ⟨.hbm, 373, rfl⟩
abbrev main_cst_107 : Ref sig .tc := ⟨.hbm, 374, rfl⟩
abbrev main_call49_v0 : Ref sig .tc := ⟨.hbm, 375, rfl⟩
abbrev main_call49_v1 : Ref sig .tc := ⟨.hbm, 376, rfl⟩
abbrev main_v196 : Ref sig .tc := ⟨.hbm, 377, rfl⟩
abbrev main_cst_108 : Ref sig .tc := ⟨.hbm, 378, rfl⟩
abbrev main_cst_109 : Ref sig .tc := ⟨.hbm, 379, rfl⟩
abbrev main_call50_v0 : Ref sig .tc := ⟨.hbm, 380, rfl⟩
abbrev main_call50_v1 : Ref sig .tc := ⟨.hbm, 381, rfl⟩
abbrev main_v197 : Ref sig .tc := ⟨.hbm, 382, rfl⟩
abbrev main_cst_110 : Ref sig .tc := ⟨.hbm, 383, rfl⟩
abbrev main_cst_111 : Ref sig .tc := ⟨.hbm, 384, rfl⟩
abbrev main_call51_v0 : Ref sig .tc := ⟨.hbm, 385, rfl⟩
abbrev main_call51_v1 : Ref sig .tc := ⟨.hbm, 386, rfl⟩
abbrev main_v198 : Ref sig .tc := ⟨.hbm, 387, rfl⟩
abbrev main_cst_112 : Ref sig .tc := ⟨.hbm, 388, rfl⟩
abbrev main_cst_113 : Ref sig .tc := ⟨.hbm, 389, rfl⟩
abbrev main_call52_v0 : Ref sig .tc := ⟨.hbm, 390, rfl⟩
abbrev main_call52_v1 : Ref sig .tc := ⟨.hbm, 391, rfl⟩
abbrev main_v199 : Ref sig .tc := ⟨.hbm, 392, rfl⟩
abbrev main_v200 : Ref sig .tc := ⟨.hbm, 393, rfl⟩
abbrev main_v201 : Ref sig .tc := ⟨.hbm, 394, rfl⟩
abbrev main_v202 : Ref sig .tc := ⟨.hbm, 395, rfl⟩
abbrev main_v203 : Ref sig .tc := ⟨.hbm, 396, rfl⟩
abbrev main_v204 : Ref sig .tc := ⟨.hbm, 397, rfl⟩
abbrev main_v205 : Ref sig .tc := ⟨.hbm, 398, rfl⟩
abbrev main_v206 : Ref sig .tc := ⟨.hbm, 399, rfl⟩
abbrev main_v207 : Ref sig .tc := ⟨.hbm, 400, rfl⟩
abbrev main_v208 : Ref sig .tc := ⟨.hbm, 401, rfl⟩
abbrev main_v209 : Ref sig .tc := ⟨.hbm, 402, rfl⟩
abbrev main_v210 : Ref sig .tc := ⟨.hbm, 403, rfl⟩
abbrev main_v211 : Ref sig .tc := ⟨.hbm, 404, rfl⟩
abbrev main_v212 : Ref sig .tc := ⟨.hbm, 405, rfl⟩
abbrev main_v213 : Ref sig .tc := ⟨.hbm, 406, rfl⟩
abbrev main_v214 : Ref sig .tc := ⟨.hbm, 407, rfl⟩
abbrev main_v215 : Ref sig .tc := ⟨.hbm, 408, rfl⟩
abbrev main_v216 : Ref sig .tc := ⟨.hbm, 409, rfl⟩
abbrev main_v217 : Ref sig .tc := ⟨.hbm, 410, rfl⟩
abbrev main_v218 : Ref sig .tc := ⟨.hbm, 411, rfl⟩
abbrev main_v219 : Ref sig .tc := ⟨.hbm, 412, rfl⟩
abbrev main_cst_114 : Ref sig .tc := ⟨.hbm, 413, rfl⟩
abbrev main_v220 : Ref sig .tc := ⟨.hbm, 414, rfl⟩
abbrev main_v221 : Ref sig .tc := ⟨.hbm, 415, rfl⟩
abbrev main_cst_115 : Ref sig .tc := ⟨.hbm, 416, rfl⟩
abbrev main_v222 : Ref sig .tc := ⟨.hbm, 417, rfl⟩
abbrev main_v223 : Ref sig .tc := ⟨.hbm, 418, rfl⟩
abbrev main_v224 : Ref sig .tc := ⟨.hbm, 419, rfl⟩
abbrev main_v225 : Ref sig .tc := ⟨.hbm, 420, rfl⟩
abbrev main_v226 : Ref sig .tc := ⟨.hbm, 421, rfl⟩
abbrev main_v227 : Ref sig .tc := ⟨.hbm, 422, rfl⟩
abbrev main_v228 : Ref sig .tc := ⟨.hbm, 423, rfl⟩
abbrev main_v229 : Ref sig .tc := ⟨.hbm, 424, rfl⟩
abbrev main_v230 : Ref sig .tc := ⟨.hbm, 425, rfl⟩
abbrev main_v231 : Ref sig .tc := ⟨.hbm, 426, rfl⟩
abbrev main_v232 : Ref sig .tc := ⟨.hbm, 427, rfl⟩
abbrev main_v233 : Ref sig .tc := ⟨.hbm, 428, rfl⟩
abbrev main_v234 : Ref sig .tc := ⟨.hbm, 429, rfl⟩
abbrev main_v235 : Ref sig .tc := ⟨.hbm, 430, rfl⟩
abbrev main_v236 : Ref sig .tc := ⟨.hbm, 431, rfl⟩
abbrev main_c_116 : Ref sig .tc := ⟨.hbm, 432, rfl⟩
abbrev main_v237 : Ref sig .tc := ⟨.hbm, 433, rfl⟩
abbrev main_v238 : Ref sig .tc := ⟨.hbm, 434, rfl⟩
abbrev main_c_117 : Ref sig .tc := ⟨.hbm, 435, rfl⟩
abbrev main_v239 : Ref sig .tc := ⟨.hbm, 436, rfl⟩
abbrev main_v240 : Ref sig .tc := ⟨.hbm, 437, rfl⟩
abbrev main_c_118 : Ref sig .tc := ⟨.hbm, 438, rfl⟩
abbrev main_v241 : Ref sig .tc := ⟨.hbm, 439, rfl⟩
abbrev main_v242 : Ref sig .tc := ⟨.hbm, 440, rfl⟩
abbrev main_c_119 : Ref sig .tc := ⟨.hbm, 441, rfl⟩
abbrev main_v243 : Ref sig .tc := ⟨.hbm, 442, rfl⟩
abbrev main_v244 : Ref sig .tc := ⟨.hbm, 443, rfl⟩
abbrev main_c_120 : Ref sig .tc := ⟨.hbm, 444, rfl⟩
abbrev main_v245 : Ref sig .tc := ⟨.hbm, 445, rfl⟩
abbrev main_v246 : Ref sig .tc := ⟨.hbm, 446, rfl⟩
abbrev main_c_121 : Ref sig .tc := ⟨.hbm, 447, rfl⟩
abbrev main_v247 : Ref sig .tc := ⟨.hbm, 448, rfl⟩
abbrev main_v248 : Ref sig .tc := ⟨.hbm, 449, rfl⟩
abbrev main_c_122 : Ref sig .tc := ⟨.hbm, 450, rfl⟩
abbrev main_v249 : Ref sig .tc := ⟨.hbm, 451, rfl⟩
abbrev main_v250 : Ref sig .tc := ⟨.hbm, 452, rfl⟩
abbrev main_c_123 : Ref sig .tc := ⟨.hbm, 453, rfl⟩
abbrev main_v251 : Ref sig .tc := ⟨.hbm, 454, rfl⟩
abbrev main_v252 : Ref sig .tc := ⟨.hbm, 455, rfl⟩
abbrev main_c_124 : Ref sig .tc := ⟨.hbm, 456, rfl⟩
abbrev main_v253 : Ref sig .tc := ⟨.hbm, 457, rfl⟩
abbrev main_v254 : Ref sig .tc := ⟨.hbm, 458, rfl⟩
abbrev main_c_125 : Ref sig .tc := ⟨.hbm, 459, rfl⟩
abbrev main_v255 : Ref sig .tc := ⟨.hbm, 460, rfl⟩
abbrev main_v256 : Ref sig .tc := ⟨.hbm, 461, rfl⟩
abbrev main_c_126 : Ref sig .tc := ⟨.hbm, 462, rfl⟩
abbrev main_v257 : Ref sig .tc := ⟨.hbm, 463, rfl⟩
abbrev main_v258 : Ref sig .tc := ⟨.hbm, 464, rfl⟩
abbrev main_c_127 : Ref sig .tc := ⟨.hbm, 465, rfl⟩
abbrev main_v259 : Ref sig .tc := ⟨.hbm, 466, rfl⟩
abbrev main_v260 : Ref sig .tc := ⟨.hbm, 467, rfl⟩
abbrev main_c_128 : Ref sig .tc := ⟨.hbm, 468, rfl⟩
abbrev main_v261 : Ref sig .tc := ⟨.hbm, 469, rfl⟩
abbrev main_v262 : Ref sig .tc := ⟨.hbm, 470, rfl⟩
abbrev main_cst_129 : Ref sig .tc := ⟨.hbm, 471, rfl⟩
abbrev main_cst_130 : Ref sig .tc := ⟨.hbm, 472, rfl⟩
abbrev main_call60_v0 : Ref sig .tc := ⟨.hbm, 473, rfl⟩
abbrev main_call60_v1 : Ref sig .tc := ⟨.hbm, 474, rfl⟩
abbrev main_v263 : Ref sig .tc := ⟨.hbm, 475, rfl⟩
abbrev main_cst_131 : Ref sig .tc := ⟨.hbm, 476, rfl⟩
abbrev main_cst_132 : Ref sig .tc := ⟨.hbm, 477, rfl⟩
abbrev main_call61_v0 : Ref sig .tc := ⟨.hbm, 478, rfl⟩
abbrev main_call61_v1 : Ref sig .tc := ⟨.hbm, 479, rfl⟩
abbrev main_v264 : Ref sig .tc := ⟨.hbm, 480, rfl⟩
abbrev main_cst_133 : Ref sig .tc := ⟨.hbm, 481, rfl⟩
abbrev main_cst_134 : Ref sig .tc := ⟨.hbm, 482, rfl⟩
abbrev main_call62_v0 : Ref sig .tc := ⟨.hbm, 483, rfl⟩
abbrev main_call62_v1 : Ref sig .tc := ⟨.hbm, 484, rfl⟩
abbrev main_v265 : Ref sig .tc := ⟨.hbm, 485, rfl⟩
abbrev main_cst_135 : Ref sig .tc := ⟨.hbm, 486, rfl⟩
abbrev main_cst_136 : Ref sig .tc := ⟨.hbm, 487, rfl⟩
abbrev main_call63_v0 : Ref sig .tc := ⟨.hbm, 488, rfl⟩
abbrev main_call63_v1 : Ref sig .tc := ⟨.hbm, 489, rfl⟩
abbrev main_v266 : Ref sig .tc := ⟨.hbm, 490, rfl⟩
abbrev main_cst_137 : Ref sig .tc := ⟨.hbm, 491, rfl⟩
abbrev main_cst_138 : Ref sig .tc := ⟨.hbm, 492, rfl⟩
abbrev main_call64_v0 : Ref sig .tc := ⟨.hbm, 493, rfl⟩
abbrev main_call64_v1 : Ref sig .tc := ⟨.hbm, 494, rfl⟩
abbrev main_v267 : Ref sig .tc := ⟨.hbm, 495, rfl⟩
abbrev main_cst_139 : Ref sig .tc := ⟨.hbm, 496, rfl⟩
abbrev main_cst_140 : Ref sig .tc := ⟨.hbm, 497, rfl⟩
abbrev main_call65_v0 : Ref sig .tc := ⟨.hbm, 498, rfl⟩
abbrev main_call65_v1 : Ref sig .tc := ⟨.hbm, 499, rfl⟩
abbrev main_v268 : Ref sig .tc := ⟨.hbm, 500, rfl⟩
abbrev main_cst_141 : Ref sig .tc := ⟨.hbm, 501, rfl⟩
abbrev main_cst_142 : Ref sig .tc := ⟨.hbm, 502, rfl⟩
abbrev main_call66_v0 : Ref sig .tc := ⟨.hbm, 503, rfl⟩
abbrev main_call66_v1 : Ref sig .tc := ⟨.hbm, 504, rfl⟩
abbrev main_v269 : Ref sig .tc := ⟨.hbm, 505, rfl⟩
abbrev main_cst_143 : Ref sig .tc := ⟨.hbm, 506, rfl⟩
abbrev main_cst_144 : Ref sig .tc := ⟨.hbm, 507, rfl⟩
abbrev main_call67_v0 : Ref sig .tc := ⟨.hbm, 508, rfl⟩
abbrev main_call67_v1 : Ref sig .tc := ⟨.hbm, 509, rfl⟩
abbrev main_v270 : Ref sig .tc := ⟨.hbm, 510, rfl⟩
abbrev main_v271 : Ref sig .tc := ⟨.hbm, 511, rfl⟩
abbrev main_v272 : Ref sig .tc := ⟨.hbm, 512, rfl⟩
abbrev main_v273 : Ref sig .tc := ⟨.hbm, 513, rfl⟩
abbrev main_v274 : Ref sig .tc := ⟨.hbm, 514, rfl⟩
abbrev main_v275 : Ref sig .tc := ⟨.hbm, 515, rfl⟩
abbrev main_v276 : Ref sig .tc := ⟨.hbm, 516, rfl⟩
abbrev main_v277 : Ref sig .tc := ⟨.hbm, 517, rfl⟩
abbrev main_v278 : Ref sig .tc := ⟨.hbm, 518, rfl⟩
abbrev main_v279 : Ref sig .tc := ⟨.hbm, 519, rfl⟩
abbrev main_v280 : Ref sig .tc := ⟨.hbm, 520, rfl⟩
abbrev main_v281 : Ref sig .tc := ⟨.hbm, 521, rfl⟩
abbrev main_v282 : Ref sig .tc := ⟨.hbm, 522, rfl⟩
abbrev main_v283 : Ref sig .tc := ⟨.hbm, 523, rfl⟩
abbrev main_c_145 : Ref sig .tc := ⟨.hbm, 524, rfl⟩
abbrev main_v284 : Ref sig .tc := ⟨.hbm, 525, rfl⟩
abbrev main_v285 : Ref sig .tc := ⟨.hbm, 526, rfl⟩
abbrev main_c_146 : Ref sig .tc := ⟨.hbm, 527, rfl⟩
abbrev main_v286 : Ref sig .tc := ⟨.hbm, 528, rfl⟩
abbrev main_v287 : Ref sig .tc := ⟨.hbm, 529, rfl⟩
abbrev main_c_147 : Ref sig .tc := ⟨.hbm, 530, rfl⟩
abbrev main_v288 : Ref sig .tc := ⟨.hbm, 531, rfl⟩
abbrev main_v289 : Ref sig .tc := ⟨.hbm, 532, rfl⟩
abbrev main_c_148 : Ref sig .tc := ⟨.hbm, 533, rfl⟩
abbrev main_v290 : Ref sig .tc := ⟨.hbm, 534, rfl⟩
abbrev main_v291 : Ref sig .tc := ⟨.hbm, 535, rfl⟩
abbrev main_c_149 : Ref sig .tc := ⟨.hbm, 536, rfl⟩
abbrev main_v292 : Ref sig .tc := ⟨.hbm, 537, rfl⟩
abbrev main_v293 : Ref sig .tc := ⟨.hbm, 538, rfl⟩
abbrev main_c_150 : Ref sig .tc := ⟨.hbm, 539, rfl⟩
abbrev main_v294 : Ref sig .tc := ⟨.hbm, 540, rfl⟩
abbrev main_v295 : Ref sig .tc := ⟨.hbm, 541, rfl⟩
abbrev main_c_151 : Ref sig .tc := ⟨.hbm, 542, rfl⟩
abbrev main_v296 : Ref sig .tc := ⟨.hbm, 543, rfl⟩
abbrev main_v297 : Ref sig .tc := ⟨.hbm, 544, rfl⟩
abbrev main_c_152 : Ref sig .tc := ⟨.hbm, 545, rfl⟩
abbrev main_v298 : Ref sig .tc := ⟨.hbm, 546, rfl⟩
abbrev main_v299 : Ref sig .tc := ⟨.hbm, 547, rfl⟩
abbrev main_c_153 : Ref sig .tc := ⟨.hbm, 548, rfl⟩
abbrev main_v300 : Ref sig .tc := ⟨.hbm, 549, rfl⟩
abbrev main_v301 : Ref sig .tc := ⟨.hbm, 550, rfl⟩
abbrev main_c_154 : Ref sig .tc := ⟨.hbm, 551, rfl⟩
abbrev main_v302 : Ref sig .tc := ⟨.hbm, 552, rfl⟩
abbrev main_v303 : Ref sig .tc := ⟨.hbm, 553, rfl⟩
abbrev main_c_155 : Ref sig .tc := ⟨.hbm, 554, rfl⟩
abbrev main_v304 : Ref sig .tc := ⟨.hbm, 555, rfl⟩
abbrev main_v305 : Ref sig .tc := ⟨.hbm, 556, rfl⟩
abbrev main_c_156 : Ref sig .tc := ⟨.hbm, 557, rfl⟩
abbrev main_v306 : Ref sig .tc := ⟨.hbm, 558, rfl⟩
abbrev main_v307 : Ref sig .tc := ⟨.hbm, 559, rfl⟩
abbrev main_c_157 : Ref sig .tc := ⟨.hbm, 560, rfl⟩
abbrev main_v308 : Ref sig .tc := ⟨.hbm, 561, rfl⟩
abbrev main_v309 : Ref sig .tc := ⟨.hbm, 562, rfl⟩
abbrev main_cst_158 : Ref sig .tc := ⟨.hbm, 563, rfl⟩
abbrev main_cst_159 : Ref sig .tc := ⟨.hbm, 564, rfl⟩
abbrev main_call75_v0 : Ref sig .tc := ⟨.hbm, 565, rfl⟩
abbrev main_call75_v1 : Ref sig .tc := ⟨.hbm, 566, rfl⟩
abbrev main_v310 : Ref sig .tc := ⟨.hbm, 567, rfl⟩
abbrev main_cst_160 : Ref sig .tc := ⟨.hbm, 568, rfl⟩
abbrev main_cst_161 : Ref sig .tc := ⟨.hbm, 569, rfl⟩
abbrev main_call76_v0 : Ref sig .tc := ⟨.hbm, 570, rfl⟩
abbrev main_call76_v1 : Ref sig .tc := ⟨.hbm, 571, rfl⟩
abbrev main_v311 : Ref sig .tc := ⟨.hbm, 572, rfl⟩
abbrev main_cst_162 : Ref sig .tc := ⟨.hbm, 573, rfl⟩
abbrev main_cst_163 : Ref sig .tc := ⟨.hbm, 574, rfl⟩
abbrev main_call77_v0 : Ref sig .tc := ⟨.hbm, 575, rfl⟩
abbrev main_call77_v1 : Ref sig .tc := ⟨.hbm, 576, rfl⟩
abbrev main_v312 : Ref sig .tc := ⟨.hbm, 577, rfl⟩
abbrev main_cst_164 : Ref sig .tc := ⟨.hbm, 578, rfl⟩
abbrev main_cst_165 : Ref sig .tc := ⟨.hbm, 579, rfl⟩
abbrev main_call78_v0 : Ref sig .tc := ⟨.hbm, 580, rfl⟩
abbrev main_call78_v1 : Ref sig .tc := ⟨.hbm, 581, rfl⟩
abbrev main_v313 : Ref sig .tc := ⟨.hbm, 582, rfl⟩
abbrev main_cst_166 : Ref sig .tc := ⟨.hbm, 583, rfl⟩
abbrev main_cst_167 : Ref sig .tc := ⟨.hbm, 584, rfl⟩
abbrev main_call79_v0 : Ref sig .tc := ⟨.hbm, 585, rfl⟩
abbrev main_call79_v1 : Ref sig .tc := ⟨.hbm, 586, rfl⟩
abbrev main_v314 : Ref sig .tc := ⟨.hbm, 587, rfl⟩
abbrev main_cst_168 : Ref sig .tc := ⟨.hbm, 588, rfl⟩
abbrev main_cst_169 : Ref sig .tc := ⟨.hbm, 589, rfl⟩
abbrev main_call80_v0 : Ref sig .tc := ⟨.hbm, 590, rfl⟩
abbrev main_call80_v1 : Ref sig .tc := ⟨.hbm, 591, rfl⟩
abbrev main_v315 : Ref sig .tc := ⟨.hbm, 592, rfl⟩
abbrev main_cst_170 : Ref sig .tc := ⟨.hbm, 593, rfl⟩
abbrev main_cst_171 : Ref sig .tc := ⟨.hbm, 594, rfl⟩
abbrev main_call81_v0 : Ref sig .tc := ⟨.hbm, 595, rfl⟩
abbrev main_call81_v1 : Ref sig .tc := ⟨.hbm, 596, rfl⟩
abbrev main_v316 : Ref sig .tc := ⟨.hbm, 597, rfl⟩
abbrev main_cst_172 : Ref sig .tc := ⟨.hbm, 598, rfl⟩
abbrev main_cst_173 : Ref sig .tc := ⟨.hbm, 599, rfl⟩
abbrev main_call82_v0 : Ref sig .tc := ⟨.hbm, 600, rfl⟩
abbrev main_call82_v1 : Ref sig .tc := ⟨.hbm, 601, rfl⟩
abbrev main_v317 : Ref sig .tc := ⟨.hbm, 602, rfl⟩
abbrev main_v318 : Ref sig .tc := ⟨.hbm, 603, rfl⟩
abbrev main_v319 : Ref sig .tc := ⟨.hbm, 604, rfl⟩
abbrev main_v320 : Ref sig .tc := ⟨.hbm, 605, rfl⟩
abbrev main_v321 : Ref sig .tc := ⟨.hbm, 606, rfl⟩
abbrev main_v322 : Ref sig .tc := ⟨.hbm, 607, rfl⟩
abbrev main_v323 : Ref sig .tc := ⟨.hbm, 608, rfl⟩
abbrev main_v324 : Ref sig .tc := ⟨.hbm, 609, rfl⟩
abbrev main_v325 : Ref sig .tc := ⟨.hbm, 610, rfl⟩
abbrev main_v326 : Ref sig .tc := ⟨.hbm, 611, rfl⟩
abbrev main_v327 : Ref sig .tc := ⟨.hbm, 612, rfl⟩
abbrev main_v328 : Ref sig .tc := ⟨.hbm, 613, rfl⟩
abbrev main_v329 : Ref sig .tc := ⟨.hbm, 614, rfl⟩
abbrev main_v330 : Ref sig .tc := ⟨.hbm, 615, rfl⟩
abbrev main_v331 : Ref sig .tc := ⟨.hbm, 616, rfl⟩
abbrev main_v332 : Ref sig .tc := ⟨.hbm, 617, rfl⟩
abbrev main_v333 : Ref sig .tc := ⟨.hbm, 618, rfl⟩
abbrev main_v334 : Ref sig .tc := ⟨.hbm, 619, rfl⟩
abbrev main_v335 : Ref sig .tc := ⟨.hbm, 620, rfl⟩
abbrev main_v336 : Ref sig .tc := ⟨.hbm, 621, rfl⟩

abbrev nD : Nat := 1
abbrev τ : Topo := Topo.v7x

variable {F : FTy → Type} [FloatOps F]
-- ==== Proof.Bits.Decode.lean ====
/- The dequantised weight matrices the two kernels leave in their scratch buffers, as functions of the blocks they
   read, and what the decoding loops write, piece by piece: each piece agrees with those functions. -/
module

public import proofs.«01_k».proof.Proof.Gen.Kernel.Loops
public import Idealize.ShloMosaic.Lib.VecWindow
public import Idealize.ShloMosaic.Lib.Ring
public import Idealize.ShloMosaic.Lib.WritesUnit
public import Idealize.ShloMosaic.Lib.ValueIdxCore

@[expose] public section

set_option maxRecDepth 16384

noncomputable section

namespace Cert.Kernel.Hand

open Cert.Kernel.Gen
open Idealize.ShloMosaic Idealize.ShloMosaic.TcCoe Idealize.ShloMosaic.Tactic
open Idealize.ShloMosaic.ValueIdx (ix2)

variable {F : FTy → Type} [BitOps F]

/-- The table of the sixteen levels, repeated along the lanes, spread over 128 rows. -/
def table (x5 : Vec F S1x128 .f32) : FVec F S128x128 .f32 := k0_pay1 x5

/-- One decoded tile: 128 byte columns of 128 output rows give 256 weights of 128 columns. -/
def tile (tb : FVec F S128x128 .f32) (q : Vec F S128x128 .i8) (a : Vec F S1x4x128 .f32) : FVec F S256x128 .bf16 :=
  k0_pay8 tb q a

/-- The activation tile: the two products, the gate and the final rounding. -/
def hTile (x : Vec F S512x4096 .bf16) (w : Vec F S4096x1024 .bf16) : FVec F S512x512 .bf16 := k0_pay5 x w

/-- The output tile: one product and the final rounding. -/
def yTile (h : Vec F S256x14336 .bf16) (w : Vec F S14336x512 .bf16) : FVec F S256x512 .bf16 := k1_pay3 h w

/-- The decoded tile of column group `g` (128 columns) and row chunk `k` (256 rows), from a block of 512 output rows. -/
def tileAt0 (x1 : Vec F S512x2048 .i8) (x2 : Vec F S16x4x512 .f32) (x5 : Vec F S1x128 .f32) (g : Fin 4) (k : Fin 16) :
    FVec F S256x128 .bf16 :=
  tile (table x5)
    (VecWindow.window (s := S512x2048) x1 ![128 * g.val, 128 * k.val] ![128, 128] (fun a => by
      match a with
      | ⟨0, _⟩ => show 128 * g.val + 128 ≤ 512; omega
      | ⟨1, _⟩ => show 128 * k.val + 128 ≤ 2048; omega))
    (VecWindow.window (s := S16x4x512) x2 ![k.val, 0, 128 * g.val] ![1, 4, 128] (fun a => by
      match a with
      | ⟨0, _⟩ => show k.val + 1 ≤ 16; omega
      | ⟨1, _⟩ => show 0 + 4 ≤ 4; omega
      | ⟨2, _⟩ => show 128 * g.val + 128 ≤ 512; omega))

/-- The same for the second kernel's block. -/
def tileAt1 (x1 : Vec F S512x7168 .i8) (x2 : Vec F S56x4x512 .f32) (x3 : Vec F S1x128 .f32) (g : Fin 4) (k : Fin 56) :
    FVec F S256x128 .bf16 :=
  tile (table x3)
    (VecWindow.window (s := S512x7168) x1 ![128 * g.val, 128 * k.val] ![128, 128] (fun a => by
      match a with
      | ⟨0, _⟩ => show 128 * g.val + 128 ≤ 512; omega
      | ⟨1, _⟩ => show 128 * k.val + 128 ≤ 7168; omega))
    (VecWindow.window (s := S56x4x512) x2 ![k.val, 0, 128 * g.val] ![1, 4, 128] (fun a => by
      match a with
      | ⟨0, _⟩ => show k.val + 1 ≤ 56; omega
      | ⟨1, _⟩ => show 0 + 4 ≤ 4; omega
      | ⟨2, _⟩ => show 128 * g.val + 128 ≤ 512; omega))

/-- The first kernel's scratch once both loops have run: the decoded gate weights in columns 0 to 511, the decoded up
    weights in columns 512 to 1023. -/
def w0 (x1 : Vec F S512x2048 .i8) (x2 : Vec F S16x4x512 .f32) (x3 : Vec F S512x2048 .i8) (x4 : Vec F S16x4x512 .f32)
    (x5 : Vec F S1x128 .f32) : Vec F S4096x1024 .bf16 := fun y =>
  have h0 : (y 0).val < 4096 := (y 0).isLt
  have h1 : (y 1).val < 1024 := (y 1).isLt
  if h : (y 1).val < 512 then
    tileAt0 x1 x2 x5 ⟨(y 1).val / 128, by omega⟩ ⟨(y 0).val / 256, by omega⟩
      (ix2 ⟨(y 0).val % 256, by omega⟩ ⟨(y 1).val % 128, by omega⟩)
  else
    tileAt0 x3 x4 x5 ⟨((y 1).val - 512) / 128, by omega⟩ ⟨(y 0).val / 256, by omega⟩
      (ix2 ⟨(y 0).val % 256, by omega⟩ ⟨(y 1).val % 128, by omega⟩)

/-- The second kernel's scratch once its loop has run: the decoded down weights. -/
def w1 (x1 : Vec F S512x7168 .i8) (x2 : Vec F S56x4x512 .f32) (x3 : Vec F S1x128 .f32) : Vec F S14336x512 .bf16 := fun y =>
  have h0 : (y 0).val < 14336 := (y 0).isLt
  have h1 : (y 1).val < 512 := (y 1).isLt
  tileAt1 x1 x2 x3 ⟨(y 1).val / 128, by omega⟩ ⟨(y 0).val / 256, by omega⟩
    (ix2 ⟨(y 0).val % 256, by omega⟩ ⟨(y 1).val % 128, by omega⟩)

theorem ix2_of_val {n0 n1 : ℕ} (x : (⟨2, ![n0, n1]⟩ : Shape).Idx) (a b : ℕ) (ha : a < n0) (hb : b < n1)
    (h0 : a = (x 0).val) (h1 : b = (x 1).val) : ix2 (⟨a, ha⟩ : Fin n0) (⟨b, hb⟩ : Fin n1) = x := by
  subst h0 h1
  exact (ValueIdx.eq_ix2 x).symm

theorem w0_gate (x1 : Vec F S512x2048 .i8) (x2 : Vec F S16x4x512 .f32) (x3 : Vec F S512x2048 .i8) (x4 : Vec F S16x4x512 .f32)
    (x5 : Vec F S1x128 .f32) (g : Fin 4) (k : Fin 16) (x : S256x128.Idx) (y : S4096x1024.Idx)
    (hy0 : (y 0).val = 256 * k.val + (x 0).val) (hy1 : (y 1).val = 128 * g.val + (x 1).val) :
    w0 x1 x2 x3 x4 x5 y = tileAt0 x1 x2 x5 g k x := by
  have hx0 : (x 0).val < 256 := (x 0).isLt
  have hx1 : (x 1).val < 128 := (x 1).isLt
  unfold w0
  rw [dif_pos (by omega)]
  rw [ix2_of_val x _ _ _ _ (by omega) (by omega)]
  congr 1 <;> exact Fin.ext (by dsimp only; omega)

theorem w0_up (x1 : Vec F S512x2048 .i8) (x2 : Vec F S16x4x512 .f32) (x3 : Vec F S512x2048 .i8) (x4 : Vec F S16x4x512 .f32)
    (x5 : Vec F S1x128 .f32) (g : Fin 4) (k : Fin 16) (x : S256x128.Idx) (y : S4096x1024.Idx)
    (hy0 : (y 0).val = 256 * k.val + (x 0).val) (hy1 : (y 1).val = 512 + 128 * g.val + (x 1).val) :
    w0 x1 x2 x3 x4 x5 y = tileAt0 x3 x4 x5 g k x := by
  have hx0 : (x 0).val < 256 := (x 0).isLt
  have hx1 : (x 1).val < 128 := (x 1).isLt
  unfold w0
  rw [dif_neg (by omega)]
  rw [ix2_of_val x _ _ _ _ (by omega) (by omega)]
  congr 1 <;> exact Fin.ext (by dsimp only; omega)

theorem w1_at (x1 : Vec F S512x7168 .i8) (x2 : Vec F S56x4x512 .f32) (x3 : Vec F S1x128 .f32) (g : Fin 4) (k : Fin 56)
    (x : S256x128.Idx) (y : S14336x512.Idx)
    (hy0 : (y 0).val = 256 * k.val + (x 0).val) (hy1 : (y 1).val = 128 * g.val + (x 1).val) :
    w1 x1 x2 x3 y = tileAt1 x1 x2 x3 g k x := by
  have hx0 : (x 0).val < 256 := (x 0).isLt
  have hx1 : (x 1).val < 128 := (x 1).isLt
  have h0 : (y 0).val < 14336 := (y 0).isLt
  have h1 : (y 1).val < 512 := (y 1).isLt
  have eg : (⟨(y 1).val / 128, by omega⟩ : Fin 4) = g := Fin.ext (by dsimp only; omega)
  have ek : (⟨(y 0).val / 256, by omega⟩ : Fin 56) = k := Fin.ext (by dsimp only; omega)
  have ex := ix2_of_val x ((y 0).val % 256) ((y 1).val % 128) (by omega) (by omega) (by omega) (by omega)
  exact (congrArg (tileAt1 x1 x2 x3 _ _) ex).trans (by rw [eg, ek])

/-! ## One trip's pieces -/

theorem off_add {o v : Fin 2 → ℕ} (h : o = v) (a : Fin 2) (x : ℕ) : o a + 1 * x = v a + x := by
  rw [h, Nat.one_mul]

section Trip0

variable (𝒱 : Variants) (c : Dev nD) (bd : Option 𝒱.V) (i : grid0.Coords) (arg2 : Memref sig .tc .vmem S512x4096 .bf16) (harg2 : arg2.IsWhole) (arg3 : Memref sig .tc .vmem S512x2048 .i8) (harg3 : arg3.IsWhole) (arg4 : Memref sig .tc .vmem S16x4x512 .f32) (harg4 : arg4.IsWhole) (arg5 : Memref sig .tc .vmem S512x2048 .i8) (harg5 : arg5.IsWhole) (arg6 : Memref sig .tc .vmem S16x4x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S4096x1024 .bf16) (harg9 : arg9.IsWhole) (k0_h1 : k0_cond1 i = 1#1) (v14 : Vec F S1x128 .f32)

/-- A tile read by a trip is the block's tile. -/
theorem tile_read0 (v : Memref sig .tc .vmem S512x2048 .i8) (u : Memref sig .tc .vmem S16x4x512 .f32)
    (X : BufTy.Contents (Elt F) v.view.ty) (Y : BufTy.Contents (Elt F) u.view.ty) (x5 : Vec F S1x128 .f32)
    (g : Fin 4) (k : Fin 16) {o1 : Fin 2 → ℕ} {o2 : Fin 3 → ℕ} (h1 : o1 = ![128 * g.val, 128 * k.val]) (h2 : o2 = ![k.val, 0, 128 * g.val])
    (b1 : ∀ a, o1 a + (![128, 128] : Fin 2 → ℕ) a ≤ S512x2048.size a) (b2 : ∀ a, o2 a + (![1, 4, 128] : Fin 3 → ℕ) a ≤ S16x4x512.size a) :
    tile (table x5) (v.view.readAt (Elt F) (Rect.unit (s := S512x2048) o1 ![128, 128] b1).toLoadRect X)
        (u.view.readAt (Elt F) (Rect.unit (s := S16x4x512) o2 ![1, 4, 128] b2).toLoadRect Y)
      = tileAt0 (v.view.read (Elt F) X) (u.view.read (Elt F) Y) x5 g k := by
  subst h1 h2; rfl

theorem trip_gate (X : BufTy.Contents (Elt F) arg3.view.ty) (Y : BufTy.Contents (Elt F) arg4.view.ty)
    (x3 : Vec F S512x2048 .i8) (x4 : Vec F S16x4x512 .f32) (k : Fin k0_t1_loop.trips) :
    ∀ p ∈ tripL_k0_t1 (F := F) 𝒱 c bd i arg2 harg2 arg3 harg3 arg4 harg4 arg5 harg5 arg6 harg6 arg7 harg7 arg8 harg8 arg9 harg9 k0_h1 v14 X Y k,
      ∀ x : p.1.shape.Idx, p.2 x = w0 (arg3.view.read (Elt F) X) (arg4.view.read (Elt F) Y) x3 x4 v14 (p.1.emb x) := by
  have hk : k.val < 16 := Nat.lt_of_lt_of_le k.isLt k0_t1_abs.2.1
  unfold tripL_k0_t1 trip_k0_t1
  dsimp only
  intro p hp x
  simp only [List.mem_cons, List.not_mem_nil, or_false] at hp
  rcases hp with rfl | rfl | rfl | rfl
  · refine Eq.trans (congrFun (tile_read0 arg3 arg4 X Y v14 3 ⟨k.val, hk⟩ (k0_off10_eq k) (k0_off11_eq k) _ _) x) (w0_gate _ _ _ _ _ 3 ⟨k.val, hk⟩ x _ ?_ ?_).symm
    · exact off_add (k0_off12_eq k) 0 _
    · exact off_add (k0_off12_eq k) 1 _
  · refine Eq.trans (congrFun (tile_read0 arg3 arg4 X Y v14 2 ⟨k.val, hk⟩ (k0_off7_eq k) (k0_off8_eq k) _ _) x) (w0_gate _ _ _ _ _ 2 ⟨k.val, hk⟩ x _ ?_ ?_).symm
    · exact off_add (k0_off9_eq k) 0 _
    · exact off_add (k0_off9_eq k) 1 _
  · refine Eq.trans (congrFun (tile_read0 arg3 arg4 X Y v14 1 ⟨k.val, hk⟩ (k0_off4_eq k) (k0_off5_eq k) _ _) x) (w0_gate _ _ _ _ _ 1 ⟨k.val, hk⟩ x _ ?_ ?_).symm
    · exact off_add (k0_off6_eq k) 0 _
    · exact off_add (k0_off6_eq k) 1 _
  · refine Eq.trans (congrFun (tile_read0 arg3 arg4 X Y v14 0 ⟨k.val, hk⟩ (k0_off1_eq k) (k0_off2_eq k) _ _) x) (w0_gate _ _ _ _ _ 0 ⟨k.val, hk⟩ x _ ?_ ?_).symm
    · exact off_add (k0_off3_eq k) 0 _
    · exact off_add (k0_off3_eq k) 1 _

theorem trip_up (X : BufTy.Contents (Elt F) arg5.view.ty) (Y : BufTy.Contents (Elt F) arg6.view.ty)
    (x1 : Vec F S512x2048 .i8) (x2 : Vec F S16x4x512 .f32) (k : Fin k0_t2_loop.trips) :
    ∀ p ∈ tripL_k0_t2 (F := F) 𝒱 c bd i arg2 harg2 arg3 harg3 arg4 harg4 arg5 harg5 arg6 harg6 arg7 harg7 arg8 harg8 arg9 harg9 k0_h1 v14 X Y k,
      ∀ x : p.1.shape.Idx, p.2 x = w0 x1 x2 (arg5.view.read (Elt F) X) (arg6.view.read (Elt F) Y) v14 (p.1.emb x) := by
  have hk : k.val < 16 := Nat.lt_of_lt_of_le k.isLt k0_t2_abs.2.1
  unfold tripL_k0_t2 trip_k0_t2
  dsimp only
  intro p hp x
  simp only [List.mem_cons, List.not_mem_nil, or_false] at hp
  rcases hp with rfl | rfl | rfl | rfl
  · refine Eq.trans (congrFun (tile_read0 arg5 arg6 X Y v14 3 ⟨k.val, hk⟩ (k0_off22_eq k) (k0_off23_eq k) _ _) x) (w0_up _ _ _ _ _ 3 ⟨k.val, hk⟩ x _ ?_ ?_).symm
    · exact off_add (k0_off24_eq k) 0 _
    · exact off_add (k0_off24_eq k) 1 _
  · refine Eq.trans (congrFun (tile_read0 arg5 arg6 X Y v14 2 ⟨k.val, hk⟩ (k0_off19_eq k) (k0_off20_eq k) _ _) x) (w0_up _ _ _ _ _ 2 ⟨k.val, hk⟩ x _ ?_ ?_).symm
    · exact off_add (k0_off21_eq k) 0 _
    · exact off_add (k0_off21_eq k) 1 _
  · refine Eq.trans (congrFun (tile_read0 arg5 arg6 X Y v14 1 ⟨k.val, hk⟩ (k0_off16_eq k) (k0_off17_eq k) _ _) x) (w0_up _ _ _ _ _ 1 ⟨k.val, hk⟩ x _ ?_ ?_).symm
    · exact off_add (k0_off18_eq k) 0 _
    · exact off_add (k0_off18_eq k) 1 _
  · refine Eq.trans (congrFun (tile_read0 arg5 arg6 X Y v14 0 ⟨k.val, hk⟩ (k0_off13_eq k) (k0_off14_eq k) _ _) x) (w0_up _ _ _ _ _ 0 ⟨k.val, hk⟩ x _ ?_ ?_).symm
    · exact off_add (k0_off15_eq k) 0 _
    · exact off_add (k0_off15_eq k) 1 _

/-- Every piece the gate loop writes agrees with the scratch's final contents. -/
theorem pieces_gate (X : BufTy.Contents (Elt F) arg3.view.ty) (Y : BufTy.Contents (Elt F) arg4.view.ty)
    (x3 : Vec F S512x2048 .i8) (x4 : Vec F S16x4x512 .f32) (n : ℕ) (hn : n ≤ k0_t1_loop.trips) :
    ∀ p ∈ pb_k0_t1 (F := F) 𝒱 c bd i arg2 harg2 arg3 harg3 arg4 harg4 arg5 harg5 arg6 harg6 arg7 harg7 arg8 harg8 arg9 harg9 k0_h1 v14 X Y n,
      ∀ x : p.1.shape.Idx, p.2 x = w0 (arg3.view.read (Elt F) X) (arg4.view.read (Elt F) Y) x3 x4 v14 (p.1.emb x) := by
  induction n with
  | zero => intro p hp; exact absurd hp List.not_mem_nil
  | succ n ih =>
    intro p hp
    have e := pb_k0_t1_succ (F := F) 𝒱 c bd i arg2 harg2 arg3 harg3 arg4 harg4 arg5 harg5 arg6 harg6 arg7 harg7 arg8 harg8 arg9 harg9 k0_h1 v14 X Y ⟨n, hn⟩
    dsimp only at e
    rw [e] at hp
    rcases List.mem_append.mp hp with h | h
    · exact trip_gate 𝒱 c bd i arg2 harg2 arg3 harg3 arg4 harg4 arg5 harg5 arg6 harg6 arg7 harg7 arg8 harg8 arg9 harg9 k0_h1 v14 X Y x3 x4 _ p h
    · exact ih (Nat.le_of_succ_le hn) p h

/-- Every piece the up loop writes agrees with the scratch's final contents. -/
theorem pieces_up (X : BufTy.Contents (Elt F) arg5.view.ty) (Y : BufTy.Contents (Elt F) arg6.view.ty)
    (x1 : Vec F S512x2048 .i8) (x2 : Vec F S16x4x512 .f32) (n : ℕ) (hn : n ≤ k0_t2_loop.trips) :
    ∀ p ∈ pb_k0_t2 (F := F) 𝒱 c bd i arg2 harg2 arg3 harg3 arg4 harg4 arg5 harg5 arg6 harg6 arg7 harg7 arg8 harg8 arg9 harg9 k0_h1 v14 X Y n,
      ∀ x : p.1.shape.Idx, p.2 x = w0 x1 x2 (arg5.view.read (Elt F) X) (arg6.view.read (Elt F) Y) v14 (p.1.emb x) := by
  induction n with
  | zero => intro p hp; exact absurd hp List.not_mem_nil
  | succ n ih =>
    intro p hp
    have e := pb_k0_t2_succ (F := F) 𝒱 c bd i arg2 harg2 arg3 harg3 arg4 harg4 arg5 harg5 arg6 harg6 arg7 harg7 arg8 harg8 arg9 harg9 k0_h1 v14 X Y ⟨n, hn⟩
    dsimp only at e
    rw [e] at hp
    rcases List.mem_append.mp hp with h | h
    · exact trip_up 𝒱 c bd i arg2 harg2 arg3 harg3 arg4 harg4 arg5 harg5 arg6 harg6 arg7 harg7 arg8 harg8 arg9 harg9 k0_h1 v14 X Y x1 x2 _ p h
    · exact ih (Nat.le_of_succ_le hn) p h

/-- What the scratch reads after both loops, whatever it held before. -/
theorem read_after_loops (X3 : BufTy.Contents (Elt F) arg3.view.ty) (X4 : BufTy.Contents (Elt F) arg4.view.ty)
    (X5 : BufTy.Contents (Elt F) arg5.view.ty) (X6 : BufTy.Contents (Elt F) arg6.view.ty) (f : BufTy.Contents (Elt F) arg9.view.ty) :
    arg9.view.read (Elt F) (arg9.view.writes (Elt F) f
        (pb_k0_t2 (F := F) 𝒱 c bd i arg2 harg2 arg3 harg3 arg4 harg4 arg5 harg5 arg6 harg6 arg7 harg7 arg8 harg8 arg9 harg9 k0_h1 v14 X5 X6 k0_t2_loop.trips
          ++ pb_k0_t1 (F := F) 𝒱 c bd i arg2 harg2 arg3 harg3 arg4 harg4 arg5 harg5 arg6 harg6 arg7 harg7 arg8 harg8 arg9 harg9 k0_h1 v14 X3 X4 k0_t1_loop.trips))
      = w0 (arg3.view.read (Elt F) X3) (arg4.view.read (Elt F) X4) (arg5.view.read (Elt F) X5) (arg6.view.read (Elt F) X6) v14 := by
  funext y
  refine View.read_writes_apply_of_pieces _ _ _ _ ?_ y ?_
  · intro p hp
    rcases List.mem_append.mp hp with h | h
    · exact pieces_up 𝒱 c bd i arg2 harg2 arg3 harg3 arg4 harg4 arg5 harg5 arg6 harg6 arg7 harg7 arg8 harg8 arg9 harg9 k0_h1 v14 X5 X6 _ _ _ le_rfl p h
    · exact pieces_gate 𝒱 c bd i arg2 harg2 arg3 harg3 arg4 harg4 arg5 harg5 arg6 harg6 arg7 harg7 arg8 harg8 arg9 harg9 k0_h1 v14 X3 X4 _ _ _ le_rfl p h
  · exact View.cover_of_tiledL (pb_k0_t2 (F := F) 𝒱 c bd i arg2 harg2 arg3 harg3 arg4 harg4 arg5 harg5 arg6 harg6 arg7 harg7 arg8 harg8 arg9 harg9 k0_h1 v14 X5 X6 k0_t2_loop.trips
      ++ pb_k0_t1 (F := F) 𝒱 c bd i arg2 harg2 arg3 harg3 arg4 harg4 arg5 harg5 arg6 harg6 arg7 harg7 arg8 harg8 arg9 harg9 k0_h1 v14 X3 X4 k0_t1_loop.trips) S256x128.size (by sl_kernel_rfl) y

end Trip0

section Trip1

variable (𝒱 : Variants) (c : Dev nD) (bd : Option 𝒱.V) (i : grid1.Coords) (arg2 : Memref sig .tc .vmem S256x14336 .bf16) (harg2 : arg2.IsWhole) (arg3 : Memref sig .tc .vmem S512x7168 .i8) (harg3 : arg3.IsWhole) (arg4 : Memref sig .tc .vmem S56x4x512 .f32) (harg4 : arg4.IsWhole) (arg5 : Memref sig .tc .vmem S1x128 .f32) (harg5 : arg5.IsWhole) (arg6 : Memref sig .tc .vmem S256x512 .bf16) (harg6 : arg6.IsWhole) (arg7 : Memref sig .tc .vmem S14336x512 .bf16) (harg7 : arg7.IsWhole) (k1_h1 : k1_cond1 i = 1#1) (v9 : Vec F S1x128 .f32)

theorem tile_read1 (v : Memref sig .tc .vmem S512x7168 .i8) (u : Memref sig .tc .vmem S56x4x512 .f32)
    (X : BufTy.Contents (Elt F) v.view.ty) (Y : BufTy.Contents (Elt F) u.view.ty) (x3 : Vec F S1x128 .f32)
    (g : Fin 4) (k : Fin 56) {o1 : Fin 2 → ℕ} {o2 : Fin 3 → ℕ} (h1 : o1 = ![128 * g.val, 128 * k.val]) (h2 : o2 = ![k.val, 0, 128 * g.val])
    (b1 : ∀ a, o1 a + (![128, 128] : Fin 2 → ℕ) a ≤ S512x7168.size a) (b2 : ∀ a, o2 a + (![1, 4, 128] : Fin 3 → ℕ) a ≤ S56x4x512.size a) :
    tile (table x3) (v.view.readAt (Elt F) (Rect.unit (s := S512x7168) o1 ![128, 128] b1).toLoadRect X)
        (u.view.readAt (Elt F) (Rect.unit (s := S56x4x512) o2 ![1, 4, 128] b2).toLoadRect Y)
      = tileAt1 (v.view.read (Elt F) X) (u.view.read (Elt F) Y) x3 g k := by
  subst h1 h2; rfl

theorem trip_down (X : BufTy.Contents (Elt F) arg3.view.ty) (Y : BufTy.Contents (Elt F) arg4.view.ty) (k : Fin k1_t1_loop.trips) :
    ∀ p ∈ tripL_k1_t1 (F := F) 𝒱 c bd i arg2 harg2 arg3 harg3 arg4 harg4 arg5 harg5 arg6 harg6 arg7 harg7 k1_h1 v9 X Y k,
      ∀ x : p.1.shape.Idx, p.2 x = w1 (arg3.view.read (Elt F) X) (arg4.view.read (Elt F) Y) v9 (p.1.emb x) := by
  have hk : k.val < 56 := Nat.lt_of_lt_of_le k.isLt k1_t1_abs.2.1
  unfold tripL_k1_t1 trip_k1_t1
  dsimp only
  intro p hp x
  simp only [List.mem_cons, List.not_mem_nil, or_false] at hp
  rcases hp with rfl | rfl | rfl | rfl
  · refine Eq.trans (congrFun (tile_read1 arg3 arg4 X Y v9 3 ⟨k.val, hk⟩ (k1_off10_eq k) (k1_off11_eq k) _ _) x) (w1_at _ _ _ 3 ⟨k.val, hk⟩ x _ ?_ ?_).symm
    · exact off_add (k1_off12_eq k) 0 _
    · exact off_add (k1_off12_eq k) 1 _
  · refine Eq.trans (congrFun (tile_read1 arg3 arg4 X Y v9 2 ⟨k.val, hk⟩ (k1_off7_eq k) (k1_off8_eq k) _ _) x) (w1_at _ _ _ 2 ⟨k.val, hk⟩ x _ ?_ ?_).symm
    · exact off_add (k1_off9_eq k) 0 _
    · exact off_add (k1_off9_eq k) 1 _
  · refine Eq.trans (congrFun (tile_read1 arg3 arg4 X Y v9 1 ⟨k.val, hk⟩ (k1_off4_eq k) (k1_off5_eq k) _ _) x) (w1_at _ _ _ 1 ⟨k.val, hk⟩ x _ ?_ ?_).symm
    · exact off_add (k1_off6_eq k) 0 _
    · exact off_add (k1_off6_eq k) 1 _
  · refine Eq.trans (congrFun (tile_read1 arg3 arg4 X Y v9 0 ⟨k.val, hk⟩ (k1_off1_eq k) (k1_off2_eq k) _ _) x) (w1_at _ _ _ 0 ⟨k.val, hk⟩ x _ ?_ ?_).symm
    · exact off_add (k1_off3_eq k) 0 _
    · exact off_add (k1_off3_eq k) 1 _

theorem pieces_down (X : BufTy.Contents (Elt F) arg3.view.ty) (Y : BufTy.Contents (Elt F) arg4.view.ty) (n : ℕ) (hn : n ≤ k1_t1_loop.trips) :
    ∀ p ∈ pb_k1_t1 (F := F) 𝒱 c bd i arg2 harg2 arg3 harg3 arg4 harg4 arg5 harg5 arg6 harg6 arg7 harg7 k1_h1 v9 X Y n,
      ∀ x : p.1.shape.Idx, p.2 x = w1 (arg3.view.read (Elt F) X) (arg4.view.read (Elt F) Y) v9 (p.1.emb x) := by
  induction n with
  | zero => intro p hp; exact absurd hp List.not_mem_nil
  | succ n ih =>
    intro p hp
    have e := pb_k1_t1_succ (F := F) 𝒱 c bd i arg2 harg2 arg3 harg3 arg4 harg4 arg5 harg5 arg6 harg6 arg7 harg7 k1_h1 v9 X Y ⟨n, hn⟩
    dsimp only at e
    rw [e] at hp
    rcases List.mem_append.mp hp with h | h
    · exact trip_down 𝒱 c bd i arg2 harg2 arg3 harg3 arg4 harg4 arg5 harg5 arg6 harg6 arg7 harg7 k1_h1 v9 X Y _ p h
    · exact ih (Nat.le_of_succ_le hn) p h

/-- What the second kernel's scratch reads after its loop, whatever it held before. -/
theorem read_after_loop (X : BufTy.Contents (Elt F) arg3.view.ty) (Y : BufTy.Contents (Elt F) arg4.view.ty) (f : BufTy.Contents (Elt F) arg7.view.ty) :
    arg7.view.read (Elt F) (arg7.view.writes (Elt F) f
        (pb_k1_t1 (F := F) 𝒱 c bd i arg2 harg2 arg3 harg3 arg4 harg4 arg5 harg5 arg6 harg6 arg7 harg7 k1_h1 v9 X Y k1_t1_loop.trips))
      = w1 (arg3.view.read (Elt F) X) (arg4.view.read (Elt F) Y) v9 := by
  funext y
  refine View.read_writes_apply_of_pieces _ _ _ _ ?_ y ?_
  · exact pieces_down 𝒱 c bd i arg2 harg2 arg3 harg3 arg4 harg4 arg5 harg5 arg6 harg6 arg7 harg7 k1_h1 v9 X Y _ le_rfl
  · exact View.cover_of_tiledL (pb_k1_t1 (F := F) 𝒱 c bd i arg2 harg2 arg3 harg3 arg4 harg4 arg5 harg5 arg6 harg6 arg7 harg7 k1_h1 v9 X Y k1_t1_loop.trips) S256x128.size (by sl_kernel_rfl) y

end Trip1

end Cert.Kernel.Hand

end
-- ==== Proof.Bits.Body.lean ====
/- The two kernel bodies, run on any whole memrefs: at a point that opens a column the body decodes the weights into its
   scratch first; at every other point it finds them there. Either way it ends with the product of its block of rows with
   the decoded weights in the output buffer, the decoded weights in the scratch, and its inputs as they were. -/
module

public import proofs.«01_k».proof.Proof.Bits.Decode
public import proofs.«01_k».proof.Proof.Gen.Kernel.Points
public import Idealize.ShloMosaic.Lib.Pipeline.FrameBody
public import Idealize.ShloMosaic.Lib.WholeRead

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [BitOps F]

local notation "𝕄" => MT nD τ sig Unit (Elt F) ℕ (UR sig nD τ) ℕ

/-- What the scratch reads once the decoding is done, from memrefs that hold the blocks. -/
theorem scratch0 (c : Dev nD) (i : grid0.Coords) (arg2 : Memref sig .tc .vmem S512x4096 .bf16) (harg2 : arg2.IsWhole) (arg3 : Memref sig .tc .vmem S512x2048 .i8) (harg3 : arg3.IsWhole) (arg4 : Memref sig .tc .vmem S16x4x512 .f32) (harg4 : arg4.IsWhole) (arg5 : Memref sig .tc .vmem S512x2048 .i8) (harg5 : arg5.IsWhole) (arg6 : Memref sig .tc .vmem S16x4x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S4096x1024 .bf16) (harg9 : arg9.IsWhole) (hc : k0_cond1 i = 1#1) (x1 : Vec F S512x2048 .i8) (x2 : Vec F S16x4x512 .f32) (x3 : Vec F S512x2048 .i8) (x4 : Vec F S16x4x512 .f32) (x5 : Vec F S1x128 .f32) (f : BufTy.Contents (Elt F) arg9.view.ty) :
    arg9.view.read (Elt F) (arg9.view.writes (Elt F) f
        (pb_k0_t2 (F := F) Variants.none c none i arg2 harg2 arg3 harg3 arg4 harg4 arg5 harg5 arg6 harg6 arg7 harg7 arg8 harg8 arg9 harg9 hc (arg7.view.readAt (Elt F) (Rect.unit (s := S1x128) ![0, 0] S1x128.size inb_S1x128_S1x128_0_0).toLoadRect (harg7.unread x5)) (harg5.unread x3) (harg6.unread x4) k0_t2_loop.trips
          ++ pb_k0_t1 (F := F) Variants.none c none i arg2 harg2 arg3 harg3 arg4 harg4 arg5 harg5 arg6 harg6 arg7 harg7 arg8 harg8 arg9 harg9 hc (arg7.view.readAt (Elt F) (Rect.unit (s := S1x128) ![0, 0] S1x128.size inb_S1x128_S1x128_0_0).toLoadRect (harg7.unread x5)) (harg3.unread x1) (harg4.unread x2) k0_t1_loop.trips))
      = w0 x1 x2 x3 x4 x5 := by
  rw [View.readAt_full, read_after_loops, harg3.read_unread, harg4.read_unread, harg5.read_unread, harg6.read_unread, harg7.read_unread]

/-- What the scratch reads once the decoding is done, from memrefs that hold the blocks. -/
theorem scratch1 (c : Dev nD) (i : grid1.Coords) (arg2 : Memref sig .tc .vmem S256x14336 .bf16) (harg2 : arg2.IsWhole) (arg3 : Memref sig .tc .vmem S512x7168 .i8) (harg3 : arg3.IsWhole) (arg4 : Memref sig .tc .vmem S56x4x512 .f32) (harg4 : arg4.IsWhole) (arg5 : Memref sig .tc .vmem S1x128 .f32) (harg5 : arg5.IsWhole) (arg6 : Memref sig .tc .vmem S256x512 .bf16) (harg6 : arg6.IsWhole) (arg7 : Memref sig .tc .vmem S14336x512 .bf16) (harg7 : arg7.IsWhole) (hc : k1_cond1 i = 1#1) (x1 : Vec F S512x7168 .i8) (x2 : Vec F S56x4x512 .f32) (x3 : Vec F S1x128 .f32) (f : BufTy.Contents (Elt F) arg7.view.ty) :
    arg7.view.read (Elt F) (arg7.view.writes (Elt F) f
        (pb_k1_t1 (F := F) Variants.none c none i arg2 harg2 arg3 harg3 arg4 harg4 arg5 harg5 arg6 harg6 arg7 harg7 hc (arg5.view.readAt (Elt F) (Rect.unit (s := S1x128) ![0, 0] S1x128.size inb_S1x128_S1x128_0_0).toLoadRect (harg5.unread x3)) (harg3.unread x1) (harg4.unread x2) k1_t1_loop.trips))
      = w1 x1 x2 x3 := by
  rw [View.readAt_full, read_after_loop, harg3.read_unread, harg4.read_unread, harg5.read_unread]

set_option maxHeartbeats 1000000 in
/-- A point that opens a column: the scratch at anything before. -/
theorem run0_A (c : Dev nD) (i : grid0.Coords) (arg2 : Memref sig .tc .vmem S512x4096 .bf16) (harg2 : arg2.IsWhole) (arg3 : Memref sig .tc .vmem S512x2048 .i8) (harg3 : arg3.IsWhole) (arg4 : Memref sig .tc .vmem S16x4x512 .f32) (harg4 : arg4.IsWhole) (arg5 : Memref sig .tc .vmem S512x2048 .i8) (harg5 : arg5.IsWhole) (arg6 : Memref sig .tc .vmem S16x4x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S4096x1024 .bf16) (harg9 : arg9.IsWhole) (hc : k0_cond1 i = 1#1)
    (x0 : Vec F S512x4096 .bf16) (x1 : Vec F S512x2048 .i8) (x2 : Vec F S16x4x512 .f32) (x3 : Vec F S512x2048 .i8) (x4 : Vec F S16x4x512 .f32) (x5 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (hTile x0 (w0 x1 x2 x3 x4 x5)) ∗ owns (c : Thread nD τ) arg9 fullShare (w0 x1 x2 x3 x4 x5)) -∗ K ⟨⟩))
      ⊢ wp frame (wpE (defs₀ (F := F)) Variants.none c none) E (cc0_gate_up i arg2 harg2 arg3 harg3 arg4 harg4 arg5 harg5 arg6 harg6 arg7 harg7 arg8 harg8 arg9 harg9) K := by
  simp only [cc0_gate_up_eq_skeleton]; unfold cc0_gate_up_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_full ..).trans ?_
    refine (congrArg₂ hTile ((View.readAt_full ..).trans (harg2.read_unread x0)) ((View.readAt_full ..).trans ?_))
    exact scratch0 c i arg2 harg2 arg3 harg3 arg4 harg4 arg5 harg5 arg6 harg6 arg7 harg7 arg8 harg8 arg9 harg9 hc x1 x2 x3 x4 x5 _
  iexists _; isplitr
  swap; · iexact HS
  ipureintro
  exact scratch0 c i arg2 harg2 arg3 harg3 arg4 harg4 arg5 harg5 arg6 harg6 arg7 harg7 arg8 harg8 arg9 harg9 hc x1 x2 x3 x4 x5 _

set_option maxHeartbeats 1000000 in
/-- Any other point: the scratch holds the weights `w` before. -/
theorem run0_B (c : Dev nD) (i : grid0.Coords) (arg2 : Memref sig .tc .vmem S512x4096 .bf16) (harg2 : arg2.IsWhole) (arg3 : Memref sig .tc .vmem S512x2048 .i8) (harg3 : arg3.IsWhole) (arg4 : Memref sig .tc .vmem S16x4x512 .f32) (harg4 : arg4.IsWhole) (arg5 : Memref sig .tc .vmem S512x2048 .i8) (harg5 : arg5.IsWhole) (arg6 : Memref sig .tc .vmem S16x4x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S4096x1024 .bf16) (harg9 : arg9.IsWhole) (hc : ¬ k0_cond1 i = 1#1)
    (x0 : Vec F S512x4096 .bf16) (x1 : Vec F S512x2048 .i8) (x2 : Vec F S16x4x512 .f32) (x3 : Vec F S512x2048 .i8) (x4 : Vec F S16x4x512 .f32) (x5 : Vec F S1x128 .f32) (w : Vec F S4096x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare w
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (hTile x0 w) ∗ owns (c : Thread nD τ) arg9 fullShare w) -∗ K ⟨⟩))
      ⊢ wp frame (wpE (defs₀ (F := F)) Variants.none c none) E (cc0_gate_up i arg2 harg2 arg3 harg3 arg4 harg4 arg5 harg5 arg6 harg6 arg7 harg7 arg8 harg8 arg9 harg9) K := by
  simp only [cc0_gate_up_eq_skeleton]; unfold cc0_gate_up_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_full ..).trans ?_
    exact (congrArg₂ hTile ((View.readAt_full ..).trans (harg2.read_unread x0)) ((View.readAt_full ..).trans (harg9.read_unread w)))
  iexists _; isplitr
  swap; · iexact HS
  ipureintro
  exact harg9.read_unread w

set_option maxHeartbeats 1000000 in
/-- A point that opens a column: the scratch at anything before. -/
theorem run1_A (c : Dev nD) (i : grid1.Coords) (arg2 : Memref sig .tc .vmem S256x14336 .bf16) (harg2 : arg2.IsWhole) (arg3 : Memref sig .tc .vmem S512x7168 .i8) (harg3 : arg3.IsWhole) (arg4 : Memref sig .tc .vmem S56x4x512 .f32) (harg4 : arg4.IsWhole) (arg5 : Memref sig .tc .vmem S1x128 .f32) (harg5 : arg5.IsWhole) (arg6 : Memref sig .tc .vmem S256x512 .bf16) (harg6 : arg6.IsWhole) (arg7 : Memref sig .tc .vmem S14336x512 .bf16) (harg7 : arg7.IsWhole) (hc : k1_cond1 i = 1#1)
    (x0 : Vec F S256x14336 .bf16) (x1 : Vec F S512x7168 .i8) (x2 : Vec F S56x4x512 .f32) (x3 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (yTile x0 (w1 x1 x2 x3)) ∗ owns (c : Thread nD τ) arg7 fullShare (w1 x1 x2 x3)) -∗ K ⟨⟩))
      ⊢ wp frame (wpE (defs₀ (F := F)) Variants.none c none) E (cc1_down i arg2 harg2 arg3 harg3 arg4 harg4 arg5 harg5 arg6 harg6 arg7 harg7) K := by
  simp only [cc1_down_eq_skeleton]; unfold cc1_down_skel
  unfold owns
  iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
  obtain rfl := harg2.eq_unread hf0; obtain rfl := harg3.eq_unread hf1; obtain rfl := harg4.eq_unread hf2; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (View.read_writes_full ..).trans ?_
    refine (congrArg₂ yTile ((View.readAt_full ..).trans (harg2.read_unread x0)) ((View.readAt_full ..).trans ?_))
    exact scratch1 c i arg2 harg2 arg3 harg3 arg4 harg4 arg5 harg5 arg6 harg6 arg7 harg7 hc x1 x2 x3 _
  iexists _; isplitr
  swap; · iexact HS
  ipureintro
  exact scratch1 c i arg2 harg2 arg3 harg3 arg4 harg4 arg5 harg5 arg6 harg6 arg7 harg7 hc x1 x2 x3 _

set_option maxHeartbeats 1000000 in
/-- Any other point: the scratch holds the weights `w` before. -/
theorem run1_B (c : Dev nD) (i : grid1.Coords) (arg2 : Memref sig .tc .vmem S256x14336 .bf16) (harg2 : arg2.IsWhole) (arg3 : Memref sig .tc .vmem S512x7168 .i8) (harg3 : arg3.IsWhole) (arg4 : Memref sig .tc .vmem S56x4x512 .f32) (harg4 : arg4.IsWhole) (arg5 : Memref sig .tc .vmem S1x128 .f32) (harg5 : arg5.IsWhole) (arg6 : Memref sig .tc .vmem S256x512 .bf16) (harg6 : arg6.IsWhole) (arg7 : Memref sig .tc .vmem S14336x512 .bf16) (harg7 : arg7.IsWhole) (hc : ¬ k1_cond1 i = 1#1)
    (x0 : Vec F S256x14336 .bf16) (x1 : Vec F S512x7168 .i8) (x2 : Vec F S56x4x512 .f32) (x3 : Vec F S1x128 .f32) (w : Vec F S14336x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare w
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (yTile x0 w) ∗ owns (c : Thread nD τ) arg7 fullShare w) -∗ K ⟨⟩))
      ⊢ wp frame (wpE (defs₀ (F := F)) Variants.none c none) E (cc1_down i arg2 harg2 arg3 harg3 arg4 harg4 arg5 harg5 arg6 harg6 arg7 harg7) K := by
  simp only [cc1_down_eq_skeleton]; unfold cc1_down_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2; obtain rfl := harg5.eq_unread hf3; obtain rfl := harg7.eq_unread hfs
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (View.read_writes_full ..).trans ?_
    exact (congrArg₂ yTile ((View.readAt_full ..).trans (harg2.read_unread x0)) ((View.readAt_full ..).trans (harg7.read_unread w)))
  iexists _; isplitr
  swap; · iexact HS
  ipureintro
  exact harg7.read_unread w

end Cert.Kernel.Hand

end
-- ==== Proof.Bits.Region0.lean ====
/-
  Region 0: its proof data over the contents `W` the region is entered with, and the obligation of its body.
  The scratch holds the decoded weights of the current block of columns: decoded at the first point of each
  block (the points ≡ 0 mod 12), kept at the others.
-/
module

public import proofs.«01_k».proof.Proof.Bits.Body
public import proofs.«01_k».proof.Proof.Gen.Kernel.Launch
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [BitOps F]

local notation "𝕄" => MT nD τ sig Unit (Elt F) ℕ (UR sig nD τ) ℕ

variable (W : Dev nD → Valuation τ sig (Elt F))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The decoded weights of the block of columns point `t` lies in. -/
def wt0 (c : Dev nD) (t : Fin cfg0.N) : Vec F S4096x1024 .bf16 := w0 (iblk0 W c 1 t) (iblk0 W c 2 t) (iblk0 W c 3 t) (iblk0 W c 4 t) (iblk0 W c 5 t)

/-- The body's condition holds at the points ≡ 0 (mod 12). -/
theorem hcond0 : ∀ t : Fin cfg0.N, k0_cond1 (grid0.coords t) = 1#1 ↔ t.val % 12 = 0 :=
  (fun t => by
    have ht : t.val < 336 := Nat.lt_of_lt_of_eq t.isLt N_0
    have e0 : (grid0.coords t 0).val = t.val / 12 % 28 := Pipeline.Grid.coords_val t 0 (by decide) rfl
    have e1 : (grid0.coords t 1).val = t.val / 1 % 12 := Pipeline.Grid.coords_val t 1 (by decide) rfl
    simp only [k0_cond1, e0, e1]
    word_cmp
   : ∀ t : Fin grid0.N, k0_cond1 (grid0.coords t) = 1#1 ↔ t.val % 12 = 0)

/-- Two points of one block of columns have the same first coordinate. -/
theorem coord0 (t u : Fin cfg0.N) (h : u.val / 12 = t.val / 12) : grid0.coords u 0 = grid0.coords t 0 := by
  apply Fin.ext
  rw [show (grid0.coords u 0).val = u.val / 12 % 28 from Pipeline.Grid.coords_val u 0 (by decide) rfl,
    show (grid0.coords t 0).val = t.val / 12 % 28 from Pipeline.Grid.coords_val t 0 (by decide) rfl, h]

theorem stay0_1 (c : Dev nD) (t u : Fin cfg0.N) (h : u.val / 12 = t.val / 12) :
    (iblk0 W c 1 u : Vec F S512x2048 .i8) = iblk0 W c 1 t := by
  have hi : win0_1.index u = win0_1.index t := by
    show cc0_transform_1 (grid0.coords u) = cc0_transform_1 (grid0.coords t)
    unfold cc0_transform_1; rw [coord0 t u h]
  funext y
  refine congrArg (W c (Proc.devRef .tc (Pipeline.arrRef spec0 1))) (funext fun a => Fin.ext ?_)
  show win0_1.index u a * win0_1.size a + 1 * (y a).val = win0_1.index t a * win0_1.size a + 1 * (y a).val
  rw [hi]
theorem stay0_2 (c : Dev nD) (t u : Fin cfg0.N) (h : u.val / 12 = t.val / 12) :
    (iblk0 W c 2 u : Vec F S16x4x512 .f32) = iblk0 W c 2 t := by
  have hi : win0_2.index u = win0_2.index t := by
    show cc0_transform_2 (grid0.coords u) = cc0_transform_2 (grid0.coords t)
    unfold cc0_transform_2; rw [coord0 t u h]
  funext y
  refine congrArg (W c (Proc.devRef .tc (Pipeline.arrRef spec0 2))) (funext fun a => Fin.ext ?_)
  show win0_2.index u a * win0_2.size a + 1 * (y a).val = win0_2.index t a * win0_2.size a + 1 * (y a).val
  rw [hi]
theorem stay0_3 (c : Dev nD) (t u : Fin cfg0.N) (h : u.val / 12 = t.val / 12) :
    (iblk0 W c 3 u : Vec F S512x2048 .i8) = iblk0 W c 3 t := by
  have hi : win0_3.index u = win0_3.index t := by
    show cc0_transform_3 (grid0.coords u) = cc0_transform_3 (grid0.coords t)
    unfold cc0_transform_3; rw [coord0 t u h]
  funext y
  refine congrArg (W c (Proc.devRef .tc (Pipeline.arrRef spec0 3))) (funext fun a => Fin.ext ?_)
  show win0_3.index u a * win0_3.size a + 1 * (y a).val = win0_3.index t a * win0_3.size a + 1 * (y a).val
  rw [hi]
theorem stay0_4 (c : Dev nD) (t u : Fin cfg0.N) (h : u.val / 12 = t.val / 12) :
    (iblk0 W c 4 u : Vec F S16x4x512 .f32) = iblk0 W c 4 t := by
  have hi : win0_4.index u = win0_4.index t := by
    show cc0_transform_4 (grid0.coords u) = cc0_transform_4 (grid0.coords t)
    unfold cc0_transform_4; rw [coord0 t u h]
  funext y
  refine congrArg (W c (Proc.devRef .tc (Pipeline.arrRef spec0 4))) (funext fun a => Fin.ext ?_)
  show win0_4.index u a * win0_4.size a + 1 * (y a).val = win0_4.index t a * win0_4.size a + 1 * (y a).val
  rw [hi]
theorem stay0_5 (c : Dev nD) (t u : Fin cfg0.N) (h : u.val / 12 = t.val / 12) :
    (iblk0 W c 5 u : Vec F S1x128 .f32) = iblk0 W c 5 t := by
  have hi : win0_5.index u = win0_5.index t := by
    show cc0_transform_5 (grid0.coords u) = cc0_transform_5 (grid0.coords t)
    unfold cc0_transform_5; rfl
  funext y
  refine congrArg (W c (Proc.devRef .tc (Pipeline.arrRef spec0 5))) (funext fun a => Fin.ext ?_)
  show win0_5.index u a * win0_5.size a + 1 * (y a).val = win0_5.index t a * win0_5.size a + 1 * (y a).val
  rw [hi]

/-- The weight blocks, the scales and the table depend on the first coordinate alone, so the decoded weights are
    the same at every point of a block of columns. -/
theorem wt0_stay (c : Dev nD) (t u : Fin cfg0.N) (h : u.val / 12 = t.val / 12) : wt0 W c u = wt0 W c t := by
  unfold wt0
  rw [stay0_1 W c t u h, stay0_2 W c t u h, stay0_3 W c t u h, stay0_4 W c t u h, stay0_5 W c t u h]

/-! ## Memrefs and the invariant -/

abbrev ms0_0 (t : Fin cfg0.N) : Memref sig .tc .vmem S512x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x4x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x4x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .bf16 := win0_6.stage (cfg0.slots t 6)
abbrev hs0_6 (t : Fin cfg0.N) : (ms0_6 t).IsWhole := hstage0_6 ((cfg0.slots t 6).cast nbuf0_6)
/-- The scratch, as the body takes it. -/
abbrev scM0 : Memref sig .tc .vmem S4096x1024 .bf16 := Memref.whole cc0_scratch0

/-- Every scoped buffer beside the staging buffers and the scratch, at anything. -/
abbrev rest0 (c : Dev nD) : sProp 𝕄 := Pipeline.scopedRestBut (Ix := Unit) (Name := ℕ) (U := UR sig nD τ) (Lvl := ℕ) (Val := Elt F) spec0 c [cc0_scratch0]

/-- What the launch hands the region, the scratch taken out. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA
  rw [Pipeline.scopedRest_split_of_list spec0 c [cc0_scratch0] (by decide) (by decide)]
  simp only [scM0, owns_whole]; try rfl

/-- The invariant before position `n`: before the first point the scratch at anything, afterwards at the decoded
    weights of the point before. -/
def Phi0 (c : Dev nD) : (n : ℕ) → n ≤ cfg0.N → sProp 𝕄
  | 0, _ => Pipeline.ΦA spec0 c
  | n + 1, hn => iprop((owns (c : Thread nD τ) scM0 fullShare (wt0 W c ⟨n, hn⟩) ∗ rest0 (F := F) c) ∗ (∃ r, prngReg c r))

theorem Phi0_zero (c : Dev nD) (n : ℕ) (h : n ≤ cfg0.N) (hz : n = 0) : Phi0 W c n h = Pipeline.ΦA spec0 c := by
  subst hz; rfl
theorem Phi0_succ (c : Dev nD) (n : ℕ) (hn : n < cfg0.N) :
    Phi0 W c (n + 1) hn = iprop((owns (c : Thread nD τ) scM0 fullShare (wt0 W c ⟨n, hn⟩) ∗ rest0 (F := F) c) ∗ (∃ r, prngReg c r)) := rfl
theorem Phi0_pos (c : Dev nD) (n : ℕ) (h : n ≤ cfg0.N) (hz : n ≠ 0) :
    Phi0 W c n h = iprop((owns (c : Thread nD τ) scM0 fullShare (wt0 W c ⟨n - 1, by omega⟩) ∗ rest0 (F := F) c) ∗ (∃ r, prngReg c r)) := by
  cases n with
  | zero => exact absurd rfl hz
  | succ n => rfl

/-! ## The proof data -/

/-- The proof data: the arrays at `W`; after the body each input's buffer at its block, the output's at the product
    with the decoded weights. -/
def dat0 (c : Dev nD) : Dat τ (Elt F) Unit ℕ (UR sig nD τ) ℕ cfg0 c where
  A w := W c (Proc.devRef .tc (Pipeline.arrRef spec0 w))
  after w t := match w with
    | ⟨0, _⟩ => iblk0 W c 0 t
    | ⟨1, _⟩ => iblk0 W c 1 t
    | ⟨2, _⟩ => iblk0 W c 2 t
    | ⟨3, _⟩ => iblk0 W c 3 t
    | ⟨4, _⟩ => iblk0 W c 4 t
    | ⟨5, _⟩ => iblk0 W c 5 t
    | ⟨6, _⟩ => hTile (iblk0 W c 0 t) (wt0 W c t)
  Φ t := Phi0 W c t.val (Nat.le_of_lt_succ t.isLt)
  q _ := fullShare
  owed _ := 0

theorem A_eq0 (c : Dev nD) (w : Fin cfg0.W) : (dat0 W c).A w = W c (Proc.devRef .tc (Pipeline.arrRef spec0 w)) := by
  dsimp only [dat0]
theorem Phi0_castSucc (c : Dev nD) (t : Fin cfg0.N) : (dat0 W c).Φ t.castSucc = Phi0 W c t.val (Nat.le_of_lt t.isLt) := by
  dsimp only [dat0]; exact Pipeline.Dat.Φ_castSucc (Phi0 W c) t
theorem after0_0 (c : Dev nD) (t : Fin cfg0.N) : (dat0 W c).after 0 t = iblk0 W c 0 t := by dsimp only [dat0]
theorem after0_1 (c : Dev nD) (t : Fin cfg0.N) : (dat0 W c).after 1 t = iblk0 W c 1 t := by dsimp only [dat0]
theorem after0_2 (c : Dev nD) (t : Fin cfg0.N) : (dat0 W c).after 2 t = iblk0 W c 2 t := by dsimp only [dat0]
theorem after0_3 (c : Dev nD) (t : Fin cfg0.N) : (dat0 W c).after 3 t = iblk0 W c 3 t := by dsimp only [dat0]
theorem after0_4 (c : Dev nD) (t : Fin cfg0.N) : (dat0 W c).after 4 t = iblk0 W c 4 t := by dsimp only [dat0]
theorem after0_5 (c : Dev nD) (t : Fin cfg0.N) : (dat0 W c).after 5 t = iblk0 W c 5 t := by dsimp only [dat0]
theorem after0_6 (c : Dev nD) (t : Fin cfg0.N) : (dat0 W c).after 6 t = hTile (iblk0 W c 0 t) (wt0 W c t) := by dsimp only [dat0]
theorem before0_0 (c : Dev nD) (t : Fin cfg0.N) (d) : (dat0 W c).before 0 t d = iblk0 W c 0 t :=
  ((dat0 W c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 W c).before 1 t d = iblk0 W c 1 t :=
  ((dat0 W c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 W c).before 2 t d = iblk0 W c 2 t :=
  ((dat0 W c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 W c).before 3 t d = iblk0 W c 3 t :=
  ((dat0 W c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 W c).before 4 t d = iblk0 W c 4 t :=
  ((dat0 W c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 W c).before 5 t d = iblk0 W c 5 t :=
  ((dat0 W c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)

/-! ## The body obligation -/

/-- What the body is called with at point `t`, -/
def bodyPre0 (c : Dev nD) (t : Fin cfg0.N) : sProp 𝕄 :=
  iprop((dat0 W c).Φ t.castSucc ∗ (dat0 W c).owesAt () t.castSucc
    ∗ (∃ d, owns (c : Thread nD τ) (ms0_0 t) fullShare ((dat0 W c).before 0 t d))
    ∗ (∃ d, owns (c : Thread nD τ) (ms0_1 t) fullShare ((dat0 W c).before 1 t d))
    ∗ (∃ d, owns (c : Thread nD τ) (ms0_2 t) fullShare ((dat0 W c).before 2 t d))
    ∗ (∃ d, owns (c : Thread nD τ) (ms0_3 t) fullShare ((dat0 W c).before 3 t d))
    ∗ (∃ d, owns (c : Thread nD τ) (ms0_4 t) fullShare ((dat0 W c).before 4 t d))
    ∗ (∃ d, owns (c : Thread nD τ) (ms0_5 t) fullShare ((dat0 W c).before 5 t d))
    ∗ (∃ d, owns (c : Thread nD τ) (ms0_6 t) fullShare ((dat0 W c).before 6 t d)))

/-- and what it returns. -/
def bodyPost0 (c : Dev nD) (t : Fin cfg0.N) : sProp 𝕄 :=
  iprop((dat0 W c).Φ t.succ ∗ (dat0 W c).owesAt () t.succ
    ∗ owns (c : Thread nD τ) (ms0_0 t) fullShare ((dat0 W c).after 0 t)
    ∗ owns (c : Thread nD τ) (ms0_1 t) fullShare ((dat0 W c).after 1 t)
    ∗ owns (c : Thread nD τ) (ms0_2 t) fullShare ((dat0 W c).after 2 t)
    ∗ owns (c : Thread nD τ) (ms0_3 t) fullShare ((dat0 W c).after 3 t)
    ∗ owns (c : Thread nD τ) (ms0_4 t) fullShare ((dat0 W c).after 4 t)
    ∗ owns (c : Thread nD τ) (ms0_5 t) fullShare ((dat0 W c).after 5 t)
    ∗ owns (c : Thread nD τ) (ms0_6 t) fullShare ((dat0 W c).after 6 t))

set_option maxHeartbeats 3200000 in
/-- The body at any point. -/
theorem sound_body0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1, before0_2, before0_3, before0_4, before0_5]
  rw [show (dat0 W c).owesAt () t.succ = (dat0 W c).owesAt () t.castSucc from rfl, after0_0, after0_1, after0_2, after0_3, after0_4, after0_5, after0_6]
  rw [show (dat0 W c).Φ t.succ = Phi0 W c (t.val + 1) t.isLt from rfl, Phi0_succ]
  by_cases h0 : t.val % 12 = 0
  · by_cases hz : t.val = 0
    · rw [Phi0_castSucc W c t, Phi0_zero W c _ _ hz, PhiA0_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (run0_A c (grid0.coords t) _ _ _ _ _ _ _ _ _ _ _ _ _ _ _ _ ((hcond0 t).mpr h0) (iblk0 W c 0 t) (iblk0 W c 1 t) (iblk0 W c 2 t) (iblk0 W c 3 t) (iblk0 W c 4 t) (iblk0 W c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Phi0_castSucc W c t, Phi0_pos W c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (run0_A c (grid0.coords t) _ _ _ _ _ _ _ _ _ _ _ _ _ _ _ _ ((hcond0 t).mpr h0) (iblk0 W c 0 t) (iblk0 W c 1 t) (iblk0 W c 2 t) (iblk0 W c 3 t) (iblk0 W c 4 t) (iblk0 W c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexists _; iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz : t.val ≠ 0 := fun hz => h0 (by rw [hz])
    rw [Phi0_castSucc W c t, Phi0_pos W c _ _ hz, wt0_stay W c t ⟨t.val - 1, by omega⟩ (by dsimp only; omega)]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (run0_B c (grid0.coords t) _ _ _ _ _ _ _ _ _ _ _ _ _ _ _ _ (fun h => h0 ((hcond0 t).mp h)) (iblk0 W c 0 t) (iblk0 W c 1 t) (iblk0 W c 2 t) (iblk0 W c 3 t) (iblk0 W c 4 t) (iblk0 W c 5 t) (wt0 W c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 (F := F) W c) (defs₀ (F := F)) Variants.none () Set.univ := fun t => by
  rw [bigSep_W0, bigSep_W0, defs₀_row0]
  exact triple_restated (sound_body0 W c t) rfl .rfl fun _ => .rfl

/-- What the launch hands the region is the invariant before the first point, -/
theorem hin0 (c : Dev nD) : Pipeline.ΦA spec0 c ⊢ (dat0 W c).Φ 0 := by
  rw [show (dat0 W c).Φ 0 = Phi0 W c 0 (Nat.zero_le _) from rfl, Phi0_zero W c 0 _ rfl]

/-- and after the last point the invariant gives it back. -/
theorem hout0 (c : Dev nD) : (dat0 W c).Φ (Fin.last cfg0.N) ⊢ Pipeline.ΦA spec0 c := by
  have hN : cfg0.N = 336 := N_0
  rw [show (dat0 W c).Φ (Fin.last cfg0.N) = Phi0 W c cfg0.N (le_refl _) from rfl, Phi0_pos W c _ _ (by omega), PhiA0_eq]
  iintro ⟨⟨HS, HR⟩, Hg⟩
  isplitr [Hg]
  · isplitl [HS]
    · iexists _; iexact HS
    iexact HR
  iexact Hg

end Cert.Kernel.Hand

end
-- ==== Proof.Bits.Region1.lean ====
/-
  Region 1: its proof data over the contents `W` the region is entered with, and the obligation of its body.
  The scratch holds the decoded weights of the current block of columns: decoded at the first point of each
  block (the points ≡ 0 mod 24), kept at the others.
-/
module

public import proofs.«01_k».proof.Proof.Bits.Body
public import proofs.«01_k».proof.Proof.Gen.Kernel.Launch
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [BitOps F]

local notation "𝕄" => MT nD τ sig Unit (Elt F) ℕ (UR sig nD τ) ℕ

variable (W : Dev nD → Valuation τ sig (Elt F))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The decoded weights of the block of columns point `t` lies in. -/
def wt1 (c : Dev nD) (t : Fin cfg1.N) : Vec F S14336x512 .bf16 := w1 (iblk1 W c 1 t) (iblk1 W c 2 t) (iblk1 W c 3 t)

/-- The body's condition holds at the points ≡ 0 (mod 24). -/
theorem hcond1 : ∀ t : Fin cfg1.N, k1_cond1 (grid1.coords t) = 1#1 ↔ t.val % 24 = 0 :=
  (fun t => by
    have ht : t.val < 192 := Nat.lt_of_lt_of_eq t.isLt N_1
    have e0 : (grid1.coords t 0).val = t.val / 24 % 8 := Pipeline.Grid.coords_val t 0 (by decide) rfl
    have e1 : (grid1.coords t 1).val = t.val / 1 % 24 := Pipeline.Grid.coords_val t 1 (by decide) rfl
    simp only [k1_cond1, e0, e1]
    word_cmp
   : ∀ t : Fin grid1.N, k1_cond1 (grid1.coords t) = 1#1 ↔ t.val % 24 = 0)

/-- Two points of one block of columns have the same first coordinate. -/
theorem coord1 (t u : Fin cfg1.N) (h : u.val / 24 = t.val / 24) : grid1.coords u 0 = grid1.coords t 0 := by
  apply Fin.ext
  rw [show (grid1.coords u 0).val = u.val / 24 % 8 from Pipeline.Grid.coords_val u 0 (by decide) rfl,
    show (grid1.coords t 0).val = t.val / 24 % 8 from Pipeline.Grid.coords_val t 0 (by decide) rfl, h]

theorem stay1_1 (c : Dev nD) (t u : Fin cfg1.N) (h : u.val / 24 = t.val / 24) :
    (iblk1 W c 1 u : Vec F S512x7168 .i8) = iblk1 W c 1 t := by
  have hi : win1_1.index u = win1_1.index t := by
    show cc1_transform_1 (grid1.coords u) = cc1_transform_1 (grid1.coords t)
    unfold cc1_transform_1; rw [coord1 t u h]
  funext y
  refine congrArg (W c (Proc.devRef .tc (Pipeline.arrRef spec1 1))) (funext fun a => Fin.ext ?_)
  show win1_1.index u a * win1_1.size a + 1 * (y a).val = win1_1.index t a * win1_1.size a + 1 * (y a).val
  rw [hi]
theorem stay1_2 (c : Dev nD) (t u : Fin cfg1.N) (h : u.val / 24 = t.val / 24) :
    (iblk1 W c 2 u : Vec F S56x4x512 .f32) = iblk1 W c 2 t := by
  have hi : win1_2.index u = win1_2.index t := by
    show cc1_transform_2 (grid1.coords u) = cc1_transform_2 (grid1.coords t)
    unfold cc1_transform_2; rw [coord1 t u h]
  funext y
  refine congrArg (W c (Proc.devRef .tc (Pipeline.arrRef spec1 2))) (funext fun a => Fin.ext ?_)
  show win1_2.index u a * win1_2.size a + 1 * (y a).val = win1_2.index t a * win1_2.size a + 1 * (y a).val
  rw [hi]
theorem stay1_3 (c : Dev nD) (t u : Fin cfg1.N) (h : u.val / 24 = t.val / 24) :
    (iblk1 W c 3 u : Vec F S1x128 .f32) = iblk1 W c 3 t := by
  have hi : win1_3.index u = win1_3.index t := by
    show cc1_transform_3 (grid1.coords u) = cc1_transform_3 (grid1.coords t)
    unfold cc1_transform_3; rfl
  funext y
  refine congrArg (W c (Proc.devRef .tc (Pipeline.arrRef spec1 3))) (funext fun a => Fin.ext ?_)
  show win1_3.index u a * win1_3.size a + 1 * (y a).val = win1_3.index t a * win1_3.size a + 1 * (y a).val
  rw [hi]

/-- The weight blocks, the scales and the table depend on the first coordinate alone, so the decoded weights are
    the same at every point of a block of columns. -/
theorem wt1_stay (c : Dev nD) (t u : Fin cfg1.N) (h : u.val / 24 = t.val / 24) : wt1 W c u = wt1 W c t := by
  unfold wt1
  rw [stay1_1 W c t u h, stay1_2 W c t u h, stay1_3 W c t u h]

/-! ## Memrefs and the invariant -/

abbrev ms1_0 (t : Fin cfg1.N) : Memref sig .tc .vmem S256x14336 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x7168 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S56x4x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x512 .bf16 := win1_4.stage (cfg1.slots t 4)
abbrev hs1_4 (t : Fin cfg1.N) : (ms1_4 t).IsWhole := hstage1_4 ((cfg1.slots t 4).cast nbuf1_4)
/-- The scratch, as the body takes it. -/
abbrev scM1 : Memref sig .tc .vmem S14336x512 .bf16 := Memref.whole cc1_scratch0

/-- Every scoped buffer beside the staging buffers and the scratch, at anything. -/
abbrev rest1 (c : Dev nD) : sProp 𝕄 := Pipeline.scopedRestBut (Ix := Unit) (Name := ℕ) (U := UR sig nD τ) (Lvl := ℕ) (Val := Elt F) spec1 c [cc1_scratch0]

/-- What the launch hands the region, the scratch taken out. -/
theorem PhiA1_eq (c : Dev nD) :
    (Pipeline.ΦA spec1 c : sProp 𝕄)
      = iprop(((∃ d, owns (c : Thread nD τ) scM1 fullShare d) ∗ rest1 (F := F) c) ∗ (∃ r, prngReg c r)) := by
  unfold Pipeline.ΦA
  rw [Pipeline.scopedRest_split_of_list spec1 c [cc1_scratch0] (by decide) (by decide)]
  simp only [scM1, owns_whole]; try rfl

/-- The invariant before position `n`: before the first point the scratch at anything, afterwards at the decoded
    weights of the point before. -/
def Phi1 (c : Dev nD) : (n : ℕ) → n ≤ cfg1.N → sProp 𝕄
  | 0, _ => Pipeline.ΦA spec1 c
  | n + 1, hn => iprop((owns (c : Thread nD τ) scM1 fullShare (wt1 W c ⟨n, hn⟩) ∗ rest1 (F := F) c) ∗ (∃ r, prngReg c r))

theorem Phi1_zero (c : Dev nD) (n : ℕ) (h : n ≤ cfg1.N) (hz : n = 0) : Phi1 W c n h = Pipeline.ΦA spec1 c := by
  subst hz; rfl
theorem Phi1_succ (c : Dev nD) (n : ℕ) (hn : n < cfg1.N) :
    Phi1 W c (n + 1) hn = iprop((owns (c : Thread nD τ) scM1 fullShare (wt1 W c ⟨n, hn⟩) ∗ rest1 (F := F) c) ∗ (∃ r, prngReg c r)) := rfl
theorem Phi1_pos (c : Dev nD) (n : ℕ) (h : n ≤ cfg1.N) (hz : n ≠ 0) :
    Phi1 W c n h = iprop((owns (c : Thread nD τ) scM1 fullShare (wt1 W c ⟨n - 1, by omega⟩) ∗ rest1 (F := F) c) ∗ (∃ r, prngReg c r)) := by
  cases n with
  | zero => exact absurd rfl hz
  | succ n => rfl

/-! ## The proof data -/

/-- The proof data: the arrays at `W`; after the body each input's buffer at its block, the output's at the product
    with the decoded weights. -/
def dat1 (c : Dev nD) : Dat τ (Elt F) Unit ℕ (UR sig nD τ) ℕ cfg1 c where
  A w := W c (Proc.devRef .tc (Pipeline.arrRef spec1 w))
  after w t := match w with
    | ⟨0, _⟩ => iblk1 W c 0 t
    | ⟨1, _⟩ => iblk1 W c 1 t
    | ⟨2, _⟩ => iblk1 W c 2 t
    | ⟨3, _⟩ => iblk1 W c 3 t
    | ⟨4, _⟩ => yTile (iblk1 W c 0 t) (wt1 W c t)
  Φ t := Phi1 W c t.val (Nat.le_of_lt_succ t.isLt)
  q _ := fullShare
  owed _ := 0

theorem A_eq1 (c : Dev nD) (w : Fin cfg1.W) : (dat1 W c).A w = W c (Proc.devRef .tc (Pipeline.arrRef spec1 w)) := by
  dsimp only [dat1]
theorem Phi1_castSucc (c : Dev nD) (t : Fin cfg1.N) : (dat1 W c).Φ t.castSucc = Phi1 W c t.val (Nat.le_of_lt t.isLt) := by
  dsimp only [dat1]; exact Pipeline.Dat.Φ_castSucc (Phi1 W c) t
theorem after1_0 (c : Dev nD) (t : Fin cfg1.N) : (dat1 W c).after 0 t = iblk1 W c 0 t := by dsimp only [dat1]
theorem after1_1 (c : Dev nD) (t : Fin cfg1.N) : (dat1 W c).after 1 t = iblk1 W c 1 t := by dsimp only [dat1]
theorem after1_2 (c : Dev nD) (t : Fin cfg1.N) : (dat1 W c).after 2 t = iblk1 W c 2 t := by dsimp only [dat1]
theorem after1_3 (c : Dev nD) (t : Fin cfg1.N) : (dat1 W c).after 3 t = iblk1 W c 3 t := by dsimp only [dat1]
theorem after1_4 (c : Dev nD) (t : Fin cfg1.N) : (dat1 W c).after 4 t = yTile (iblk1 W c 0 t) (wt1 W c t) := by dsimp only [dat1]
theorem before1_0 (c : Dev nD) (t : Fin cfg1.N) (d) : (dat1 W c).before 0 t d = iblk1 W c 0 t :=
  ((dat1 W c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 W c).before 1 t d = iblk1 W c 1 t :=
  ((dat1 W c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 W c).before 2 t d = iblk1 W c 2 t :=
  ((dat1 W c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 W c).before 3 t d = iblk1 W c 3 t :=
  ((dat1 W c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## The body obligation -/

/-- What the body is called with at point `t`, -/
def bodyPre1 (c : Dev nD) (t : Fin cfg1.N) : sProp 𝕄 :=
  iprop((dat1 W c).Φ t.castSucc ∗ (dat1 W c).owesAt () t.castSucc
    ∗ (∃ d, owns (c : Thread nD τ) (ms1_0 t) fullShare ((dat1 W c).before 0 t d))
    ∗ (∃ d, owns (c : Thread nD τ) (ms1_1 t) fullShare ((dat1 W c).before 1 t d))
    ∗ (∃ d, owns (c : Thread nD τ) (ms1_2 t) fullShare ((dat1 W c).before 2 t d))
    ∗ (∃ d, owns (c : Thread nD τ) (ms1_3 t) fullShare ((dat1 W c).before 3 t d))
    ∗ (∃ d, owns (c : Thread nD τ) (ms1_4 t) fullShare ((dat1 W c).before 4 t d)))

/-- and what it returns. -/
def bodyPost1 (c : Dev nD) (t : Fin cfg1.N) : sProp 𝕄 :=
  iprop((dat1 W c).Φ t.succ ∗ (dat1 W c).owesAt () t.succ
    ∗ owns (c : Thread nD τ) (ms1_0 t) fullShare ((dat1 W c).after 0 t)
    ∗ owns (c : Thread nD τ) (ms1_1 t) fullShare ((dat1 W c).after 1 t)
    ∗ owns (c : Thread nD τ) (ms1_2 t) fullShare ((dat1 W c).after 2 t)
    ∗ owns (c : Thread nD τ) (ms1_3 t) fullShare ((dat1 W c).after 3 t)
    ∗ owns (c : Thread nD τ) (ms1_4 t) fullShare ((dat1 W c).after 4 t))

set_option maxHeartbeats 3200000 in
/-- The body at any point. -/
theorem sound_body1 (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3]
  rw [show (dat1 W c).owesAt () t.succ = (dat1 W c).owesAt () t.castSucc from rfl, after1_0, after1_1, after1_2, after1_3, after1_4]
  rw [show (dat1 W c).Φ t.succ = Phi1 W c (t.val + 1) t.isLt from rfl, Phi1_succ]
  by_cases h0 : t.val % 24 = 0
  · by_cases hz : t.val = 0
    · rw [Phi1_castSucc W c t, Phi1_zero W c _ _ hz, PhiA1_eq]
      iintro ⟨⟨⟨HS, HR⟩, Hg⟩, Ho, ⟨%d0, H0⟩, ⟨%d1, H1⟩, ⟨%d2, H2⟩, ⟨%d3, H3⟩, ⟨%d4, H4⟩⟩
      iapply (run1_A c (grid1.coords t) _ _ _ _ _ _ _ _ _ _ _ _ ((hcond1 t).mpr h0) (iblk1 W c 0 t) (iblk1 W c 1 t) (iblk1 W c 2 t) (iblk1 W c 3 t) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · rw [Phi1_castSucc W c t, Phi1_pos W c _ _ hz]
      iintro ⟨⟨⟨HS, HR⟩, Hg⟩, Ho, ⟨%d0, H0⟩, ⟨%d1, H1⟩, ⟨%d2, H2⟩, ⟨%d3, H3⟩, ⟨%d4, H4⟩⟩
      iapply (run1_A c (grid1.coords t) _ _ _ _ _ _ _ _ _ _ _ _ ((hcond1 t).mpr h0) (iblk1 W c 0 t) (iblk1 W c 1 t) (iblk1 W c 2 t) (iblk1 W c 3 t) Set.univ _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
  · have hz : t.val ≠ 0 := fun hz => h0 (by rw [hz])
    rw [Phi1_castSucc W c t, Phi1_pos W c _ _ hz, wt1_stay W c t ⟨t.val - 1, by omega⟩ (by dsimp only; omega)]
    iintro ⟨⟨⟨HS, HR⟩, Hg⟩, Ho, ⟨%d0, H0⟩, ⟨%d1, H1⟩, ⟨%d2, H2⟩, ⟨%d3, H3⟩, ⟨%d4, H4⟩⟩
    iapply (run1_B c (grid1.coords t) _ _ _ _ _ _ _ _ _ _ _ _ (fun h => h0 ((hcond1 t).mp h)) (iblk1 W c 0 t) (iblk1 W c 1 t) (iblk1 W c 2 t) (iblk1 W c 3 t) (wt1 W c t) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) W c) (defs₀ (F := F)) Variants.none () Set.univ := fun t => by
  rw [bigSep_W1, bigSep_W1, defs₀_row1]
  exact triple_restated (sound_body1 W c t) rfl .rfl fun _ => .rfl

/-- What the launch hands the region is the invariant before the first point, -/
theorem hin1 (c : Dev nD) : Pipeline.ΦA spec1 c ⊢ (dat1 W c).Φ 0 := by
  rw [show (dat1 W c).Φ 0 = Phi1 W c 0 (Nat.zero_le _) from rfl, Phi1_zero W c 0 _ rfl]

/-- and after the last point the invariant gives it back. -/
theorem hout1 (c : Dev nD) : (dat1 W c).Φ (Fin.last cfg1.N) ⊢ Pipeline.ΦA spec1 c := by
  have hN : cfg1.N = 192 := N_1
  rw [show (dat1 W c).Φ (Fin.last cfg1.N) = Phi1 W c cfg1.N (le_refl _) from rfl, Phi1_pos W c _ _ (by omega), PhiA1_eq]
  iintro ⟨⟨HS, HR⟩, Hg⟩
  isplitr [Hg]
  · isplitl [HS]
    · iexists _; iexact HS
    iexact HR
  iexact Hg

end Cert.Kernel.Hand

end
-- ==== Proof.Bits.Run.lean ====
/-
  The run of the whole program: the two regions as segments over the contents of the unscoped buffers, and
  what every buffer holds at the end.
-/
module

public import proofs.«01_k».proof.Proof.Bits.Region0
public import proofs.«01_k».proof.Proof.Bits.Region1
public import proofs.«01_k».proof.Proof.Gen.Kernel.Regions
public import Idealize.ShloMosaic.Lib.Pipeline.RegionArraysS

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg HostSeg)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- A region with one output leaves every buffer as it was, but that output's array. -/
theorem afterRegion_eq_update {cfg : Cfg sig Λ₀} {c : Dev nD} (dat : Dat τ (Elt F) Unit ℕ (UR sig nD τ) ℕ cfg c) (V : Valuation τ sig (Elt F))
    (hinj : Function.Injective (Pipeline.arrRef cfg.spec)) (hA : ∀ w, dat.A w = V (Proc.devRef .tc (Pipeline.arrRef cfg.spec w)))
    (o : Fin cfg.W) (ho : ∀ w, w ≠ o → (cfg.win w).isOut = false) :
    Pipeline.afterRegion dat V = Function.update V (Proc.devRef .tc (Pipeline.arrRef cfg.spec o))
      (Pipeline.afterRegion dat V (Proc.devRef .tc (Pipeline.arrRef cfg.spec o))) := by
  funext b
  by_cases hb : b = Proc.devRef .tc (Pipeline.arrRef cfg.spec o)
  · subst hb; rw [Function.update_self]
  rw [Function.update_of_ne hb]
  by_cases hw : ∃ w, b = Proc.devRef .tc (Pipeline.arrRef cfg.spec w)
  · obtain ⟨w, rfl⟩ := hw
    refine Pipeline.afterRegion_keeps dat V hinj hA _ fun w' e => ho w' fun e' => hb ?_
    rw [← e, e']
  · unfold Pipeline.afterRegion; rw [dif_neg hw]

/-- What region 0 leaves in its output's array. -/
def res0 (c : Dev nD) : Buf (Elt F) ((c : Thread nD τ).loc main_v38) :=
  Pipeline.afterRegion (dat0 (V1 m) c) (V1 m c) (Proc.devRef .tc main_v38)
/-- The contents region 1 is entered with. -/
def W1 (c : Dev nD) : Valuation τ sig (Elt F) := Function.update (V1 m c) main_v38 (res0 m c)
/-- What the regions leave. -/
def outs : Outs (F := F) := fun k r c => match k with
  | 2 => Pipeline.afterRegion (dat0 (V1 m) c) (V1 m c) (Proc.devRef .tc r)
  | _ => Pipeline.afterRegion (dat1 (W1 m) c) (W1 m c) (Proc.devRef .tc r)

theorem V2_eq (c : Dev nD) : V2 m (outs m) c = W1 m c := rfl

/-- The regions' proof data. -/
def pdats : (p : Fin 2) → (c : Dev nD) → Dat τ (Elt F) Unit ℕ (UR sig nD τ) ℕ (cfgs p) c
  | ⟨0, _⟩ => fun c => dat0 (V1 m) c
  | ⟨1, _⟩ => fun c => dat1 (W1 m) c

/-- The staging waits' index has a level at every cell of the TensorCore. -/
def L : GSem nD τ sig → Finset Unit := fun g => if g.1.2 = .tc then {()} else ∅
abbrev lv : GSem nD τ sig → Unit → ℕ := fun _ _ => 0

theorem cut (p : Fin 2) : Pipeline.LevelCut (pcfgs (F := F)) adm () L lv p (fun _ => 0) fun _ => 0 :=
  ⟨fun c _ _ => by unfold L; rw [if_pos rfl]; exact Finset.mem_singleton_self _, fun _ _ _ => le_refl _,
    fun c g i h => absurd h (lt_irrefl _)⟩

/-- What rides along between the items: what the core owes (nothing) and its generator register. -/
def E : Fin 3 → Dev nD → sProp 𝕄 := fun _ c =>
  iprop((∃ Wd, owes (c : Thread nD τ) (0 : CellTallies nD τ sig Unit) Wd) ∗ (∃ r, prngReg c r) ∗ emp)

set_option backward.isDefEq.respectTransparency.types false in
/-- Region 0 as a segment. -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) launch0.toP rfl
    (fun c => (body_obligation0 (V1 m) c).loose) (fun _ _ => rfl) (fun _ => rfl) (fun c => (dat0 (V1 m) c).share_full fun _ => rfl)
    (fun c => hin0 (V1 m) c) (fun c => hout0 (V1 m) c) (fun _ => 0) (cut 0) (fun _ => iprop(emp)) (V1 m) (fun c w => rfl)

theorem sub0 : Pipeline.arrRefs (τ := τ) (pcfgs (F := F) 0).spec ⊆ Pipeline.ucRefs τ sig :=
  Pipeline.arrRefs_sub_ucRefs _ launch0.win.arr_unscoped

set_option backward.isDefEq.respectTransparency.types false in
/-- Region 1 as a segment. -/
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun c => iprop(∃ r, prngReg c r)) (fun c => iprop(∃ r, prngReg c r)) launch1.toP rfl
    (fun c => (body_obligation1 (W1 m) c).loose) (fun _ _ => rfl) (fun _ => rfl) (fun c => (dat1 (W1 m) c).share_full fun _ => rfl)
    (fun c => hin1 (W1 m) c) (fun c => hout1 (W1 m) c) (fun _ => 0) (cut 1) (fun _ => iprop(emp)) (W1 m) (fun c w => rfl)

theorem sub1 : Pipeline.arrRefs (τ := τ) (pcfgs (F := F) 1).spec ⊆ Pipeline.ucRefs τ sig :=
  Pipeline.arrRefs_sub_ucRefs _ launch1.win.arr_unscoped

set_option backward.isDefEq.respectTransparency.types false in
theorem hpre0 (c : Dev nD) : iprop(StableHlo.held (c : Thread nD τ) (Pipeline.ucRefs τ sig) (V1 m c) ∗ E (F := F) 0 c) ⊢ (reg0 m).pre c := by
  unfold reg0 E; exact RegionSeg.ofHeldIn_pre (D := fun _ => 0) (X := fun c => iprop(∃ r, prngReg c r)) (Y := fun c => iprop(∃ r, prngReg c r)) (R := fun _ => iprop(emp)) (W := V1 m) sub0 c
set_option backward.isDefEq.respectTransparency.types false in
theorem hpre1 (c : Dev nD) : iprop(StableHlo.held (c : Thread nD τ) (Pipeline.ucRefs τ sig) (V2 m (outs m) c) ∗ E (F := F) 1 c) ⊢ (reg1 m).pre c := by
  unfold reg1 E; rw [V2_eq]; exact RegionSeg.ofHeldIn_pre (D := fun _ => 0) (X := fun c => iprop(∃ r, prngReg c r)) (Y := fun c => iprop(∃ r, prngReg c r)) (R := fun _ => iprop(emp)) (W := W1 m) sub1 c
theorem hpost0 (c : Dev nD) : (reg0 m).post c ⊢ iprop(StableHlo.held (c : Thread nD τ) (Pipeline.ucRefs τ sig) (V2 m (outs m) c) ∗ E (F := F) 1 c) := by
  unfold reg0 E
  exact (RegionSeg.ofHeldIn_post sub0 c).trans (Entails.of_eq (by
    rw [show Pipeline.afterRegion (pdats m 0 c) (V1 m c) = V2 m (outs m) c from
      afterRegion_eq_update (dat0 (V1 m) c) (V1 m c) winFacts0.arr_inj (A_eq0 (V1 m) c) 6 (by decide)]))
theorem hpost1 (c : Dev nD) : (reg1 m).post c ⊢ iprop(StableHlo.held (c : Thread nD τ) (Pipeline.ucRefs τ sig) (V3 m (outs m) c) ∗ E (F := F) 2 c) := by
  unfold reg1 E
  exact (RegionSeg.ofHeldIn_post sub1 c).trans (Entails.of_eq (by
    rw [show Pipeline.afterRegion (pdats m 1 c) (W1 m c) = V3 m (outs m) c from
      afterRegion_eq_update (dat1 (W1 m) c) (W1 m c) winFacts1.arr_inj (A_eq1 (W1 m) c) 4 (by decide)]))

/-- The launch tokens of the two pipelines. -/
abbrev u₀ : UR sig nD τ := initOf (Pipeline.cells cfgs cellOf_inj) (Pipeline.launchToks cfgs cellOf_inj)

set_option backward.isDefEq.respectTransparency.types false in
/-- Every weakly fair execution terminates, every unscoped buffer ends at the last of the contents named above, and
    every semaphore counter ends at zero. -/
theorem run_all : θ_run defs (onTc (τ := τ) (main (F := F))) ⟨m, fun _ => 0, ρ⟩ (fun r =>
    (∀ c : Dev nD, ∀ b ∈ Pipeline.ucRefs τ sig, r.2.mem ((c : Thread nD τ).1, b) = V4 m (outs m) c b) ∧ r.2.sem = fun _ => 0) := by
  have hE0 : iprop((bigSep Finset.univ fun c : Dev nD => iprop(unscopedSems0 c ∗ owes (c : Thread nD τ) ((fun _ => 0 : Dev nD → CellTallies nD τ sig Unit) c) ∅ ∗ Pipeline.launchCred (fun _ => 0) c ∗ prngReg c (ρ c) ∗ emp)) ∗ levAts L lv)
      ⊢ (|={Set.univ}=> bigSep Finset.univ (E (F := F) 0) : sProp 𝕄) := by
    refine Pipeline.initEach L lv fun c => ?_
    unfold E
    iintro ⟨⟨-, HO, -, Hp, -⟩, -⟩
    imodintro
    isplitl [HO]; · iexists ∅; iexact HO
    isplitl [Hp]; · iexists _; iexact Hp
    iempintro
  have hE2 : ∀ c : Dev nD, E 2 c ⊢ (iprop(∃ W, owes (c : Thread nD τ) (0 : CellTallies nD τ sig Unit) W) : sProp 𝕄) := fun c => by
    unfold E
    iintro ⟨HO, -, -⟩; iexact HO
  have hL : ∀ g : GSem nD τ sig, g.1.2 ≠ .tc → L g = ∅ := fun g h => by unfold L; rw [if_neg h]
  have hu₀ : (ownU u₀ : sProp 𝕄) ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
    iintro Hu; imodintro
    isplitl [Hu]; · iapply (show (ownU _ : sProp 𝕄) ⊢ BI.own (emb₁ u₀) from .rfl); iexact Hu
    iapply (show (BI.emp : sProp 𝕄) ⊢ bigSep Finset.univ (fun _ : Dev nD => (BI.emp : sProp 𝕄)) from by rw [BI.bigSep_emp_const])
    iempintro
  refine Pipeline.θ_run_regions_kit_dev_sems (pcfgs (F := F)) adm (pdats m) () cellOf_inj emb₁ defs₀ Variants.none L lv m ρ main
    (segs m (outs m) Variants.none L lv E () (pdats m) (reg0 m) (reg1 m))
    (fun c Q => by
      rewrite [main_chain c, Seg.run_eq_chain,
        show (segs m (outs m) Variants.none L lv E () (pdats m) (reg0 m) (reg1 m) c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) hL (fun _ => iprop(emp)) u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m (outs m) c))
    (hch := fun c => ⟨.rfl, hpre0 m c, (hpost0 m c).trans (hpre1 m c), hpost1 m c, sep_mono .rfl (hE2 c)⟩)
    (hinit := ?_) (QY := fun c s => ∀ b ∈ Pipeline.ucRefs τ sig, s.mem ((c : Thread nD τ).1, b) = V4 m (outs m) c b)
    (hfin := fun c s' => ?_) (hQ := fun _ h hz => ⟨fun c => h c, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) ((fun _ => 0 : Dev nD → CellTallies nD τ sig Unit) c) ∅ ∗ Pipeline.launchCred (fun _ => 0) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((fun _ => 0 : Dev nD → CellTallies nD τ sig Unit) c) ∅ ∗ Pipeline.launchCred (fun _ => 0) c ∗ prngReg c (ρ c) ∗ emp))
            : sProp (MT nD τ sig Unit (Elt F) ℕ (UR sig nD τ) ℕ)) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact h
    · iexact HSI

/-- An unscoped buffer of the TensorCore is among those the run names. -/
theorem mem_uc (r : Ref sig .tc) (h : r.isScoped = false) : Proc.devRef .tc r ∈ Pipeline.ucRefs τ sig :=
  Finset.mem_filter.mpr ⟨StableHlo.devRef_mem_tcRefs r, fun h' => Bool.false_ne_true (h.symm.trans h')⟩

/-- The frame: the run terminates, the arguments end as launched, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => ⟨(h.1 c _ (mem_uc main_arg0 rfl)).trans (V4_main_arg0 m (outs m) c),
      (h.1 c _ (mem_uc main_arg1 rfl)).trans (V4_main_arg1 m (outs m) c),
      (h.1 c _ (mem_uc main_arg2 rfl)).trans (V4_main_arg2 m (outs m) c),
      (h.1 c _ (mem_uc main_arg3 rfl)).trans (V4_main_arg3 m (outs m) c),
      (h.1 c _ (mem_uc main_arg4 rfl)).trans (V4_main_arg4 m (outs m) c),
      (h.1 c _ (mem_uc main_arg5 rfl)).trans (V4_main_arg5 m (outs m) c),
      (h.1 c _ (mem_uc main_arg6 rfl)).trans (V4_main_arg6 m (outs m) c),
      (h.1 c _ (mem_uc main_arg7 rfl)).trans (V4_main_arg7 m (outs m) c),
      (h.1 c _ (mem_uc main_arg8 rfl)).trans (V4_main_arg8 m (outs m) c),
      (h.1 c _ (mem_uc main_arg9 rfl)).trans (V4_main_arg9 m (outs m) c),
      (h.1 c _ (mem_uc main_arg10 rfl)).trans (V4_main_arg10 m (outs m) c),
      (h.1 c _ (mem_uc main_arg11 rfl)).trans (V4_main_arg11 m (outs m) c),
      (h.1 c _ (mem_uc main_arg12 rfl)).trans (V4_main_arg12 m (outs m) c)⟩, h.2⟩) (run_all m ρ)

/-- The run with its two results named, the arguments unchanged. -/
theorem run_results : θ_run defs (onTc (τ := τ) (main (F := F))) ⟨m, fun _ => 0, ρ⟩ (fun r => ∀ c : Dev nD,
      r.2.mem ((c.tc : Thread nD τ).loc main_v40) = V4 m (outs m) c main_v40
      ∧ r.2.mem ((c.tc : Thread nD τ).loc main_v41) = V4 m (outs m) c main_v41
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h => fun c => ⟨h.1 c _ (mem_uc main_v40 rfl), h.1 c _ (mem_uc main_v41 rfl),
      (h.1 c _ (mem_uc main_arg0 rfl)).trans (V4_main_arg0 m (outs m) c),
      (h.1 c _ (mem_uc main_arg1 rfl)).trans (V4_main_arg1 m (outs m) c),
      (h.1 c _ (mem_uc main_arg2 rfl)).trans (V4_main_arg2 m (outs m) c),
      (h.1 c _ (mem_uc main_arg3 rfl)).trans (V4_main_arg3 m (outs m) c),
      (h.1 c _ (mem_uc main_arg4 rfl)).trans (V4_main_arg4 m (outs m) c),
      (h.1 c _ (mem_uc main_arg5 rfl)).trans (V4_main_arg5 m (outs m) c),
      (h.1 c _ (mem_uc main_arg6 rfl)).trans (V4_main_arg6 m (outs m) c),
      (h.1 c _ (mem_uc main_arg7 rfl)).trans (V4_main_arg7 m (outs m) c),
      (h.1 c _ (mem_uc main_arg8 rfl)).trans (V4_main_arg8 m (outs m) c),
      (h.1 c _ (mem_uc main_arg9 rfl)).trans (V4_main_arg9 m (outs m) c),
      (h.1 c _ (mem_uc main_arg10 rfl)).trans (V4_main_arg10 m (outs m) c),
      (h.1 c _ (mem_uc main_arg11 rfl)).trans (V4_main_arg11 m (outs m) c),
      (h.1 c _ (mem_uc main_arg12 rfl)).trans (V4_main_arg12 m (outs m) c)⟩) (run_all m ρ)

end Cert.Kernel.Hand

end
-- ==== Proof.Ideal.Decode.lean ====
/- The dequantised weight matrices the two kernels leave in their scratch buffers, as functions of the blocks they
   read, and what the decoding loops write, piece by piece: each piece agrees with those functions. -/
module

public import proofs.«01_k».proof.Proof.Gen.KernelIdeal.Loops
public import Idealize.ShloMosaic.Lib.VecWindow
public import Idealize.ShloMosaic.Lib.Ring
public import Idealize.ShloMosaic.Lib.WritesUnit
public import Idealize.ShloMosaic.Lib.ValueIdxCore

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.ValueIdx (ix2)

variable {F : FTy → Type} [FloatOps F]

/-- The table of the sixteen levels, repeated along the lanes, spread over 128 rows. -/
def table (x5 : Vec F S1x128 .f32) : FVec F S128x128 .f32 := k0_pay1 x5

/-- One decoded tile: 128 byte columns of 128 output rows give 256 weights of 128 columns. -/
def tile (tb : FVec F S128x128 .f32) (q : Vec F S128x128 .i8) (a : Vec F S1x4x128 .f32) : FVec F S256x128 .bf16 :=
  k0_pay8 tb q a

/-- The activation tile: the two products, the gate and the final rounding. -/
def hTile (x : Vec F S512x4096 .bf16) (w : Vec F S4096x1024 .bf16) : FVec F S512x512 .bf16 := k0_pay3 x w

/-- The output tile: one product and the final rounding. -/
def yTile (h : Vec F S256x14336 .bf16) (w : Vec F S14336x512 .bf16) : FVec F S256x512 .bf16 := k1_pay2 h w

/-- The decoded tile of column group `g` (128 columns) and row chunk `k` (256 rows), from a block of 512 output rows. -/
def tileAt0 (x1 : Vec F S512x2048 .i8) (x2 : Vec F S16x4x512 .f32) (x5 : Vec F S1x128 .f32) (g : Fin 4) (k : Fin 16) :
    FVec F S256x128 .bf16 :=
  tile (table x5)
    (VecWindow.window (s := S512x2048) x1 ![128 * g.val, 128 * k.val] ![128, 128] (fun a => by
      match a with
      | ⟨0, _⟩ => show 128 * g.val + 128 ≤ 512; omega
      | ⟨1, _⟩ => show 128 * k.val + 128 ≤ 2048; omega))
    (VecWindow.window (s := S16x4x512) x2 ![k.val, 0, 128 * g.val] ![1, 4, 128] (fun a => by
      match a with
      | ⟨0, _⟩ => show k.val + 1 ≤ 16; omega
      | ⟨1, _⟩ => show 0 + 4 ≤ 4; omega
      | ⟨2, _⟩ => show 128 * g.val + 128 ≤ 512; omega))

/-- The same for the second kernel's block. -/
def tileAt1 (x1 : Vec F S512x7168 .i8) (x2 : Vec F S56x4x512 .f32) (x3 : Vec F S1x128 .f32) (g : Fin 4) (k : Fin 56) :
    FVec F S256x128 .bf16 :=
  tile (table x3)
    (VecWindow.window (s := S512x7168) x1 ![128 * g.val, 128 * k.val] ![128, 128] (fun a => by
      match a with
      | ⟨0, _⟩ => show 128 * g.val + 128 ≤ 512; omega
      | ⟨1, _⟩ => show 128 * k.val + 128 ≤ 7168; omega))
    (VecWindow.window (s := S56x4x512) x2 ![k.val, 0, 128 * g.val] ![1, 4, 128] (fun a => by
      match a with
      | ⟨0, _⟩ => show k.val + 1 ≤ 56; omega
      | ⟨1, _⟩ => show 0 + 4 ≤ 4; omega
      | ⟨2, _⟩ => show 128 * g.val + 128 ≤ 512; omega))

/-- The first kernel's scratch once both loops have run: the decoded gate weights in columns 0 to 511, the decoded up
    weights in columns 512 to 1023. -/
def w0 (x1 : Vec F S512x2048 .i8) (x2 : Vec F S16x4x512 .f32) (x3 : Vec F S512x2048 .i8) (x4 : Vec F S16x4x512 .f32)
    (x5 : Vec F S1x128 .f32) : Vec F S4096x1024 .bf16 := fun y =>
  have h0 : (y 0).val < 4096 := (y 0).isLt
  have h1 : (y 1).val < 1024 := (y 1).isLt
  if h : (y 1).val < 512 then
    tileAt0 x1 x2 x5 ⟨(y 1).val / 128, by omega⟩ ⟨(y 0).val / 256, by omega⟩
      (ix2 ⟨(y 0).val % 256, by omega⟩ ⟨(y 1).val % 128, by omega⟩)
  else
    tileAt0 x3 x4 x5 ⟨((y 1).val - 512) / 128, by omega⟩ ⟨(y 0).val / 256, by omega⟩
      (ix2 ⟨(y 0).val % 256, by omega⟩ ⟨(y 1).val % 128, by omega⟩)

/-- The second kernel's scratch once its loop has run: the decoded down weights. -/
def w1 (x1 : Vec F S512x7168 .i8) (x2 : Vec F S56x4x512 .f32) (x3 : Vec F S1x128 .f32) : Vec F S14336x512 .bf16 := fun y =>
  have h0 : (y 0).val < 14336 := (y 0).isLt
  have h1 : (y 1).val < 512 := (y 1).isLt
  tileAt1 x1 x2 x3 ⟨(y 1).val / 128, by omega⟩ ⟨(y 0).val / 256, by omega⟩
    (ix2 ⟨(y 0).val % 256, by omega⟩ ⟨(y 1).val % 128, by omega⟩)

theorem ix2_of_val {n0 n1 : ℕ} (x : (⟨2, ![n0, n1]⟩ : Shape).Idx) (a b : ℕ) (ha : a < n0) (hb : b < n1)
    (h0 : a = (x 0).val) (h1 : b = (x 1).val) : ix2 (⟨a, ha⟩ : Fin n0) (⟨b, hb⟩ : Fin n1) = x := by
  subst h0 h1
  exact (ValueIdx.eq_ix2 x).symm

theorem w0_gate (x1 : Vec F S512x2048 .i8) (x2 : Vec F S16x4x512 .f32) (x3 : Vec F S512x2048 .i8) (x4 : Vec F S16x4x512 .f32)
    (x5 : Vec F S1x128 .f32) (g : Fin 4) (k : Fin 16) (x : S256x128.Idx) (y : S4096x1024.Idx)
    (hy0 : (y 0).val = 256 * k.val + (x 0).val) (hy1 : (y 1).val = 128 * g.val + (x 1).val) :
    w0 x1 x2 x3 x4 x5 y = tileAt0 x1 x2 x5 g k x := by
  have hx0 : (x 0).val < 256 := (x 0).isLt
  have hx1 : (x 1).val < 128 := (x 1).isLt
  unfold w0
  rw [dif_pos (by omega)]
  rw [ix2_of_val x _ _ _ _ (by omega) (by omega)]
  congr 1 <;> exact Fin.ext (by dsimp only; omega)

theorem w0_up (x1 : Vec F S512x2048 .i8) (x2 : Vec F S16x4x512 .f32) (x3 : Vec F S512x2048 .i8) (x4 : Vec F S16x4x512 .f32)
    (x5 : Vec F S1x128 .f32) (g : Fin 4) (k : Fin 16) (x : S256x128.Idx) (y : S4096x1024.Idx)
    (hy0 : (y 0).val = 256 * k.val + (x 0).val) (hy1 : (y 1).val = 512 + 128 * g.val + (x 1).val) :
    w0 x1 x2 x3 x4 x5 y = tileAt0 x3 x4 x5 g k x := by
  have hx0 : (x 0).val < 256 := (x 0).isLt
  have hx1 : (x 1).val < 128 := (x 1).isLt
  unfold w0
  rw [dif_neg (by omega)]
  rw [ix2_of_val x _ _ _ _ (by omega) (by omega)]
  congr 1 <;> exact Fin.ext (by dsimp only; omega)

theorem w1_at (x1 : Vec F S512x7168 .i8) (x2 : Vec F S56x4x512 .f32) (x3 : Vec F S1x128 .f32) (g : Fin 4) (k : Fin 56)
    (x : S256x128.Idx) (y : S14336x512.Idx)
    (hy0 : (y 0).val = 256 * k.val + (x 0).val) (hy1 : (y 1).val = 128 * g.val + (x 1).val) :
    w1 x1 x2 x3 y = tileAt1 x1 x2 x3 g k x := by
  have hx0 : (x 0).val < 256 := (x 0).isLt
  have hx1 : (x 1).val < 128 := (x 1).isLt
  have h0 : (y 0).val < 14336 := (y 0).isLt
  have h1 : (y 1).val < 512 := (y 1).isLt
  have eg : (⟨(y 1).val / 128, by omega⟩ : Fin 4) = g := Fin.ext (by dsimp only; omega)
  have ek : (⟨(y 0).val / 256, by omega⟩ : Fin 56) = k := Fin.ext (by dsimp only; omega)
  have ex := ix2_of_val x ((y 0).val % 256) ((y 1).val % 128) (by omega) (by omega) (by omega) (by omega)
  exact (congrArg (tileAt1 x1 x2 x3 _ _) ex).trans (by rw [eg, ek])

/-! ## One trip's pieces -/

theorem off_add {o v : Fin 2 → ℕ} (h : o = v) (a : Fin 2) (x : ℕ) : o a + 1 * x = v a + x := by
  rw [h, Nat.one_mul]

section Trip0

variable (𝒱 : Variants) (c : Dev nD) (bd : Option 𝒱.V) (i : grid0.Coords) (arg2 : Memref sig .tc .vmem S512x4096 .bf16) (harg2 : arg2.IsWhole) (arg3 : Memref sig .tc .vmem S512x2048 .i8) (harg3 : arg3.IsWhole) (arg4 : Memref sig .tc .vmem S16x4x512 .f32) (harg4 : arg4.IsWhole) (arg5 : Memref sig .tc .vmem S512x2048 .i8) (harg5 : arg5.IsWhole) (arg6 : Memref sig .tc .vmem S16x4x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S4096x1024 .bf16) (harg9 : arg9.IsWhole) (k0_h1 : k0_cond1 i = 1#1) (v14 : Vec F S1x128 .f32)

/-- A tile read by a trip is the block's tile. -/
theorem tile_read0 (v : Memref sig .tc .vmem S512x2048 .i8) (u : Memref sig .tc .vmem S16x4x512 .f32)
    (X : BufTy.Contents (Elt F) v.view.ty) (Y : BufTy.Contents (Elt F) u.view.ty) (x5 : Vec F S1x128 .f32)
    (g : Fin 4) (k : Fin 16) {o1 : Fin 2 → ℕ} {o2 : Fin 3 → ℕ} (h1 : o1 = ![128 * g.val, 128 * k.val]) (h2 : o2 = ![k.val, 0, 128 * g.val])
    (b1 : ∀ a, o1 a + (![128, 128] : Fin 2 → ℕ) a ≤ S512x2048.size a) (b2 : ∀ a, o2 a + (![1, 4, 128] : Fin 3 → ℕ) a ≤ S16x4x512.size a) :
    tile (table x5) (v.view.readAt (Elt F) (Rect.unit (s := S512x2048) o1 ![128, 128] b1).toLoadRect X)
        (u.view.readAt (Elt F) (Rect.unit (s := S16x4x512) o2 ![1, 4, 128] b2).toLoadRect Y)
      = tileAt0 (v.view.read (Elt F) X) (u.view.read (Elt F) Y) x5 g k := by
  subst h1 h2; rfl

theorem trip_gate (X : BufTy.Contents (Elt F) arg3.view.ty) (Y : BufTy.Contents (Elt F) arg4.view.ty)
    (x3 : Vec F S512x2048 .i8) (x4 : Vec F S16x4x512 .f32) (k : Fin k0_t1_loop.trips) :
    ∀ p ∈ tripL_k0_t1 (F := F) 𝒱 c bd i arg2 harg2 arg3 harg3 arg4 harg4 arg5 harg5 arg6 harg6 arg7 harg7 arg8 harg8 arg9 harg9 k0_h1 v14 X Y k,
      ∀ x : p.1.shape.Idx, p.2 x = w0 (arg3.view.read (Elt F) X) (arg4.view.read (Elt F) Y) x3 x4 v14 (p.1.emb x) := by
  have hk : k.val < 16 := Nat.lt_of_lt_of_le k.isLt k0_t1_abs.2.1
  unfold tripL_k0_t1 trip_k0_t1
  dsimp only
  intro p hp x
  simp only [List.mem_cons, List.not_mem_nil, or_false] at hp
  rcases hp with rfl | rfl | rfl | rfl
  · refine Eq.trans (congrFun (tile_read0 arg3 arg4 X Y v14 3 ⟨k.val, hk⟩ (k0_off10_eq k) (k0_off11_eq k) _ _) x) (w0_gate _ _ _ _ _ 3 ⟨k.val, hk⟩ x _ ?_ ?_).symm
    · exact off_add (k0_off12_eq k) 0 _
    · exact off_add (k0_off12_eq k) 1 _
  · refine Eq.trans (congrFun (tile_read0 arg3 arg4 X Y v14 2 ⟨k.val, hk⟩ (k0_off7_eq k) (k0_off8_eq k) _ _) x) (w0_gate _ _ _ _ _ 2 ⟨k.val, hk⟩ x _ ?_ ?_).symm
    · exact off_add (k0_off9_eq k) 0 _
    · exact off_add (k0_off9_eq k) 1 _
  · refine Eq.trans (congrFun (tile_read0 arg3 arg4 X Y v14 1 ⟨k.val, hk⟩ (k0_off4_eq k) (k0_off5_eq k) _ _) x) (w0_gate _ _ _ _ _ 1 ⟨k.val, hk⟩ x _ ?_ ?_).symm
    · exact off_add (k0_off6_eq k) 0 _
    · exact off_add (k0_off6_eq k) 1 _
  · refine Eq.trans (congrFun (tile_read0 arg3 arg4 X Y v14 0 ⟨k.val, hk⟩ (k0_off1_eq k) (k0_off2_eq k) _ _) x) (w0_gate _ _ _ _ _ 0 ⟨k.val, hk⟩ x _ ?_ ?_).symm
    · exact off_add (k0_off3_eq k) 0 _
    · exact off_add (k0_off3_eq k) 1 _

theorem trip_up (X : BufTy.Contents (Elt F) arg5.view.ty) (Y : BufTy.Contents (Elt F) arg6.view.ty)
    (x1 : Vec F S512x2048 .i8) (x2 : Vec F S16x4x512 .f32) (k : Fin k0_t2_loop.trips) :
    ∀ p ∈ tripL_k0_t2 (F := F) 𝒱 c bd i arg2 harg2 arg3 harg3 arg4 harg4 arg5 harg5 arg6 harg6 arg7 harg7 arg8 harg8 arg9 harg9 k0_h1 v14 X Y k,
      ∀ x : p.1.shape.Idx, p.2 x = w0 x1 x2 (arg5.view.read (Elt F) X) (arg6.view.read (Elt F) Y) v14 (p.1.emb x) := by
  have hk : k.val < 16 := Nat.lt_of_lt_of_le k.isLt k0_t2_abs.2.1
  unfold tripL_k0_t2 trip_k0_t2
  dsimp only
  intro p hp x
  simp only [List.mem_cons, List.not_mem_nil, or_false] at hp
  rcases hp with rfl | rfl | rfl | rfl
  · refine Eq.trans (congrFun (tile_read0 arg5 arg6 X Y v14 3 ⟨k.val, hk⟩ (k0_off22_eq k) (k0_off23_eq k) _ _) x) (w0_up _ _ _ _ _ 3 ⟨k.val, hk⟩ x _ ?_ ?_).symm
    · exact off_add (k0_off24_eq k) 0 _
    · exact off_add (k0_off24_eq k) 1 _
  · refine Eq.trans (congrFun (tile_read0 arg5 arg6 X Y v14 2 ⟨k.val, hk⟩ (k0_off19_eq k) (k0_off20_eq k) _ _) x) (w0_up _ _ _ _ _ 2 ⟨k.val, hk⟩ x _ ?_ ?_).symm
    · exact off_add (k0_off21_eq k) 0 _
    · exact off_add (k0_off21_eq k) 1 _
  · refine Eq.trans (congrFun (tile_read0 arg5 arg6 X Y v14 1 ⟨k.val, hk⟩ (k0_off16_eq k) (k0_off17_eq k) _ _) x) (w0_up _ _ _ _ _ 1 ⟨k.val, hk⟩ x _ ?_ ?_).symm
    · exact off_add (k0_off18_eq k) 0 _
    · exact off_add (k0_off18_eq k) 1 _
  · refine Eq.trans (congrFun (tile_read0 arg5 arg6 X Y v14 0 ⟨k.val, hk⟩ (k0_off13_eq k) (k0_off14_eq k) _ _) x) (w0_up _ _ _ _ _ 0 ⟨k.val, hk⟩ x _ ?_ ?_).symm
    · exact off_add (k0_off15_eq k) 0 _
    · exact off_add (k0_off15_eq k) 1 _

/-- Every piece the gate loop writes agrees with the scratch's final contents. -/
theorem pieces_gate (X : BufTy.Contents (Elt F) arg3.view.ty) (Y : BufTy.Contents (Elt F) arg4.view.ty)
    (x3 : Vec F S512x2048 .i8) (x4 : Vec F S16x4x512 .f32) (n : ℕ) (hn : n ≤ k0_t1_loop.trips) :
    ∀ p ∈ pb_k0_t1 (F := F) 𝒱 c bd i arg2 harg2 arg3 harg3 arg4 harg4 arg5 harg5 arg6 harg6 arg7 harg7 arg8 harg8 arg9 harg9 k0_h1 v14 X Y n,
      ∀ x : p.1.shape.Idx, p.2 x = w0 (arg3.view.read (Elt F) X) (arg4.view.read (Elt F) Y) x3 x4 v14 (p.1.emb x) := by
  induction n with
  | zero => intro p hp; exact absurd hp List.not_mem_nil
  | succ n ih =>
    intro p hp
    have e := pb_k0_t1_succ (F := F) 𝒱 c bd i arg2 harg2 arg3 harg3 arg4 harg4 arg5 harg5 arg6 harg6 arg7 harg7 arg8 harg8 arg9 harg9 k0_h1 v14 X Y ⟨n, hn⟩
    dsimp only at e
    rw [e] at hp
    rcases List.mem_append.mp hp with h | h
    · exact trip_gate 𝒱 c bd i arg2 harg2 arg3 harg3 arg4 harg4 arg5 harg5 arg6 harg6 arg7 harg7 arg8 harg8 arg9 harg9 k0_h1 v14 X Y x3 x4 _ p h
    · exact ih (Nat.le_of_succ_le hn) p h

/-- Every piece the up loop writes agrees with the scratch's final contents. -/
theorem pieces_up (X : BufTy.Contents (Elt F) arg5.view.ty) (Y : BufTy.Contents (Elt F) arg6.view.ty)
    (x1 : Vec F S512x2048 .i8) (x2 : Vec F S16x4x512 .f32) (n : ℕ) (hn : n ≤ k0_t2_loop.trips) :
    ∀ p ∈ pb_k0_t2 (F := F) 𝒱 c bd i arg2 harg2 arg3 harg3 arg4 harg4 arg5 harg5 arg6 harg6 arg7 harg7 arg8 harg8 arg9 harg9 k0_h1 v14 X Y n,
      ∀ x : p.1.shape.Idx, p.2 x = w0 x1 x2 (arg5.view.read (Elt F) X) (arg6.view.read (Elt F) Y) v14 (p.1.emb x) := by
  induction n with
  | zero => intro p hp; exact absurd hp List.not_mem_nil
  | succ n ih =>
    intro p hp
    have e := pb_k0_t2_succ (F := F) 𝒱 c bd i arg2 harg2 arg3 harg3 arg4 harg4 arg5 harg5 arg6 harg6 arg7 harg7 arg8 harg8 arg9 harg9 k0_h1 v14 X Y ⟨n, hn⟩
    dsimp only at e
    rw [e] at hp
    rcases List.mem_append.mp hp with h | h
    · exact trip_up 𝒱 c bd i arg2 harg2 arg3 harg3 arg4 harg4 arg5 harg5 arg6 harg6 arg7 harg7 arg8 harg8 arg9 harg9 k0_h1 v14 X Y x1 x2 _ p h
    · exact ih (Nat.le_of_succ_le hn) p h

/-- What the scratch reads after both loops, whatever it held before. -/
theorem read_after_loops (X3 : BufTy.Contents (Elt F) arg3.view.ty) (X4 : BufTy.Contents (Elt F) arg4.view.ty)
    (X5 : BufTy.Contents (Elt F) arg5.view.ty) (X6 : BufTy.Contents (Elt F) arg6.view.ty) (f : BufTy.Contents (Elt F) arg9.view.ty) :
    arg9.view.read (Elt F) (arg9.view.writes (Elt F) f
        (pb_k0_t2 (F := F) 𝒱 c bd i arg2 harg2 arg3 harg3 arg4 harg4 arg5 harg5 arg6 harg6 arg7 harg7 arg8 harg8 arg9 harg9 k0_h1 v14 X5 X6 k0_t2_loop.trips
          ++ pb_k0_t1 (F := F) 𝒱 c bd i arg2 harg2 arg3 harg3 arg4 harg4 arg5 harg5 arg6 harg6 arg7 harg7 arg8 harg8 arg9 harg9 k0_h1 v14 X3 X4 k0_t1_loop.trips))
      = w0 (arg3.view.read (Elt F) X3) (arg4.view.read (Elt F) X4) (arg5.view.read (Elt F) X5) (arg6.view.read (Elt F) X6) v14 := by
  funext y
  refine View.read_writes_apply_of_pieces _ _ _ _ ?_ y ?_
  · intro p hp
    rcases List.mem_append.mp hp with h | h
    · exact pieces_up 𝒱 c bd i arg2 harg2 arg3 harg3 arg4 harg4 arg5 harg5 arg6 harg6 arg7 harg7 arg8 harg8 arg9 harg9 k0_h1 v14 X5 X6 _ _ _ le_rfl p h
    · exact pieces_gate 𝒱 c bd i arg2 harg2 arg3 harg3 arg4 harg4 arg5 harg5 arg6 harg6 arg7 harg7 arg8 harg8 arg9 harg9 k0_h1 v14 X3 X4 _ _ _ le_rfl p h
  · exact View.cover_of_tiledL (pb_k0_t2 (F := F) 𝒱 c bd i arg2 harg2 arg3 harg3 arg4 harg4 arg5 harg5 arg6 harg6 arg7 harg7 arg8 harg8 arg9 harg9 k0_h1 v14 X5 X6 k0_t2_loop.trips
      ++ pb_k0_t1 (F := F) 𝒱 c bd i arg2 harg2 arg3 harg3 arg4 harg4 arg5 harg5 arg6 harg6 arg7 harg7 arg8 harg8 arg9 harg9 k0_h1 v14 X3 X4 k0_t1_loop.trips) S256x128.size (by sl_kernel_rfl) y

end Trip0

section Trip1

variable (𝒱 : Variants) (c : Dev nD) (bd : Option 𝒱.V) (i : grid1.Coords) (arg2 : Memref sig .tc .vmem S256x14336 .bf16) (harg2 : arg2.IsWhole) (arg3 : Memref sig .tc .vmem S512x7168 .i8) (harg3 : arg3.IsWhole) (arg4 : Memref sig .tc .vmem S56x4x512 .f32) (harg4 : arg4.IsWhole) (arg5 : Memref sig .tc .vmem S1x128 .f32) (harg5 : arg5.IsWhole) (arg6 : Memref sig .tc .vmem S256x512 .bf16) (harg6 : arg6.IsWhole) (arg7 : Memref sig .tc .vmem S14336x512 .bf16) (harg7 : arg7.IsWhole) (k1_h1 : k1_cond1 i = 1#1) (v9 : Vec F S1x128 .f32)

theorem tile_read1 (v : Memref sig .tc .vmem S512x7168 .i8) (u : Memref sig .tc .vmem S56x4x512 .f32)
    (X : BufTy.Contents (Elt F) v.view.ty) (Y : BufTy.Contents (Elt F) u.view.ty) (x3 : Vec F S1x128 .f32)
    (g : Fin 4) (k : Fin 56) {o1 : Fin 2 → ℕ} {o2 : Fin 3 → ℕ} (h1 : o1 = ![128 * g.val, 128 * k.val]) (h2 : o2 = ![k.val, 0, 128 * g.val])
    (b1 : ∀ a, o1 a + (![128, 128] : Fin 2 → ℕ) a ≤ S512x7168.size a) (b2 : ∀ a, o2 a + (![1, 4, 128] : Fin 3 → ℕ) a ≤ S56x4x512.size a) :
    tile (table x3) (v.view.readAt (Elt F) (Rect.unit (s := S512x7168) o1 ![128, 128] b1).toLoadRect X)
        (u.view.readAt (Elt F) (Rect.unit (s := S56x4x512) o2 ![1, 4, 128] b2).toLoadRect Y)
      = tileAt1 (v.view.read (Elt F) X) (u.view.read (Elt F) Y) x3 g k := by
  subst h1 h2; rfl

theorem trip_down (X : BufTy.Contents (Elt F) arg3.view.ty) (Y : BufTy.Contents (Elt F) arg4.view.ty) (k : Fin k1_t1_loop.trips) :
    ∀ p ∈ tripL_k1_t1 (F := F) 𝒱 c bd i arg2 harg2 arg3 harg3 arg4 harg4 arg5 harg5 arg6 harg6 arg7 harg7 k1_h1 v9 X Y k,
      ∀ x : p.1.shape.Idx, p.2 x = w1 (arg3.view.read (Elt F) X) (arg4.view.read (Elt F) Y) v9 (p.1.emb x) := by
  have hk : k.val < 56 := Nat.lt_of_lt_of_le k.isLt k1_t1_abs.2.1
  unfold tripL_k1_t1 trip_k1_t1
  dsimp only
  intro p hp x
  simp only [List.mem_cons, List.not_mem_nil, or_false] at hp
  rcases hp with rfl | rfl | rfl | rfl
  · refine Eq.trans (congrFun (tile_read1 arg3 arg4 X Y v9 3 ⟨k.val, hk⟩ (k1_off10_eq k) (k1_off11_eq k) _ _) x) (w1_at _ _ _ 3 ⟨k.val, hk⟩ x _ ?_ ?_).symm
    · exact off_add (k1_off12_eq k) 0 _
    · exact off_add (k1_off12_eq k) 1 _
  · refine Eq.trans (congrFun (tile_read1 arg3 arg4 X Y v9 2 ⟨k.val, hk⟩ (k1_off7_eq k) (k1_off8_eq k) _ _) x) (w1_at _ _ _ 2 ⟨k.val, hk⟩ x _ ?_ ?_).symm
    · exact off_add (k1_off9_eq k) 0 _
    · exact off_add (k1_off9_eq k) 1 _
  · refine Eq.trans (congrFun (tile_read1 arg3 arg4 X Y v9 1 ⟨k.val, hk⟩ (k1_off4_eq k) (k1_off5_eq k) _ _) x) (w1_at _ _ _ 1 ⟨k.val, hk⟩ x _ ?_ ?_).symm
    · exact off_add (k1_off6_eq k) 0 _
    · exact off_add (k1_off6_eq k) 1 _
  · refine Eq.trans (congrFun (tile_read1 arg3 arg4 X Y v9 0 ⟨k.val, hk⟩ (k1_off1_eq k) (k1_off2_eq k) _ _) x) (w1_at _ _ _ 0 ⟨k.val, hk⟩ x _ ?_ ?_).symm
    · exact off_add (k1_off3_eq k) 0 _
    · exact off_add (k1_off3_eq k) 1 _

theorem pieces_down (X : BufTy.Contents (Elt F) arg3.view.ty) (Y : BufTy.Contents (Elt F) arg4.view.ty) (n : ℕ) (hn : n ≤ k1_t1_loop.trips) :
    ∀ p ∈ pb_k1_t1 (F := F) 𝒱 c bd i arg2 harg2 arg3 harg3 arg4 harg4 arg5 harg5 arg6 harg6 arg7 harg7 k1_h1 v9 X Y n,
      ∀ x : p.1.shape.Idx, p.2 x = w1 (arg3.view.read (Elt F) X) (arg4.view.read (Elt F) Y) v9 (p.1.emb x) := by
  induction n with
  | zero => intro p hp; exact absurd hp List.not_mem_nil
  | succ n ih =>
    intro p hp
    have e := pb_k1_t1_succ (F := F) 𝒱 c bd i arg2 harg2 arg3 harg3 arg4 harg4 arg5 harg5 arg6 harg6 arg7 harg7 k1_h1 v9 X Y ⟨n, hn⟩
    dsimp only at e
    rw [e] at hp
    rcases List.mem_append.mp hp with h | h
    · exact trip_down 𝒱 c bd i arg2 harg2 arg3 harg3 arg4 harg4 arg5 harg5 arg6 harg6 arg7 harg7 k1_h1 v9 X Y _ p h
    · exact ih (Nat.le_of_succ_le hn) p h

/-- What the second kernel's scratch reads after its loop, whatever it held before. -/
theorem read_after_loop (X : BufTy.Contents (Elt F) arg3.view.ty) (Y : BufTy.Contents (Elt F) arg4.view.ty) (f : BufTy.Contents (Elt F) arg7.view.ty) :
    arg7.view.read (Elt F) (arg7.view.writes (Elt F) f
        (pb_k1_t1 (F := F) 𝒱 c bd i arg2 harg2 arg3 harg3 arg4 harg4 arg5 harg5 arg6 harg6 arg7 harg7 k1_h1 v9 X Y k1_t1_loop.trips))
      = w1 (arg3.view.read (Elt F) X) (arg4.view.read (Elt F) Y) v9 := by
  funext y
  refine View.read_writes_apply_of_pieces _ _ _ _ ?_ y ?_
  · exact pieces_down 𝒱 c bd i arg2 harg2 arg3 harg3 arg4 harg4 arg5 harg5 arg6 harg6 arg7 harg7 k1_h1 v9 X Y _ le_rfl
  · exact View.cover_of_tiledL (pb_k1_t1 (F := F) 𝒱 c bd i arg2 harg2 arg3 harg3 arg4 harg4 arg5 harg5 arg6 harg6 arg7 harg7 k1_h1 v9 X Y k1_t1_loop.trips) S256x128.size (by sl_kernel_rfl) y

end Trip1

end Cert.KernelIdeal.Hand

end
-- ==== Proof.Ideal.Body.lean ====
/- The two kernel bodies, run on any whole memrefs: at a point that opens a column the body decodes the weights into its
   scratch first; at every other point it finds them there. Either way it ends with the product of its block of rows with
   the decoded weights in the output buffer, the decoded weights in the scratch, and its inputs as they were. -/
module

public import proofs.«01_k».proof.Proof.Ideal.Decode
public import proofs.«01_k».proof.Proof.Gen.KernelIdeal.Points
public import Idealize.ShloMosaic.Lib.Pipeline.FrameBody
public import Idealize.ShloMosaic.Lib.WholeRead

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

/-- What the scratch reads once the decoding is done, from memrefs that hold the blocks. -/
theorem scratch0 (c : Dev nD) (i : grid0.Coords) (arg2 : Memref sig .tc .vmem S512x4096 .bf16) (harg2 : arg2.IsWhole) (arg3 : Memref sig .tc .vmem S512x2048 .i8) (harg3 : arg3.IsWhole) (arg4 : Memref sig .tc .vmem S16x4x512 .f32) (harg4 : arg4.IsWhole) (arg5 : Memref sig .tc .vmem S512x2048 .i8) (harg5 : arg5.IsWhole) (arg6 : Memref sig .tc .vmem S16x4x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S4096x1024 .bf16) (harg9 : arg9.IsWhole) (hc : k0_cond1 i = 1#1) (x1 : Vec F S512x2048 .i8) (x2 : Vec F S16x4x512 .f32) (x3 : Vec F S512x2048 .i8) (x4 : Vec F S16x4x512 .f32) (x5 : Vec F S1x128 .f32) (f : BufTy.Contents (Elt F) arg9.view.ty) :
    arg9.view.read (Elt F) (arg9.view.writes (Elt F) f
        (pb_k0_t2 (F := F) Variants.none c none i arg2 harg2 arg3 harg3 arg4 harg4 arg5 harg5 arg6 harg6 arg7 harg7 arg8 harg8 arg9 harg9 hc (arg7.view.readAt (Elt F) (Rect.unit (s := S1x128) ![0, 0] S1x128.size inb_S1x128_S1x128_0_0).toLoadRect (harg7.unread x5)) (harg5.unread x3) (harg6.unread x4) k0_t2_loop.trips
          ++ pb_k0_t1 (F := F) Variants.none c none i arg2 harg2 arg3 harg3 arg4 harg4 arg5 harg5 arg6 harg6 arg7 harg7 arg8 harg8 arg9 harg9 hc (arg7.view.readAt (Elt F) (Rect.unit (s := S1x128) ![0, 0] S1x128.size inb_S1x128_S1x128_0_0).toLoadRect (harg7.unread x5)) (harg3.unread x1) (harg4.unread x2) k0_t1_loop.trips))
      = w0 x1 x2 x3 x4 x5 := by
  rw [View.readAt_full, read_after_loops, harg3.read_unread, harg4.read_unread, harg5.read_unread, harg6.read_unread, harg7.read_unread]

/-- What the scratch reads once the decoding is done, from memrefs that hold the blocks. -/
theorem scratch1 (c : Dev nD) (i : grid1.Coords) (arg2 : Memref sig .tc .vmem S256x14336 .bf16) (harg2 : arg2.IsWhole) (arg3 : Memref sig .tc .vmem S512x7168 .i8) (harg3 : arg3.IsWhole) (arg4 : Memref sig .tc .vmem S56x4x512 .f32) (harg4 : arg4.IsWhole) (arg5 : Memref sig .tc .vmem S1x128 .f32) (harg5 : arg5.IsWhole) (arg6 : Memref sig .tc .vmem S256x512 .bf16) (harg6 : arg6.IsWhole) (arg7 : Memref sig .tc .vmem S14336x512 .bf16) (harg7 : arg7.IsWhole) (hc : k1_cond1 i = 1#1) (x1 : Vec F S512x7168 .i8) (x2 : Vec F S56x4x512 .f32) (x3 : Vec F S1x128 .f32) (f : BufTy.Contents (Elt F) arg7.view.ty) :
    arg7.view.read (Elt F) (arg7.view.writes (Elt F) f
        (pb_k1_t1 (F := F) Variants.none c none i arg2 harg2 arg3 harg3 arg4 harg4 arg5 harg5 arg6 harg6 arg7 harg7 hc (arg5.view.readAt (Elt F) (Rect.unit (s := S1x128) ![0, 0] S1x128.size inb_S1x128_S1x128_0_0).toLoadRect (harg5.unread x3)) (harg3.unread x1) (harg4.unread x2) k1_t1_loop.trips))
      = w1 x1 x2 x3 := by
  rw [View.readAt_full, read_after_loop, harg3.read_unread, harg4.read_unread, harg5.read_unread]

set_option maxHeartbeats 1000000 in
/-- A point that opens a column: the scratch at anything before. -/
theorem run0_A (c : Dev nD) (i : grid0.Coords) (arg2 : Memref sig .tc .vmem S512x4096 .bf16) (harg2 : arg2.IsWhole) (arg3 : Memref sig .tc .vmem S512x2048 .i8) (harg3 : arg3.IsWhole) (arg4 : Memref sig .tc .vmem S16x4x512 .f32) (harg4 : arg4.IsWhole) (arg5 : Memref sig .tc .vmem S512x2048 .i8) (harg5 : arg5.IsWhole) (arg6 : Memref sig .tc .vmem S16x4x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S4096x1024 .bf16) (harg9 : arg9.IsWhole) (hc : k0_cond1 i = 1#1)
    (x0 : Vec F S512x4096 .bf16) (x1 : Vec F S512x2048 .i8) (x2 : Vec F S16x4x512 .f32) (x3 : Vec F S512x2048 .i8) (x4 : Vec F S16x4x512 .f32) (x5 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (hTile x0 (w0 x1 x2 x3 x4 x5)) ∗ owns (c : Thread nD τ) arg9 fullShare (w0 x1 x2 x3 x4 x5)) -∗ K ⟨⟩))
      ⊢ wp frame (wpE (defs₀ (F := F)) Variants.none c none) E (cc0_gate_up i arg2 harg2 arg3 harg3 arg4 harg4 arg5 harg5 arg6 harg6 arg7 harg7 arg8 harg8 arg9 harg9) K := by
  simp only [cc0_gate_up_eq_skeleton]; unfold cc0_gate_up_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_full ..).trans ?_
    refine (congrArg₂ hTile ((View.readAt_full ..).trans (harg2.read_unread x0)) ((View.readAt_full ..).trans ?_))
    exact scratch0 c i arg2 harg2 arg3 harg3 arg4 harg4 arg5 harg5 arg6 harg6 arg7 harg7 arg8 harg8 arg9 harg9 hc x1 x2 x3 x4 x5 _
  iexists _; isplitr
  swap; · iexact HS
  ipureintro
  exact scratch0 c i arg2 harg2 arg3 harg3 arg4 harg4 arg5 harg5 arg6 harg6 arg7 harg7 arg8 harg8 arg9 harg9 hc x1 x2 x3 x4 x5 _

set_option maxHeartbeats 1000000 in
/-- Any other point: the scratch holds the weights `w` before. -/
theorem run0_B (c : Dev nD) (i : grid0.Coords) (arg2 : Memref sig .tc .vmem S512x4096 .bf16) (harg2 : arg2.IsWhole) (arg3 : Memref sig .tc .vmem S512x2048 .i8) (harg3 : arg3.IsWhole) (arg4 : Memref sig .tc .vmem S16x4x512 .f32) (harg4 : arg4.IsWhole) (arg5 : Memref sig .tc .vmem S512x2048 .i8) (harg5 : arg5.IsWhole) (arg6 : Memref sig .tc .vmem S16x4x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S4096x1024 .bf16) (harg9 : arg9.IsWhole) (hc : ¬ k0_cond1 i = 1#1)
    (x0 : Vec F S512x4096 .bf16) (x1 : Vec F S512x2048 .i8) (x2 : Vec F S16x4x512 .f32) (x3 : Vec F S512x2048 .i8) (x4 : Vec F S16x4x512 .f32) (x5 : Vec F S1x128 .f32) (w : Vec F S4096x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare w
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (hTile x0 w) ∗ owns (c : Thread nD τ) arg9 fullShare w) -∗ K ⟨⟩))
      ⊢ wp frame (wpE (defs₀ (F := F)) Variants.none c none) E (cc0_gate_up i arg2 harg2 arg3 harg3 arg4 harg4 arg5 harg5 arg6 harg6 arg7 harg7 arg8 harg8 arg9 harg9) K := by
  simp only [cc0_gate_up_eq_skeleton]; unfold cc0_gate_up_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_full ..).trans ?_
    exact (congrArg₂ hTile ((View.readAt_full ..).trans (harg2.read_unread x0)) ((View.readAt_full ..).trans (harg9.read_unread w)))
  iexists _; isplitr
  swap; · iexact HS
  ipureintro
  exact harg9.read_unread w

set_option maxHeartbeats 1000000 in
/-- A point that opens a column: the scratch at anything before. -/
theorem run1_A (c : Dev nD) (i : grid1.Coords) (arg2 : Memref sig .tc .vmem S256x14336 .bf16) (harg2 : arg2.IsWhole) (arg3 : Memref sig .tc .vmem S512x7168 .i8) (harg3 : arg3.IsWhole) (arg4 : Memref sig .tc .vmem S56x4x512 .f32) (harg4 : arg4.IsWhole) (arg5 : Memref sig .tc .vmem S1x128 .f32) (harg5 : arg5.IsWhole) (arg6 : Memref sig .tc .vmem S256x512 .bf16) (harg6 : arg6.IsWhole) (arg7 : Memref sig .tc .vmem S14336x512 .bf16) (harg7 : arg7.IsWhole) (hc : k1_cond1 i = 1#1)
    (x0 : Vec F S256x14336 .bf16) (x1 : Vec F S512x7168 .i8) (x2 : Vec F S56x4x512 .f32) (x3 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (yTile x0 (w1 x1 x2 x3)) ∗ owns (c : Thread nD τ) arg7 fullShare (w1 x1 x2 x3)) -∗ K ⟨⟩))
      ⊢ wp frame (wpE (defs₀ (F := F)) Variants.none c none) E (cc1_down i arg2 harg2 arg3 harg3 arg4 harg4 arg5 harg5 arg6 harg6 arg7 harg7) K := by
  simp only [cc1_down_eq_skeleton]; unfold cc1_down_skel
  unfold owns
  iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
  obtain rfl := harg2.eq_unread hf0; obtain rfl := harg3.eq_unread hf1; obtain rfl := harg4.eq_unread hf2; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (View.read_writes_full ..).trans ?_
    refine (congrArg₂ yTile ((View.readAt_full ..).trans (harg2.read_unread x0)) ((View.readAt_full ..).trans ?_))
    exact scratch1 c i arg2 harg2 arg3 harg3 arg4 harg4 arg5 harg5 arg6 harg6 arg7 harg7 hc x1 x2 x3 _
  iexists _; isplitr
  swap; · iexact HS
  ipureintro
  exact scratch1 c i arg2 harg2 arg3 harg3 arg4 harg4 arg5 harg5 arg6 harg6 arg7 harg7 hc x1 x2 x3 _

set_option maxHeartbeats 1000000 in
/-- Any other point: the scratch holds the weights `w` before. -/
theorem run1_B (c : Dev nD) (i : grid1.Coords) (arg2 : Memref sig .tc .vmem S256x14336 .bf16) (harg2 : arg2.IsWhole) (arg3 : Memref sig .tc .vmem S512x7168 .i8) (harg3 : arg3.IsWhole) (arg4 : Memref sig .tc .vmem S56x4x512 .f32) (harg4 : arg4.IsWhole) (arg5 : Memref sig .tc .vmem S1x128 .f32) (harg5 : arg5.IsWhole) (arg6 : Memref sig .tc .vmem S256x512 .bf16) (harg6 : arg6.IsWhole) (arg7 : Memref sig .tc .vmem S14336x512 .bf16) (harg7 : arg7.IsWhole) (hc : ¬ k1_cond1 i = 1#1)
    (x0 : Vec F S256x14336 .bf16) (x1 : Vec F S512x7168 .i8) (x2 : Vec F S56x4x512 .f32) (x3 : Vec F S1x128 .f32) (w : Vec F S14336x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare w
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (yTile x0 w) ∗ owns (c : Thread nD τ) arg7 fullShare w) -∗ K ⟨⟩))
      ⊢ wp frame (wpE (defs₀ (F := F)) Variants.none c none) E (cc1_down i arg2 harg2 arg3 harg3 arg4 harg4 arg5 harg5 arg6 harg6 arg7 harg7) K := by
  simp only [cc1_down_eq_skeleton]; unfold cc1_down_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2; obtain rfl := harg5.eq_unread hf3; obtain rfl := harg7.eq_unread hfs
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (View.read_writes_full ..).trans ?_
    exact (congrArg₂ yTile ((View.readAt_full ..).trans (harg2.read_unread x0)) ((View.readAt_full ..).trans (harg7.read_unread w)))
  iexists _; isplitr
  swap; · iexact HS
  ipureintro
  exact harg7.read_unread w

end Cert.KernelIdeal.Hand

end
-- ==== Proof.Ideal.Region0.lean ====
/-
  Region 0: its proof data over the contents `W` the region is entered with, and the obligation of its body.
  The scratch holds the decoded weights of the current block of columns: decoded at the first point of each
  block (the points ≡ 0 mod 12), kept at the others.
-/
module

public import proofs.«01_k».proof.Proof.Ideal.Body
public import proofs.«01_k».proof.Proof.Gen.KernelIdeal.Launch
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (W : Dev nD → Valuation τ sig (Elt F))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The decoded weights of the block of columns point `t` lies in. -/
def wt0 (c : Dev nD) (t : Fin cfg0.N) : Vec F S4096x1024 .bf16 := w0 (iblk0 W c 1 t) (iblk0 W c 2 t) (iblk0 W c 3 t) (iblk0 W c 4 t) (iblk0 W c 5 t)

/-- The body's condition holds at the points ≡ 0 (mod 12). -/
theorem hcond0 : ∀ t : Fin cfg0.N, k0_cond1 (grid0.coords t) = 1#1 ↔ t.val % 12 = 0 :=
  (fun t => by
    have ht : t.val < 336 := Nat.lt_of_lt_of_eq t.isLt N_0
    have e0 : (grid0.coords t 0).val = t.val / 12 % 28 := Pipeline.Grid.coords_val t 0 (by decide) rfl
    have e1 : (grid0.coords t 1).val = t.val / 1 % 12 := Pipeline.Grid.coords_val t 1 (by decide) rfl
    simp only [k0_cond1, e0, e1]
    word_cmp
   : ∀ t : Fin grid0.N, k0_cond1 (grid0.coords t) = 1#1 ↔ t.val % 12 = 0)

/-- Two points of one block of columns have the same first coordinate. -/
theorem coord0 (t u : Fin cfg0.N) (h : u.val / 12 = t.val / 12) : grid0.coords u 0 = grid0.coords t 0 := by
  apply Fin.ext
  rw [show (grid0.coords u 0).val = u.val / 12 % 28 from Pipeline.Grid.coords_val u 0 (by decide) rfl,
    show (grid0.coords t 0).val = t.val / 12 % 28 from Pipeline.Grid.coords_val t 0 (by decide) rfl, h]

theorem stay0_1 (c : Dev nD) (t u : Fin cfg0.N) (h : u.val / 12 = t.val / 12) :
    (iblk0 W c 1 u : Vec F S512x2048 .i8) = iblk0 W c 1 t := by
  have hi : win0_1.index u = win0_1.index t := by
    show cc0_transform_1 (grid0.coords u) = cc0_transform_1 (grid0.coords t)
    unfold cc0_transform_1; rw [coord0 t u h]
  funext y
  refine congrArg (W c (Proc.devRef .tc (Pipeline.arrRef spec0 1))) (funext fun a => Fin.ext ?_)
  show win0_1.index u a * win0_1.size a + 1 * (y a).val = win0_1.index t a * win0_1.size a + 1 * (y a).val
  rw [hi]
theorem stay0_2 (c : Dev nD) (t u : Fin cfg0.N) (h : u.val / 12 = t.val / 12) :
    (iblk0 W c 2 u : Vec F S16x4x512 .f32) = iblk0 W c 2 t := by
  have hi : win0_2.index u = win0_2.index t := by
    show cc0_transform_2 (grid0.coords u) = cc0_transform_2 (grid0.coords t)
    unfold cc0_transform_2; rw [coord0 t u h]
  funext y
  refine congrArg (W c (Proc.devRef .tc (Pipeline.arrRef spec0 2))) (funext fun a => Fin.ext ?_)
  show win0_2.index u a * win0_2.size a + 1 * (y a).val = win0_2.index t a * win0_2.size a + 1 * (y a).val
  rw [hi]
theorem stay0_3 (c : Dev nD) (t u : Fin cfg0.N) (h : u.val / 12 = t.val / 12) :
    (iblk0 W c 3 u : Vec F S512x2048 .i8) = iblk0 W c 3 t := by
  have hi : win0_3.index u = win0_3.index t := by
    show cc0_transform_3 (grid0.coords u) = cc0_transform_3 (grid0.coords t)
    unfold cc0_transform_3; rw [coord0 t u h]
  funext y
  refine congrArg (W c (Proc.devRef .tc (Pipeline.arrRef spec0 3))) (funext fun a => Fin.ext ?_)
  show win0_3.index u a * win0_3.size a + 1 * (y a).val = win0_3.index t a * win0_3.size a + 1 * (y a).val
  rw [hi]
theorem stay0_4 (c : Dev nD) (t u : Fin cfg0.N) (h : u.val / 12 = t.val / 12) :
    (iblk0 W c 4 u : Vec F S16x4x512 .f32) = iblk0 W c 4 t := by
  have hi : win0_4.index u = win0_4.index t := by
    show cc0_transform_4 (grid0.coords u) = cc0_transform_4 (grid0.coords t)
    unfold cc0_transform_4; rw [coord0 t u h]
  funext y
  refine congrArg (W c (Proc.devRef .tc (Pipeline.arrRef spec0 4))) (funext fun a => Fin.ext ?_)
  show win0_4.index u a * win0_4.size a + 1 * (y a).val = win0_4.index t a * win0_4.size a + 1 * (y a).val
  rw [hi]
theorem stay0_5 (c : Dev nD) (t u : Fin cfg0.N) (h : u.val / 12 = t.val / 12) :
    (iblk0 W c 5 u : Vec F S1x128 .f32) = iblk0 W c 5 t := by
  have hi : win0_5.index u = win0_5.index t := by
    show cc0_transform_5 (grid0.coords u) = cc0_transform_5 (grid0.coords t)
    unfold cc0_transform_5; rfl
  funext y
  refine congrArg (W c (Proc.devRef .tc (Pipeline.arrRef spec0 5))) (funext fun a => Fin.ext ?_)
  show win0_5.index u a * win0_5.size a + 1 * (y a).val = win0_5.index t a * win0_5.size a + 1 * (y a).val
  rw [hi]

/-- The weight blocks, the scales and the table depend on the first coordinate alone, so the decoded weights are
    the same at every point of a block of columns. -/
theorem wt0_stay (c : Dev nD) (t u : Fin cfg0.N) (h : u.val / 12 = t.val / 12) : wt0 W c u = wt0 W c t := by
  unfold wt0
  rw [stay0_1 W c t u h, stay0_2 W c t u h, stay0_3 W c t u h, stay0_4 W c t u h, stay0_5 W c t u h]

/-! ## Memrefs and the invariant -/

abbrev ms0_0 (t : Fin cfg0.N) : Memref sig .tc .vmem S512x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x4x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x4x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .bf16 := win0_6.stage (cfg0.slots t 6)
abbrev hs0_6 (t : Fin cfg0.N) : (ms0_6 t).IsWhole := hstage0_6 ((cfg0.slots t 6).cast nbuf0_6)
/-- The scratch, as the body takes it. -/
abbrev scM0 : Memref sig .tc .vmem S4096x1024 .bf16 := Memref.whole cc0_scratch0

/-- Every scoped buffer beside the staging buffers and the scratch, at anything. -/
abbrev rest0 (c : Dev nD) : sProp 𝕄 := Pipeline.scopedRestBut (Ix := Unit) (Name := ℕ) (U := UR sig nD τ) (Lvl := ℕ) (Val := Elt F) spec0 c [cc0_scratch0]

/-- What the launch hands the region, the scratch taken out. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA
  rw [Pipeline.scopedRest_split_of_list spec0 c [cc0_scratch0] (by decide) (by decide)]
  simp only [scM0, owns_whole]; try rfl

/-- The invariant before position `n`: before the first point the scratch at anything, afterwards at the decoded
    weights of the point before. -/
def Phi0 (c : Dev nD) : (n : ℕ) → n ≤ cfg0.N → sProp 𝕄
  | 0, _ => Pipeline.ΦA spec0 c
  | n + 1, hn => iprop((owns (c : Thread nD τ) scM0 fullShare (wt0 W c ⟨n, hn⟩) ∗ rest0 (F := F) c) ∗ (∃ r, prngReg c r))

theorem Phi0_zero (c : Dev nD) (n : ℕ) (h : n ≤ cfg0.N) (hz : n = 0) : Phi0 W c n h = Pipeline.ΦA spec0 c := by
  subst hz; rfl
theorem Phi0_succ (c : Dev nD) (n : ℕ) (hn : n < cfg0.N) :
    Phi0 W c (n + 1) hn = iprop((owns (c : Thread nD τ) scM0 fullShare (wt0 W c ⟨n, hn⟩) ∗ rest0 (F := F) c) ∗ (∃ r, prngReg c r)) := rfl
theorem Phi0_pos (c : Dev nD) (n : ℕ) (h : n ≤ cfg0.N) (hz : n ≠ 0) :
    Phi0 W c n h = iprop((owns (c : Thread nD τ) scM0 fullShare (wt0 W c ⟨n - 1, by omega⟩) ∗ rest0 (F := F) c) ∗ (∃ r, prngReg c r)) := by
  cases n with
  | zero => exact absurd rfl hz
  | succ n => rfl

/-! ## The proof data -/

/-- The proof data: the arrays at `W`; after the body each input's buffer at its block, the output's at the product
    with the decoded weights. -/
def dat0 (c : Dev nD) : Dat τ (Elt F) Unit ℕ (UR sig nD τ) ℕ cfg0 c where
  A w := W c (Proc.devRef .tc (Pipeline.arrRef spec0 w))
  after w t := match w with
    | ⟨0, _⟩ => iblk0 W c 0 t
    | ⟨1, _⟩ => iblk0 W c 1 t
    | ⟨2, _⟩ => iblk0 W c 2 t
    | ⟨3, _⟩ => iblk0 W c 3 t
    | ⟨4, _⟩ => iblk0 W c 4 t
    | ⟨5, _⟩ => iblk0 W c 5 t
    | ⟨6, _⟩ => hTile (iblk0 W c 0 t) (wt0 W c t)
  Φ t := Phi0 W c t.val (Nat.le_of_lt_succ t.isLt)
  q _ := fullShare
  owed _ := 0

theorem A_eq0 (c : Dev nD) (w : Fin cfg0.W) : (dat0 W c).A w = W c (Proc.devRef .tc (Pipeline.arrRef spec0 w)) := by
  dsimp only [dat0]
theorem Phi0_castSucc (c : Dev nD) (t : Fin cfg0.N) : (dat0 W c).Φ t.castSucc = Phi0 W c t.val (Nat.le_of_lt t.isLt) := by
  dsimp only [dat0]; exact Pipeline.Dat.Φ_castSucc (Phi0 W c) t
theorem after0_0 (c : Dev nD) (t : Fin cfg0.N) : (dat0 W c).after 0 t = iblk0 W c 0 t := by dsimp only [dat0]
theorem after0_1 (c : Dev nD) (t : Fin cfg0.N) : (dat0 W c).after 1 t = iblk0 W c 1 t := by dsimp only [dat0]
theorem after0_2 (c : Dev nD) (t : Fin cfg0.N) : (dat0 W c).after 2 t = iblk0 W c 2 t := by dsimp only [dat0]
theorem after0_3 (c : Dev nD) (t : Fin cfg0.N) : (dat0 W c).after 3 t = iblk0 W c 3 t := by dsimp only [dat0]
theorem after0_4 (c : Dev nD) (t : Fin cfg0.N) : (dat0 W c).after 4 t = iblk0 W c 4 t := by dsimp only [dat0]
theorem after0_5 (c : Dev nD) (t : Fin cfg0.N) : (dat0 W c).after 5 t = iblk0 W c 5 t := by dsimp only [dat0]
theorem after0_6 (c : Dev nD) (t : Fin cfg0.N) : (dat0 W c).after 6 t = hTile (iblk0 W c 0 t) (wt0 W c t) := by dsimp only [dat0]
theorem before0_0 (c : Dev nD) (t : Fin cfg0.N) (d) : (dat0 W c).before 0 t d = iblk0 W c 0 t :=
  ((dat0 W c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 W c).before 1 t d = iblk0 W c 1 t :=
  ((dat0 W c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 W c).before 2 t d = iblk0 W c 2 t :=
  ((dat0 W c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 W c).before 3 t d = iblk0 W c 3 t :=
  ((dat0 W c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 W c).before 4 t d = iblk0 W c 4 t :=
  ((dat0 W c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 W c).before 5 t d = iblk0 W c 5 t :=
  ((dat0 W c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)

/-! ## The body obligation -/

/-- What the body is called with at point `t`, -/
def bodyPre0 (c : Dev nD) (t : Fin cfg0.N) : sProp 𝕄 :=
  iprop((dat0 W c).Φ t.castSucc ∗ (dat0 W c).owesAt () t.castSucc
    ∗ (∃ d, owns (c : Thread nD τ) (ms0_0 t) fullShare ((dat0 W c).before 0 t d))
    ∗ (∃ d, owns (c : Thread nD τ) (ms0_1 t) fullShare ((dat0 W c).before 1 t d))
    ∗ (∃ d, owns (c : Thread nD τ) (ms0_2 t) fullShare ((dat0 W c).before 2 t d))
    ∗ (∃ d, owns (c : Thread nD τ) (ms0_3 t) fullShare ((dat0 W c).before 3 t d))
    ∗ (∃ d, owns (c : Thread nD τ) (ms0_4 t) fullShare ((dat0 W c).before 4 t d))
    ∗ (∃ d, owns (c : Thread nD τ) (ms0_5 t) fullShare ((dat0 W c).before 5 t d))
    ∗ (∃ d, owns (c : Thread nD τ) (ms0_6 t) fullShare ((dat0 W c).before 6 t d)))

/-- and what it returns. -/
def bodyPost0 (c : Dev nD) (t : Fin cfg0.N) : sProp 𝕄 :=
  iprop((dat0 W c).Φ t.succ ∗ (dat0 W c).owesAt () t.succ
    ∗ owns (c : Thread nD τ) (ms0_0 t) fullShare ((dat0 W c).after 0 t)
    ∗ owns (c : Thread nD τ) (ms0_1 t) fullShare ((dat0 W c).after 1 t)
    ∗ owns (c : Thread nD τ) (ms0_2 t) fullShare ((dat0 W c).after 2 t)
    ∗ owns (c : Thread nD τ) (ms0_3 t) fullShare ((dat0 W c).after 3 t)
    ∗ owns (c : Thread nD τ) (ms0_4 t) fullShare ((dat0 W c).after 4 t)
    ∗ owns (c : Thread nD τ) (ms0_5 t) fullShare ((dat0 W c).after 5 t)
    ∗ owns (c : Thread nD τ) (ms0_6 t) fullShare ((dat0 W c).after 6 t))

set_option maxHeartbeats 3200000 in
/-- The body at any point. -/
theorem sound_body0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1, before0_2, before0_3, before0_4, before0_5]
  rw [show (dat0 W c).owesAt () t.succ = (dat0 W c).owesAt () t.castSucc from rfl, after0_0, after0_1, after0_2, after0_3, after0_4, after0_5, after0_6]
  rw [show (dat0 W c).Φ t.succ = Phi0 W c (t.val + 1) t.isLt from rfl, Phi0_succ]
  by_cases h0 : t.val % 12 = 0
  · by_cases hz : t.val = 0
    · rw [Phi0_castSucc W c t, Phi0_zero W c _ _ hz, PhiA0_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (run0_A c (grid0.coords t) _ _ _ _ _ _ _ _ _ _ _ _ _ _ _ _ ((hcond0 t).mpr h0) (iblk0 W c 0 t) (iblk0 W c 1 t) (iblk0 W c 2 t) (iblk0 W c 3 t) (iblk0 W c 4 t) (iblk0 W c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Phi0_castSucc W c t, Phi0_pos W c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (run0_A c (grid0.coords t) _ _ _ _ _ _ _ _ _ _ _ _ _ _ _ _ ((hcond0 t).mpr h0) (iblk0 W c 0 t) (iblk0 W c 1 t) (iblk0 W c 2 t) (iblk0 W c 3 t) (iblk0 W c 4 t) (iblk0 W c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexists _; iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz : t.val ≠ 0 := fun hz => h0 (by rw [hz])
    rw [Phi0_castSucc W c t, Phi0_pos W c _ _ hz, wt0_stay W c t ⟨t.val - 1, by omega⟩ (by dsimp only; omega)]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (run0_B c (grid0.coords t) _ _ _ _ _ _ _ _ _ _ _ _ _ _ _ _ (fun h => h0 ((hcond0 t).mp h)) (iblk0 W c 0 t) (iblk0 W c 1 t) (iblk0 W c 2 t) (iblk0 W c 3 t) (iblk0 W c 4 t) (iblk0 W c 5 t) (wt0 W c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 (F := F) W c) (defs₀ (F := F)) Variants.none () Set.univ := fun t => by
  rw [bigSep_W0, bigSep_W0, defs₀_row0]
  exact triple_restated (sound_body0 W c t) rfl .rfl fun _ => .rfl

/-- What the launch hands the region is the invariant before the first point, -/
theorem hin0 (c : Dev nD) : Pipeline.ΦA spec0 c ⊢ (dat0 W c).Φ 0 := by
  rw [show (dat0 W c).Φ 0 = Phi0 W c 0 (Nat.zero_le _) from rfl, Phi0_zero W c 0 _ rfl]

/-- and after the last point the invariant gives it back. -/
theorem hout0 (c : Dev nD) : (dat0 W c).Φ (Fin.last cfg0.N) ⊢ Pipeline.ΦA spec0 c := by
  have hN : cfg0.N = 336 := N_0
  rw [show (dat0 W c).Φ (Fin.last cfg0.N) = Phi0 W c cfg0.N (le_refl _) from rfl, Phi0_pos W c _ _ (by omega), PhiA0_eq]
  iintro ⟨⟨HS, HR⟩, Hg⟩
  isplitr [Hg]
  · isplitl [HS]
    · iexists _; iexact HS
    iexact HR
  iexact Hg

end Cert.KernelIdeal.Hand

end
-- ==== Proof.Ideal.Region1.lean ====
/-
  Region 1: its proof data over the contents `W` the region is entered with, and the obligation of its body.
  The scratch holds the decoded weights of the current block of columns: decoded at the first point of each
  block (the points ≡ 0 mod 24), kept at the others.
-/
module

public import proofs.«01_k».proof.Proof.Ideal.Body
public import proofs.«01_k».proof.Proof.Gen.KernelIdeal.Launch
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (W : Dev nD → Valuation τ sig (Elt F))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The decoded weights of the block of columns point `t` lies in. -/
def wt1 (c : Dev nD) (t : Fin cfg1.N) : Vec F S14336x512 .bf16 := w1 (iblk1 W c 1 t) (iblk1 W c 2 t) (iblk1 W c 3 t)

/-- The body's condition holds at the points ≡ 0 (mod 24). -/
theorem hcond1 : ∀ t : Fin cfg1.N, k1_cond1 (grid1.coords t) = 1#1 ↔ t.val % 24 = 0 :=
  (fun t => by
    have ht : t.val < 192 := Nat.lt_of_lt_of_eq t.isLt N_1
    have e0 : (grid1.coords t 0).val = t.val / 24 % 8 := Pipeline.Grid.coords_val t 0 (by decide) rfl
    have e1 : (grid1.coords t 1).val = t.val / 1 % 24 := Pipeline.Grid.coords_val t 1 (by decide) rfl
    simp only [k1_cond1, e0, e1]
    word_cmp
   : ∀ t : Fin grid1.N, k1_cond1 (grid1.coords t) = 1#1 ↔ t.val % 24 = 0)

/-- Two points of one block of columns have the same first coordinate. -/
theorem coord1 (t u : Fin cfg1.N) (h : u.val / 24 = t.val / 24) : grid1.coords u 0 = grid1.coords t 0 := by
  apply Fin.ext
  rw [show (grid1.coords u 0).val = u.val / 24 % 8 from Pipeline.Grid.coords_val u 0 (by decide) rfl,
    show (grid1.coords t 0).val = t.val / 24 % 8 from Pipeline.Grid.coords_val t 0 (by decide) rfl, h]

theorem stay1_1 (c : Dev nD) (t u : Fin cfg1.N) (h : u.val / 24 = t.val / 24) :
    (iblk1 W c 1 u : Vec F S512x7168 .i8) = iblk1 W c 1 t := by
  have hi : win1_1.index u = win1_1.index t := by
    show cc1_transform_1 (grid1.coords u) = cc1_transform_1 (grid1.coords t)
    unfold cc1_transform_1; rw [coord1 t u h]
  funext y
  refine congrArg (W c (Proc.devRef .tc (Pipeline.arrRef spec1 1))) (funext fun a => Fin.ext ?_)
  show win1_1.index u a * win1_1.size a + 1 * (y a).val = win1_1.index t a * win1_1.size a + 1 * (y a).val
  rw [hi]
theorem stay1_2 (c : Dev nD) (t u : Fin cfg1.N) (h : u.val / 24 = t.val / 24) :
    (iblk1 W c 2 u : Vec F S56x4x512 .f32) = iblk1 W c 2 t := by
  have hi : win1_2.index u = win1_2.index t := by
    show cc1_transform_2 (grid1.coords u) = cc1_transform_2 (grid1.coords t)
    unfold cc1_transform_2; rw [coord1 t u h]
  funext y
  refine congrArg (W c (Proc.devRef .tc (Pipeline.arrRef spec1 2))) (funext fun a => Fin.ext ?_)
  show win1_2.index u a * win1_2.size a + 1 * (y a).val = win1_2.index t a * win1_2.size a + 1 * (y a).val
  rw [hi]
theorem stay1_3 (c : Dev nD) (t u : Fin cfg1.N) (h : u.val / 24 = t.val / 24) :
    (iblk1 W c 3 u : Vec F S1x128 .f32) = iblk1 W c 3 t := by
  have hi : win1_3.index u = win1_3.index t := by
    show cc1_transform_3 (grid1.coords u) = cc1_transform_3 (grid1.coords t)
    unfold cc1_transform_3; rfl
  funext y
  refine congrArg (W c (Proc.devRef .tc (Pipeline.arrRef spec1 3))) (funext fun a => Fin.ext ?_)
  show win1_3.index u a * win1_3.size a + 1 * (y a).val = win1_3.index t a * win1_3.size a + 1 * (y a).val
  rw [hi]

/-- The weight blocks, the scales and the table depend on the first coordinate alone, so the decoded weights are
    the same at every point of a block of columns. -/
theorem wt1_stay (c : Dev nD) (t u : Fin cfg1.N) (h : u.val / 24 = t.val / 24) : wt1 W c u = wt1 W c t := by
  unfold wt1
  rw [stay1_1 W c t u h, stay1_2 W c t u h, stay1_3 W c t u h]

/-! ## Memrefs and the invariant -/

abbrev ms1_0 (t : Fin cfg1.N) : Memref sig .tc .vmem S256x14336 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x7168 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S56x4x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x512 .bf16 := win1_4.stage (cfg1.slots t 4)
abbrev hs1_4 (t : Fin cfg1.N) : (ms1_4 t).IsWhole := hstage1_4 ((cfg1.slots t 4).cast nbuf1_4)
/-- The scratch, as the body takes it. -/
abbrev scM1 : Memref sig .tc .vmem S14336x512 .bf16 := Memref.whole cc1_scratch0

/-- Every scoped buffer beside the staging buffers and the scratch, at anything. -/
abbrev rest1 (c : Dev nD) : sProp 𝕄 := Pipeline.scopedRestBut (Ix := Unit) (Name := ℕ) (U := UR sig nD τ) (Lvl := ℕ) (Val := Elt F) spec1 c [cc1_scratch0]

/-- What the launch hands the region, the scratch taken out. -/
theorem PhiA1_eq (c : Dev nD) :
    (Pipeline.ΦA spec1 c : sProp 𝕄)
      = iprop(((∃ d, owns (c : Thread nD τ) scM1 fullShare d) ∗ rest1 (F := F) c) ∗ (∃ r, prngReg c r)) := by
  unfold Pipeline.ΦA
  rw [Pipeline.scopedRest_split_of_list spec1 c [cc1_scratch0] (by decide) (by decide)]
  simp only [scM1, owns_whole]; try rfl

/-- The invariant before position `n`: before the first point the scratch at anything, afterwards at the decoded
    weights of the point before. -/
def Phi1 (c : Dev nD) : (n : ℕ) → n ≤ cfg1.N → sProp 𝕄
  | 0, _ => Pipeline.ΦA spec1 c
  | n + 1, hn => iprop((owns (c : Thread nD τ) scM1 fullShare (wt1 W c ⟨n, hn⟩) ∗ rest1 (F := F) c) ∗ (∃ r, prngReg c r))

theorem Phi1_zero (c : Dev nD) (n : ℕ) (h : n ≤ cfg1.N) (hz : n = 0) : Phi1 W c n h = Pipeline.ΦA spec1 c := by
  subst hz; rfl
theorem Phi1_succ (c : Dev nD) (n : ℕ) (hn : n < cfg1.N) :
    Phi1 W c (n + 1) hn = iprop((owns (c : Thread nD τ) scM1 fullShare (wt1 W c ⟨n, hn⟩) ∗ rest1 (F := F) c) ∗ (∃ r, prngReg c r)) := rfl
theorem Phi1_pos (c : Dev nD) (n : ℕ) (h : n ≤ cfg1.N) (hz : n ≠ 0) :
    Phi1 W c n h = iprop((owns (c : Thread nD τ) scM1 fullShare (wt1 W c ⟨n - 1, by omega⟩) ∗ rest1 (F := F) c) ∗ (∃ r, prngReg c r)) := by
  cases n with
  | zero => exact absurd rfl hz
  | succ n => rfl

/-! ## The proof data -/

/-- The proof data: the arrays at `W`; after the body each input's buffer at its block, the output's at the product
    with the decoded weights. -/
def dat1 (c : Dev nD) : Dat τ (Elt F) Unit ℕ (UR sig nD τ) ℕ cfg1 c where
  A w := W c (Proc.devRef .tc (Pipeline.arrRef spec1 w))
  after w t := match w with
    | ⟨0, _⟩ => iblk1 W c 0 t
    | ⟨1, _⟩ => iblk1 W c 1 t
    | ⟨2, _⟩ => iblk1 W c 2 t
    | ⟨3, _⟩ => iblk1 W c 3 t
    | ⟨4, _⟩ => yTile (iblk1 W c 0 t) (wt1 W c t)
  Φ t := Phi1 W c t.val (Nat.le_of_lt_succ t.isLt)
  q _ := fullShare
  owed _ := 0

theorem A_eq1 (c : Dev nD) (w : Fin cfg1.W) : (dat1 W c).A w = W c (Proc.devRef .tc (Pipeline.arrRef spec1 w)) := by
  dsimp only [dat1]
theorem Phi1_castSucc (c : Dev nD) (t : Fin cfg1.N) : (dat1 W c).Φ t.castSucc = Phi1 W c t.val (Nat.le_of_lt t.isLt) := by
  dsimp only [dat1]; exact Pipeline.Dat.Φ_castSucc (Phi1 W c) t
theorem after1_0 (c : Dev nD) (t : Fin cfg1.N) : (dat1 W c).after 0 t = iblk1 W c 0 t := by dsimp only [dat1]
theorem after1_1 (c : Dev nD) (t : Fin cfg1.N) : (dat1 W c).after 1 t = iblk1 W c 1 t := by dsimp only [dat1]
theorem after1_2 (c : Dev nD) (t : Fin cfg1.N) : (dat1 W c).after 2 t = iblk1 W c 2 t := by dsimp only [dat1]
theorem after1_3 (c : Dev nD) (t : Fin cfg1.N) : (dat1 W c).after 3 t = iblk1 W c 3 t := by dsimp only [dat1]
theorem after1_4 (c : Dev nD) (t : Fin cfg1.N) : (dat1 W c).after 4 t = yTile (iblk1 W c 0 t) (wt1 W c t) := by dsimp only [dat1]
theorem before1_0 (c : Dev nD) (t : Fin cfg1.N) (d) : (dat1 W c).before 0 t d = iblk1 W c 0 t :=
  ((dat1 W c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 W c).before 1 t d = iblk1 W c 1 t :=
  ((dat1 W c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 W c).before 2 t d = iblk1 W c 2 t :=
  ((dat1 W c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 W c).before 3 t d = iblk1 W c 3 t :=
  ((dat1 W c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## The body obligation -/

/-- What the body is called with at point `t`, -/
def bodyPre1 (c : Dev nD) (t : Fin cfg1.N) : sProp 𝕄 :=
  iprop((dat1 W c).Φ t.castSucc ∗ (dat1 W c).owesAt () t.castSucc
    ∗ (∃ d, owns (c : Thread nD τ) (ms1_0 t) fullShare ((dat1 W c).before 0 t d))
    ∗ (∃ d, owns (c : Thread nD τ) (ms1_1 t) fullShare ((dat1 W c).before 1 t d))
    ∗ (∃ d, owns (c : Thread nD τ) (ms1_2 t) fullShare ((dat1 W c).before 2 t d))
    ∗ (∃ d, owns (c : Thread nD τ) (ms1_3 t) fullShare ((dat1 W c).before 3 t d))
    ∗ (∃ d, owns (c : Thread nD τ) (ms1_4 t) fullShare ((dat1 W c).before 4 t d)))

/-- and what it returns. -/
def bodyPost1 (c : Dev nD) (t : Fin cfg1.N) : sProp 𝕄 :=
  iprop((dat1 W c).Φ t.succ ∗ (dat1 W c).owesAt () t.succ
    ∗ owns (c : Thread nD τ) (ms1_0 t) fullShare ((dat1 W c).after 0 t)
    ∗ owns (c : Thread nD τ) (ms1_1 t) fullShare ((dat1 W c).after 1 t)
    ∗ owns (c : Thread nD τ) (ms1_2 t) fullShare ((dat1 W c).after 2 t)
    ∗ owns (c : Thread nD τ) (ms1_3 t) fullShare ((dat1 W c).after 3 t)
    ∗ owns (c : Thread nD τ) (ms1_4 t) fullShare ((dat1 W c).after 4 t))

set_option maxHeartbeats 3200000 in
/-- The body at any point. -/
theorem sound_body1 (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3]
  rw [show (dat1 W c).owesAt () t.succ = (dat1 W c).owesAt () t.castSucc from rfl, after1_0, after1_1, after1_2, after1_3, after1_4]
  rw [show (dat1 W c).Φ t.succ = Phi1 W c (t.val + 1) t.isLt from rfl, Phi1_succ]
  by_cases h0 : t.val % 24 = 0
  · by_cases hz : t.val = 0
    · rw [Phi1_castSucc W c t, Phi1_zero W c _ _ hz, PhiA1_eq]
      iintro ⟨⟨⟨HS, HR⟩, Hg⟩, Ho, ⟨%d0, H0⟩, ⟨%d1, H1⟩, ⟨%d2, H2⟩, ⟨%d3, H3⟩, ⟨%d4, H4⟩⟩
      iapply (run1_A c (grid1.coords t) _ _ _ _ _ _ _ _ _ _ _ _ ((hcond1 t).mpr h0) (iblk1 W c 0 t) (iblk1 W c 1 t) (iblk1 W c 2 t) (iblk1 W c 3 t) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · rw [Phi1_castSucc W c t, Phi1_pos W c _ _ hz]
      iintro ⟨⟨⟨HS, HR⟩, Hg⟩, Ho, ⟨%d0, H0⟩, ⟨%d1, H1⟩, ⟨%d2, H2⟩, ⟨%d3, H3⟩, ⟨%d4, H4⟩⟩
      iapply (run1_A c (grid1.coords t) _ _ _ _ _ _ _ _ _ _ _ _ ((hcond1 t).mpr h0) (iblk1 W c 0 t) (iblk1 W c 1 t) (iblk1 W c 2 t) (iblk1 W c 3 t) Set.univ _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
  · have hz : t.val ≠ 0 := fun hz => h0 (by rw [hz])
    rw [Phi1_castSucc W c t, Phi1_pos W c _ _ hz, wt1_stay W c t ⟨t.val - 1, by omega⟩ (by dsimp only; omega)]
    iintro ⟨⟨⟨HS, HR⟩, Hg⟩, Ho, ⟨%d0, H0⟩, ⟨%d1, H1⟩, ⟨%d2, H2⟩, ⟨%d3, H3⟩, ⟨%d4, H4⟩⟩
    iapply (run1_B c (grid1.coords t) _ _ _ _ _ _ _ _ _ _ _ _ (fun h => h0 ((hcond1 t).mp h)) (iblk1 W c 0 t) (iblk1 W c 1 t) (iblk1 W c 2 t) (iblk1 W c 3 t) (wt1 W c t) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) W c) (defs₀ (F := F)) Variants.none () Set.univ := fun t => by
  rw [bigSep_W1, bigSep_W1, defs₀_row1]
  exact triple_restated (sound_body1 W c t) rfl .rfl fun _ => .rfl

/-- What the launch hands the region is the invariant before the first point, -/
theorem hin1 (c : Dev nD) : Pipeline.ΦA spec1 c ⊢ (dat1 W c).Φ 0 := by
  rw [show (dat1 W c).Φ 0 = Phi1 W c 0 (Nat.zero_le _) from rfl, Phi1_zero W c 0 _ rfl]

/-- and after the last point the invariant gives it back. -/
theorem hout1 (c : Dev nD) : (dat1 W c).Φ (Fin.last cfg1.N) ⊢ Pipeline.ΦA spec1 c := by
  have hN : cfg1.N = 192 := N_1
  rw [show (dat1 W c).Φ (Fin.last cfg1.N) = Phi1 W c cfg1.N (le_refl _) from rfl, Phi1_pos W c _ _ (by omega), PhiA1_eq]
  iintro ⟨⟨HS, HR⟩, Hg⟩
  isplitr [Hg]
  · isplitl [HS]
    · iexists _; iexact HS
    iexact HR
  iexact Hg

end Cert.KernelIdeal.Hand

end
-- ==== Proof.Ideal.Run.lean ====
/-
  The run of the whole program: the two regions as segments over the contents of the unscoped buffers, and
  what every buffer holds at the end.
-/
module

public import proofs.«01_k».proof.Proof.Ideal.Region0
public import proofs.«01_k».proof.Proof.Ideal.Region1
public import proofs.«01_k».proof.Proof.Gen.KernelIdeal.Regions
public import Idealize.ShloMosaic.Lib.Pipeline.RegionArraysS

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg HostSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A region with one output leaves every buffer as it was, but that output's array. -/
theorem afterRegion_eq_update {cfg : Cfg sig Λ₀} {c : Dev nD} (dat : Dat τ (Elt F) Unit ℕ (UR sig nD τ) ℕ cfg c) (V : Valuation τ sig (Elt F))
    (hinj : Function.Injective (Pipeline.arrRef cfg.spec)) (hA : ∀ w, dat.A w = V (Proc.devRef .tc (Pipeline.arrRef cfg.spec w)))
    (o : Fin cfg.W) (ho : ∀ w, w ≠ o → (cfg.win w).isOut = false) :
    Pipeline.afterRegion dat V = Function.update V (Proc.devRef .tc (Pipeline.arrRef cfg.spec o))
      (Pipeline.afterRegion dat V (Proc.devRef .tc (Pipeline.arrRef cfg.spec o))) := by
  funext b
  by_cases hb : b = Proc.devRef .tc (Pipeline.arrRef cfg.spec o)
  · subst hb; rw [Function.update_self]
  rw [Function.update_of_ne hb]
  by_cases hw : ∃ w, b = Proc.devRef .tc (Pipeline.arrRef cfg.spec w)
  · obtain ⟨w, rfl⟩ := hw
    refine Pipeline.afterRegion_keeps dat V hinj hA _ fun w' e => ho w' fun e' => hb ?_
    rw [← e, e']
  · unfold Pipeline.afterRegion; rw [dif_neg hw]

/-- What region 0 leaves in its output's array. -/
def res0 (c : Dev nD) : Buf (Elt F) ((c : Thread nD τ).loc main_v38) :=
  Pipeline.afterRegion (dat0 (V1 m) c) (V1 m c) (Proc.devRef .tc main_v38)
/-- The contents region 1 is entered with. -/
def W1 (c : Dev nD) : Valuation τ sig (Elt F) := Function.update (V1 m c) main_v38 (res0 m c)
/-- What the regions leave. -/
def outs : Outs (F := F) := fun k r c => match k with
  | 2 => Pipeline.afterRegion (dat0 (V1 m) c) (V1 m c) (Proc.devRef .tc r)
  | _ => Pipeline.afterRegion (dat1 (W1 m) c) (W1 m c) (Proc.devRef .tc r)

theorem V2_eq (c : Dev nD) : V2 m (outs m) c = W1 m c := rfl

/-- The regions' proof data. -/
def pdats : (p : Fin 2) → (c : Dev nD) → Dat τ (Elt F) Unit ℕ (UR sig nD τ) ℕ (cfgs p) c
  | ⟨0, _⟩ => fun c => dat0 (V1 m) c
  | ⟨1, _⟩ => fun c => dat1 (W1 m) c

/-- The staging waits' index has a level at every cell of the TensorCore. -/
def L : GSem nD τ sig → Finset Unit := fun g => if g.1.2 = .tc then {()} else ∅
abbrev lv : GSem nD τ sig → Unit → ℕ := fun _ _ => 0

theorem cut (p : Fin 2) : Pipeline.LevelCut (pcfgs (F := F)) adm () L lv p (fun _ => 0) fun _ => 0 :=
  ⟨fun c _ _ => by unfold L; rw [if_pos rfl]; exact Finset.mem_singleton_self _, fun _ _ _ => le_refl _,
    fun c g i h => absurd h (lt_irrefl _)⟩

/-- What rides along between the items: what the core owes (nothing) and its generator register. -/
def E : Fin 3 → Dev nD → sProp 𝕄 := fun _ c =>
  iprop((∃ Wd, owes (c : Thread nD τ) (0 : CellTallies nD τ sig Unit) Wd) ∗ (∃ r, prngReg c r) ∗ emp)

set_option backward.isDefEq.respectTransparency.types false in
/-- Region 0 as a segment. -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) launch0.toP rfl
    (fun c => (body_obligation0 (V1 m) c).loose) (fun _ _ => rfl) (fun _ => rfl) (fun c => (dat0 (V1 m) c).share_full fun _ => rfl)
    (fun c => hin0 (V1 m) c) (fun c => hout0 (V1 m) c) (fun _ => 0) (cut 0) (fun _ => iprop(emp)) (V1 m) (fun c w => rfl)

theorem sub0 : Pipeline.arrRefs (τ := τ) (pcfgs (F := F) 0).spec ⊆ Pipeline.ucRefs τ sig :=
  Pipeline.arrRefs_sub_ucRefs _ launch0.win.arr_unscoped

set_option backward.isDefEq.respectTransparency.types false in
/-- Region 1 as a segment. -/
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun c => iprop(∃ r, prngReg c r)) (fun c => iprop(∃ r, prngReg c r)) launch1.toP rfl
    (fun c => (body_obligation1 (W1 m) c).loose) (fun _ _ => rfl) (fun _ => rfl) (fun c => (dat1 (W1 m) c).share_full fun _ => rfl)
    (fun c => hin1 (W1 m) c) (fun c => hout1 (W1 m) c) (fun _ => 0) (cut 1) (fun _ => iprop(emp)) (W1 m) (fun c w => rfl)

theorem sub1 : Pipeline.arrRefs (τ := τ) (pcfgs (F := F) 1).spec ⊆ Pipeline.ucRefs τ sig :=
  Pipeline.arrRefs_sub_ucRefs _ launch1.win.arr_unscoped

set_option backward.isDefEq.respectTransparency.types false in
theorem hpre0 (c : Dev nD) : iprop(StableHlo.held (c : Thread nD τ) (Pipeline.ucRefs τ sig) (V1 m c) ∗ E (F := F) 0 c) ⊢ (reg0 m).pre c := by
  unfold reg0 E; exact RegionSeg.ofHeldIn_pre (D := fun _ => 0) (X := fun c => iprop(∃ r, prngReg c r)) (Y := fun c => iprop(∃ r, prngReg c r)) (R := fun _ => iprop(emp)) (W := V1 m) sub0 c
set_option backward.isDefEq.respectTransparency.types false in
theorem hpre1 (c : Dev nD) : iprop(StableHlo.held (c : Thread nD τ) (Pipeline.ucRefs τ sig) (V2 m (outs m) c) ∗ E (F := F) 1 c) ⊢ (reg1 m).pre c := by
  unfold reg1 E; rw [V2_eq]; exact RegionSeg.ofHeldIn_pre (D := fun _ => 0) (X := fun c => iprop(∃ r, prngReg c r)) (Y := fun c => iprop(∃ r, prngReg c r)) (R := fun _ => iprop(emp)) (W := W1 m) sub1 c
theorem hpost0 (c : Dev nD) : (reg0 m).post c ⊢ iprop(StableHlo.held (c : Thread nD τ) (Pipeline.ucRefs τ sig) (V2 m (outs m) c) ∗ E (F := F) 1 c) := by
  unfold reg0 E
  exact (RegionSeg.ofHeldIn_post sub0 c).trans (Entails.of_eq (by
    rw [show Pipeline.afterRegion (pdats m 0 c) (V1 m c) = V2 m (outs m) c from
      afterRegion_eq_update (dat0 (V1 m) c) (V1 m c) winFacts0.arr_inj (A_eq0 (V1 m) c) 6 (by decide)]))
theorem hpost1 (c : Dev nD) : (reg1 m).post c ⊢ iprop(StableHlo.held (c : Thread nD τ) (Pipeline.ucRefs τ sig) (V3 m (outs m) c) ∗ E (F := F) 2 c) := by
  unfold reg1 E
  exact (RegionSeg.ofHeldIn_post sub1 c).trans (Entails.of_eq (by
    rw [show Pipeline.afterRegion (pdats m 1 c) (W1 m c) = V3 m (outs m) c from
      afterRegion_eq_update (dat1 (W1 m) c) (W1 m c) winFacts1.arr_inj (A_eq1 (W1 m) c) 4 (by decide)]))

/-- The launch tokens of the two pipelines. -/
abbrev u₀ : UR sig nD τ := initOf (Pipeline.cells cfgs cellOf_inj) (Pipeline.launchToks cfgs cellOf_inj)

set_option backward.isDefEq.respectTransparency.types false in
/-- Every weakly fair execution terminates, every unscoped buffer ends at the last of the contents named above, and
    every semaphore counter ends at zero. -/
theorem run_all : θ_run defs (onTc (τ := τ) (main (F := F))) ⟨m, fun _ => 0, ρ⟩ (fun r =>
    (∀ c : Dev nD, ∀ b ∈ Pipeline.ucRefs τ sig, r.2.mem ((c : Thread nD τ).1, b) = V4 m (outs m) c b) ∧ r.2.sem = fun _ => 0) := by
  have hE0 : iprop((bigSep Finset.univ fun c : Dev nD => iprop(unscopedSems0 c ∗ owes (c : Thread nD τ) ((fun _ => 0 : Dev nD → CellTallies nD τ sig Unit) c) ∅ ∗ Pipeline.launchCred (fun _ => 0) c ∗ prngReg c (ρ c) ∗ emp)) ∗ levAts L lv)
      ⊢ (|={Set.univ}=> bigSep Finset.univ (E (F := F) 0) : sProp 𝕄) := by
    refine Pipeline.initEach L lv fun c => ?_
    unfold E
    iintro ⟨⟨-, HO, -, Hp, -⟩, -⟩
    imodintro
    isplitl [HO]; · iexists ∅; iexact HO
    isplitl [Hp]; · iexists _; iexact Hp
    iempintro
  have hE2 : ∀ c : Dev nD, E 2 c ⊢ (iprop(∃ W, owes (c : Thread nD τ) (0 : CellTallies nD τ sig Unit) W) : sProp 𝕄) := fun c => by
    unfold E
    iintro ⟨HO, -, -⟩; iexact HO
  have hL : ∀ g : GSem nD τ sig, g.1.2 ≠ .tc → L g = ∅ := fun g h => by unfold L; rw [if_neg h]
  have hu₀ : (ownU u₀ : sProp 𝕄) ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
    iintro Hu; imodintro
    isplitl [Hu]; · iapply (show (ownU _ : sProp 𝕄) ⊢ BI.own (emb₁ u₀) from .rfl); iexact Hu
    iapply (show (BI.emp : sProp 𝕄) ⊢ bigSep Finset.univ (fun _ : Dev nD => (BI.emp : sProp 𝕄)) from by rw [BI.bigSep_emp_const])
    iempintro
  refine Pipeline.θ_run_regions_kit_dev_sems (pcfgs (F := F)) adm (pdats m) () cellOf_inj emb₁ defs₀ Variants.none L lv m ρ main
    (segs m (outs m) Variants.none L lv E () (pdats m) (reg0 m) (reg1 m))
    (fun c Q => by
      rewrite [main_chain c, Seg.run_eq_chain,
        show (segs m (outs m) Variants.none L lv E () (pdats m) (reg0 m) (reg1 m) c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) hL (fun _ => iprop(emp)) u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m (outs m) c))
    (hch := fun c => ⟨.rfl, hpre0 m c, (hpost0 m c).trans (hpre1 m c), hpost1 m c, sep_mono .rfl (hE2 c)⟩)
    (hinit := ?_) (QY := fun c s => ∀ b ∈ Pipeline.ucRefs τ sig, s.mem ((c : Thread nD τ).1, b) = V4 m (outs m) c b)
    (hfin := fun c s' => ?_) (hQ := fun _ h hz => ⟨fun c => h c, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) ((fun _ => 0 : Dev nD → CellTallies nD τ sig Unit) c) ∅ ∗ Pipeline.launchCred (fun _ => 0) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((fun _ => 0 : Dev nD → CellTallies nD τ sig Unit) c) ∅ ∗ Pipeline.launchCred (fun _ => 0) c ∗ prngReg c (ρ c) ∗ emp))
            : sProp (MT nD τ sig Unit (Elt F) ℕ (UR sig nD τ) ℕ)) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact h
    · iexact HSI

/-- An unscoped buffer of the TensorCore is among those the run names. -/
theorem mem_uc (r : Ref sig .tc) (h : r.isScoped = false) : Proc.devRef .tc r ∈ Pipeline.ucRefs τ sig :=
  Finset.mem_filter.mpr ⟨StableHlo.devRef_mem_tcRefs r, fun h' => Bool.false_ne_true (h.symm.trans h')⟩

/-- The frame: the run terminates, the arguments end as launched, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => ⟨(h.1 c _ (mem_uc main_arg0 rfl)).trans (V4_main_arg0 m (outs m) c),
      (h.1 c _ (mem_uc main_arg1 rfl)).trans (V4_main_arg1 m (outs m) c),
      (h.1 c _ (mem_uc main_arg2 rfl)).trans (V4_main_arg2 m (outs m) c),
      (h.1 c _ (mem_uc main_arg3 rfl)).trans (V4_main_arg3 m (outs m) c),
      (h.1 c _ (mem_uc main_arg4 rfl)).trans (V4_main_arg4 m (outs m) c),
      (h.1 c _ (mem_uc main_arg5 rfl)).trans (V4_main_arg5 m (outs m) c),
      (h.1 c _ (mem_uc main_arg6 rfl)).trans (V4_main_arg6 m (outs m) c),
      (h.1 c _ (mem_uc main_arg7 rfl)).trans (V4_main_arg7 m (outs m) c),
      (h.1 c _ (mem_uc main_arg8 rfl)).trans (V4_main_arg8 m (outs m) c),
      (h.1 c _ (mem_uc main_arg9 rfl)).trans (V4_main_arg9 m (outs m) c),
      (h.1 c _ (mem_uc main_arg10 rfl)).trans (V4_main_arg10 m (outs m) c),
      (h.1 c _ (mem_uc main_arg11 rfl)).trans (V4_main_arg11 m (outs m) c),
      (h.1 c _ (mem_uc main_arg12 rfl)).trans (V4_main_arg12 m (outs m) c)⟩, h.2⟩) (run_all m ρ)

/-- The run with its two results named, the arguments unchanged. -/
theorem run_results : θ_run defs (onTc (τ := τ) (main (F := F))) ⟨m, fun _ => 0, ρ⟩ (fun r => ∀ c : Dev nD,
      r.2.mem ((c.tc : Thread nD τ).loc main_v40) = V4 m (outs m) c main_v40
      ∧ r.2.mem ((c.tc : Thread nD τ).loc main_v41) = V4 m (outs m) c main_v41
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h => fun c => ⟨h.1 c _ (mem_uc main_v40 rfl), h.1 c _ (mem_uc main_v41 rfl),
      (h.1 c _ (mem_uc main_arg0 rfl)).trans (V4_main_arg0 m (outs m) c),
      (h.1 c _ (mem_uc main_arg1 rfl)).trans (V4_main_arg1 m (outs m) c),
      (h.1 c _ (mem_uc main_arg2 rfl)).trans (V4_main_arg2 m (outs m) c),
      (h.1 c _ (mem_uc main_arg3 rfl)).trans (V4_main_arg3 m (outs m) c),
      (h.1 c _ (mem_uc main_arg4 rfl)).trans (V4_main_arg4 m (outs m) c),
      (h.1 c _ (mem_uc main_arg5 rfl)).trans (V4_main_arg5 m (outs m) c),
      (h.1 c _ (mem_uc main_arg6 rfl)).trans (V4_main_arg6 m (outs m) c),
      (h.1 c _ (mem_uc main_arg7 rfl)).trans (V4_main_arg7 m (outs m) c),
      (h.1 c _ (mem_uc main_arg8 rfl)).trans (V4_main_arg8 m (outs m) c),
      (h.1 c _ (mem_uc main_arg9 rfl)).trans (V4_main_arg9 m (outs m) c),
      (h.1 c _ (mem_uc main_arg10 rfl)).trans (V4_main_arg10 m (outs m) c),
      (h.1 c _ (mem_uc main_arg11 rfl)).trans (V4_main_arg11 m (outs m) c),
      (h.1 c _ (mem_uc main_arg12 rfl)).trans (V4_main_arg12 m (outs m) c)⟩) (run_all m ρ)

end Cert.KernelIdeal.Hand

end
-- ==== Proof.Value.Spec.lean ====
/-
  What both programs compute over the extended reals, stated once: a weight as a level times a block scale,
  and the product over the even and the odd weights as one sum.
-/
module

public import Idealize.ShloMosaic.Lib.Pointwise
public import Idealize.ShloMosaic.Lib.IdealHost

@[expose] public section

set_option maxRecDepth 16384

noncomputable section

namespace Cert.Nf4

open Idealize.ShloMosaic

/-- The sixteen levels' patterns. -/
def levelBits : Fin 16 → BitVec 32 :=
  ![0xBF800000#32, 0xBF3239B1#32, 0xBF066B30#32, 0xBECA32A0#32, 0xBE91A24D#32, 0xBE3D353F#32, 0xBDBA7871#32, 0x00000000#32,
    0x3DA2FAFF#32, 0x3E24CAE3#32, 0x3E7C04DD#32, 0x3EAD033A#32, 0x3EE1A4B8#32, 0x3F1007AB#32, 0x3F3913B3#32, 0x3F800000#32]

/-- The sixteen levels. -/
def level (n : Fin 16) : EReal := Ideal.ofBits .f32 (levelBits n)

/-- The code of weight `k` in its byte: the high four bits at an even `k`, the low four at an odd one. -/
def nib (b : BitVec 8) (k : ℕ) : Fin 16 :=
  if k % 2 = 0 then ⟨b.toNat / 16, by have := b.isLt; omega⟩ else ⟨b.toNat % 16, Nat.mod_lt _ (by decide)⟩

/-- Weight `k` of output row `f`: its level times the scale of its block of 64. -/
def weight {N K B : ℕ} (hB : 2 * K ≤ 64 * B) (q : (⟨2, ![N, K]⟩ : Shape).Idx → BitVec 8) (am : Fin N → Fin B → EReal)
    (k : Fin (2 * K)) (f : Fin N) : EReal :=
  level (nib (q (ix2 f ⟨k.val / 2, by omega⟩)) k.val) * am f ⟨k.val / 64, by omega⟩

/-- The scale of block `b` of row `f`: its byte as a number, times the scale of its superblock of 256, plus the offset. -/
def absmax0 (q : (⟨2, ![14336, 64]⟩ : Shape).Idx → BitVec 8) (s : (⟨1, ![3584]⟩ : Shape).Idx → EReal) (o : (⟨0, ![]⟩ : Shape).Idx → EReal)
    (f : Fin 14336) (b : Fin 64) : EReal :=
  (FloatOps.sitofp FTy.f32 (BitVec.signExtend 32 (q (ix2 f b))) : Ideal .f32) * s (ix1 ⟨f.val / 4, by omega⟩) + o ix0

/-- The same for the third matrix. -/
def absmax1 (q : (⟨2, ![4096, 224]⟩ : Shape).Idx → BitVec 8) (s : (⟨1, ![3584]⟩ : Shape).Idx → EReal) (o : (⟨0, ![]⟩ : Shape).Idx → EReal)
    (f : Fin 4096) (b : Fin 224) : EReal :=
  (FloatOps.sitofp FTy.f32 (BitVec.signExtend 32 (q (ix2 f b))) : Ideal .f32) * s (ix1 ⟨(f.val * 224 + b.val) / 256, by omega⟩) + o ix0

/-- The weights of the first two matrices. -/
def weight0 (w : (⟨2, ![14336, 2048]⟩ : Shape).Idx → BitVec 8) (q : (⟨2, ![14336, 64]⟩ : Shape).Idx → BitVec 8)
    (s : (⟨1, ![3584]⟩ : Shape).Idx → EReal) (o : (⟨0, ![]⟩ : Shape).Idx → EReal) : Fin 4096 → Fin 14336 → EReal :=
  weight (N := 14336) (K := 2048) (B := 64) (by decide) w (absmax0 q s o)

/-- The weights of the third matrix. -/
def weight1 (w : (⟨2, ![4096, 7168]⟩ : Shape).Idx → BitVec 8) (q : (⟨2, ![4096, 224]⟩ : Shape).Idx → BitVec 8)
    (s : (⟨1, ![3584]⟩ : Shape).Idx → EReal) (o : (⟨0, ![]⟩ : Shape).Idx → EReal) : Fin 14336 → Fin 4096 → EReal :=
  weight (N := 4096) (K := 7168) (B := 224) (by decide) w (absmax1 q s o)

/-- A row times a column of weights. -/
def lin {K N : ℕ} (x : Fin K → EReal) (W : Fin K → Fin N → EReal) (f : Fin N) : EReal := ∑ k : Fin K, x k * W k f

/-- The gated activation at row `r`, column `f`. -/
def gated (x : (⟨3, ![6144, 1, 4096]⟩ : Shape).Idx → EReal) (Wg Wu : Fin 4096 → Fin 14336 → EReal) (r : Fin 6144) (f : Fin 14336) : EReal :=
  lin (fun k => x (ix3 r 0 k)) Wg f * Ideal.logistic (lin (fun k => x (ix3 r 0 k)) Wg f) * lin (fun k => x (ix3 r 0 k)) Wu f

/-- A sum over 2K terms is the sum over the even ones plus the sum over the odd ones. -/
theorem sum_parity (K : ℕ) (F : Fin (2 * K) → EReal) :
    ∑ k : Fin (2 * K), F k = (∑ j : Fin K, F ⟨2 * j.val, by omega⟩) + ∑ j : Fin K, F ⟨2 * j.val + 1, by omega⟩ := by
  rw [← Finset.sum_add_distrib]
  induction K with
  | zero => rfl
  | succ n ih =>
    have h := ih (fun k => F ⟨k.val, by omega⟩)
    rw [Fin.sum_univ_castSucc (n := n)]
    show ∑ k : Fin (2 * n + 1 + 1), F k = _
    rw [Fin.sum_univ_castSucc, Fin.sum_univ_castSucc, add_assoc]
    exact congrArg₂ (· + ·) h rfl

/-- The even fields' product plus the odd fields' product is the product with the weights. -/
theorem lin_eq {N K B : ℕ} (hB : 2 * K ≤ 64 * B) (q : (⟨2, ![N, K]⟩ : Shape).Idx → BitVec 8) (am : Fin N → Fin B → EReal)
    (x : Fin (2 * K) → EReal) (f : Fin N) :
    (∑ j : Fin K, x ⟨2 * j.val, by omega⟩ * (level (nib (q (ix2 f j)) 0) * am f ⟨j.val / 32, by omega⟩))
        + (∑ j : Fin K, x ⟨2 * j.val + 1, by omega⟩ * (level (nib (q (ix2 f j)) 1) * am f ⟨j.val / 32, by omega⟩))
      = ∑ k : Fin (2 * K), x k * weight hB q am k f := by
  rw [sum_parity]
  refine congrArg₂ (· + ·) (Finset.sum_congr rfl fun j _ => ?_) (Finset.sum_congr rfl fun j _ => ?_)
  · have e1 : (⟨2 * j.val / 2, by omega⟩ : Fin K) = j := Fin.ext (by show 2 * j.val / 2 = _; omega)
    have e2 : (⟨2 * j.val / 64, by omega⟩ : Fin B) = ⟨j.val / 32, by omega⟩ := Fin.ext (by show 2 * j.val / 64 = j.val / 32; omega)
    unfold weight nib
    dsimp only
    rw [e1, e2, if_pos (by omega : 2 * j.val % 2 = 0)]; rfl
  · have e1 : (⟨(2 * j.val + 1) / 2, by omega⟩ : Fin K) = j := Fin.ext (by show (2 * j.val + 1) / 2 = _; omega)
    have e2 : (⟨(2 * j.val + 1) / 64, by omega⟩ : Fin B) = ⟨j.val / 32, by omega⟩ := Fin.ext (by show (2 * j.val + 1) / 64 = j.val / 32; omega)
    unfold weight nib
    dsimp only
    rw [e1, e2, if_neg (by omega : ¬ (2 * j.val + 1) % 2 = 0)]; rfl

/-- The pattern picked by the four bits of a word, from the lowest up. -/
def treeBits (c : BitVec 32) : BitVec 32 :=
  have b (i : BitVec 32) : BitVec 1 := IntOp.cmpi .eq (IntOp.andi (IntOp.shrsi .host c i) 1#32) 1#32
  Scalar.select (b 3#32)
    (Scalar.select (b 2#32)
      (Scalar.select (b 1#32) (Scalar.select (b 0#32) 0x3F800000#32 0x3F3913B3#32) (Scalar.select (b 0#32) 0x3F1007AB#32 0x3EE1A4B8#32))
      (Scalar.select (b 1#32) (Scalar.select (b 0#32) 0x3EAD033A#32 0x3E7C04DD#32) (Scalar.select (b 0#32) 0x3E24CAE3#32 0x3DA2FAFF#32)))
    (Scalar.select (b 2#32)
      (Scalar.select (b 1#32) (Scalar.select (b 0#32) 0x00000000#32 0xBDBA7871#32) (Scalar.select (b 0#32) 0xBE3D353F#32 0xBE91A24D#32))
      (Scalar.select (b 1#32) (Scalar.select (b 0#32) 0xBECA32A0#32 0xBF066B30#32) (Scalar.select (b 0#32) 0xBF3239B1#32 0xBF800000#32)))

/-- A level picked by the four bits of a word, from the lowest up. -/
def tree (c : BitVec 32) : EReal :=
  have b (i : BitVec 32) : BitVec 1 := IntOp.cmpi .eq (IntOp.andi (IntOp.shrsi .host c i) 1#32) 1#32
  have l (w : BitVec 32) : EReal := Ideal.ofBits .f32 w
  Scalar.select (b 3#32)
    (Scalar.select (b 2#32)
      (Scalar.select (b 1#32) (Scalar.select (b 0#32) (l 0x3F800000#32) (l 0x3F3913B3#32)) (Scalar.select (b 0#32) (l 0x3F1007AB#32) (l 0x3EE1A4B8#32)))
      (Scalar.select (b 1#32) (Scalar.select (b 0#32) (l 0x3EAD033A#32) (l 0x3E7C04DD#32)) (Scalar.select (b 0#32) (l 0x3E24CAE3#32) (l 0x3DA2FAFF#32))))
    (Scalar.select (b 2#32)
      (Scalar.select (b 1#32) (Scalar.select (b 0#32) (l 0x00000000#32) (l 0xBDBA7871#32)) (Scalar.select (b 0#32) (l 0xBE3D353F#32) (l 0xBE91A24D#32)))
      (Scalar.select (b 1#32) (Scalar.select (b 0#32) (l 0xBECA32A0#32) (l 0xBF066B30#32)) (Scalar.select (b 0#32) (l 0xBF3239B1#32) (l 0xBF800000#32))))

theorem select_ofBits (c : BitVec 1) (x y : BitVec 32) :
    (Scalar.select c (Ideal.ofBits .f32 x) (Ideal.ofBits .f32 y) : EReal) = Ideal.ofBits .f32 (Scalar.select c x y) := by
  unfold Scalar.select; split <;> rfl

theorem tree_eq (c : BitVec 32) : tree c = Ideal.ofBits .f32 (treeBits c) := by
  simp only [tree, select_ofBits]; rfl

theorem treeBits_hi : ∀ n : Fin 256, treeBits (IntOp.shrsi .host ((BitVec.ofFin n : BitVec 8).setWidth 32) 4#32) = levelBits (nib (BitVec.ofFin n) 0) := by
  decide +kernel

theorem treeBits_lo : ∀ n : Fin 256, treeBits (IntOp.andi ((BitVec.ofFin n : BitVec 8).setWidth 32) 15#32) = levelBits (nib (BitVec.ofFin n) 1) := by
  decide +kernel

/-- The level the four bits of a byte's high half pick. -/
theorem tree_hi (b : BitVec 8) : tree (IntOp.shrsi .host (b.setWidth 32) 4#32) = level (nib b 0) := by
  rw [tree_eq, level, ← treeBits_hi b.toFin]

/-- The level the four bits of a byte's low half pick. -/
theorem tree_lo (b : BitVec 8) : tree (IntOp.andi (b.setWidth 32) 15#32) = level (nib b 1) := by
  rw [tree_eq, level, ← treeBits_lo b.toFin]

/-- A table index that is negative is taken from the end; a code never is. -/
def wrap (w : BitVec 32) : BitVec 32 := Scalar.select (IntOp.cmpi .slt w 0#32) (IntOp.addi w 128#32) w

theorem wrap_hi' : ∀ n : Fin 256, (wrap (IntOp.shrsi .vector ((BitVec.ofFin n : BitVec 8).setWidth 32) 4#32)).toNat % 128 = (nib (BitVec.ofFin n) 0).val := by
  decide +kernel

theorem wrap_lo' : ∀ n : Fin 256, (wrap (IntOp.andi ((BitVec.ofFin n : BitVec 8).setWidth 32) 15#32)).toNat % 128 = (nib (BitVec.ofFin n) 1).val := by
  decide +kernel

theorem wrap_hi (b : BitVec 8) : (wrap (IntOp.shrsi .vector (b.setWidth 32) 4#32)).toNat % 128 = (nib b 0).val := wrap_hi' b.toFin

theorem wrap_lo (b : BitVec 8) : (wrap (IntOp.andi (b.setWidth 32) 15#32)).toNat % 128 = (nib b 1).val := wrap_lo' b.toFin

theorem nib_even (b : BitVec 8) (k : ℕ) (h : k % 2 = 0) : nib b k = nib b 0 := by unfold nib; rw [if_pos h, if_pos rfl]

theorem nib_odd (b : BitVec 8) (k : ℕ) (h : ¬ k % 2 = 0) : nib b k = nib b 1 := by unfold nib; rw [if_neg h, if_neg (by decide)]

end Cert.Nf4

end
-- ==== Proof.Value.Field.lean ====
/-
  The reference's decoded weights read at an index.
-/
module

public import proofs.«01_k».proof.Proof.Gen.ReferenceIdeal
public import proofs.«01_k».proof.Proof.Value.Spec

@[expose] public section

set_option maxRecDepth 16384

noncomputable section

namespace Cert.ReferenceIdeal.Hand

open Cert.ReferenceIdeal Cert.ReferenceIdeal.Gen
open Idealize.ShloMosaic
open Cert.Nf4

/-- The rounded weights of one field of the packed codes (words `c`), scaled by the block scales `am`. -/
def field0 (c : IVec S14336x2048 32) (am : FVec Ideal S14336x64 .f32) : FVec Ideal S14336x2048 .bf16 :=
  shapeCast S14336x2048 (truncf .bf16 (mulf (shapeCast S14336x64x32 (select (cmpi .eq (andi (Host.shrsi c (broadcastInDim S14336x2048 ![] bcast_S_S14336x2048 (constantI S_ 32 3#32))) (broadcastInDim S14336x2048 ![] bcast_S_S14336x2048 (constantI S_ 32 1#32))) (broadcastInDim S14336x2048 ![] bcast_S_S14336x2048 (constantI S_ 32 1#32))) (select (cmpi .eq (andi (Host.shrsi c (broadcastInDim S14336x2048 ![] bcast_S_S14336x2048 (constantI S_ 32 2#32))) (broadcastInDim S14336x2048 ![] bcast_S_S14336x2048 (constantI S_ 32 1#32))) (broadcastInDim S14336x2048 ![] bcast_S_S14336x2048 (constantI S_ 32 1#32))) (select (cmpi .eq (andi (Host.shrsi c (broadcastInDim S14336x2048 ![] bcast_S_S14336x2048 (constantI S_ 32 1#32))) (broadcastInDim S14336x2048 ![] bcast_S_S14336x2048 (constantI S_ 32 1#32))) (broadcastInDim S14336x2048 ![] bcast_S_S14336x2048 (constantI S_ 32 1#32))) (select (cmpi .eq (andi (Host.shrsi c (broadcastInDim S14336x2048 ![] bcast_S_S14336x2048 (constantI S_ 32 0#32))) (broadcastInDim S14336x2048 ![] bcast_S_S14336x2048 (constantI S_ 32 1#32))) (broadcastInDim S14336x2048 ![] bcast_S_S14336x2048 (constantI S_ 32 1#32))) (broadcastInDim S14336x2048 ![] bcast_S_S14336x2048 (constant S_ .f32 0x3F800000#32)) (broadcastInDim S14336x2048 ![] bcast_S_S14336x2048 (constant S_ .f32 0x3F3913B3#32))) (select (cmpi .eq (andi (Host.shrsi c (broadcastInDim S14336x2048 ![] bcast_S_S14336x2048 (constantI S_ 32 0#32))) (broadcastInDim S14336x2048 ![] bcast_S_S14336x2048 (constantI S_ 32 1#32))) (broadcastInDim S14336x2048 ![] bcast_S_S14336x2048 (constantI S_ 32 1#32))) (broadcastInDim S14336x2048 ![] bcast_S_S14336x2048 (constant S_ .f32 0x3F1007AB#32)) (broadcastInDim S14336x2048 ![] bcast_S_S14336x2048 (constant S_ .f32 0x3EE1A4B8#32)))) (select (cmpi .eq (andi (Host.shrsi c (broadcastInDim S14336x2048 ![] bcast_S_S14336x2048 (constantI S_ 32 1#32))) (broadcastInDim S14336x2048 ![] bcast_S_S14336x2048 (constantI S_ 32 1#32))) (broadcastInDim S14336x2048 ![] bcast_S_S14336x2048 (constantI S_ 32 1#32))) (select (cmpi .eq (andi (Host.shrsi c (broadcastInDim S14336x2048 ![] bcast_S_S14336x2048 (constantI S_ 32 0#32))) (broadcastInDim S14336x2048 ![] bcast_S_S14336x2048 (constantI S_ 32 1#32))) (broadcastInDim S14336x2048 ![] bcast_S_S14336x2048 (constantI S_ 32 1#32))) (broadcastInDim S14336x2048 ![] bcast_S_S14336x2048 (constant S_ .f32 0x3EAD033A#32)) (broadcastInDim S14336x2048 ![] bcast_S_S14336x2048 (constant S_ .f32 0x3E7C04DD#32))) (select (cmpi .eq (andi (Host.shrsi c (broadcastInDim S14336x2048 ![] bcast_S_S14336x2048 (constantI S_ 32 0#32))) (broadcastInDim S14336x2048 ![] bcast_S_S14336x2048 (constantI S_ 32 1#32))) (broadcastInDim S14336x2048 ![] bcast_S_S14336x2048 (constantI S_ 32 1#32))) (broadcastInDim S14336x2048 ![] bcast_S_S14336x2048 (constant S_ .f32 0x3E24CAE3#32)) (broadcastInDim S14336x2048 ![] bcast_S_S14336x2048 (constant S_ .f32 0x3DA2FAFF#32))))) (select (cmpi .eq (andi (Host.shrsi c (broadcastInDim S14336x2048 ![] bcast_S_S14336x2048 (constantI S_ 32 2#32))) (broadcastInDim S14336x2048 ![] bcast_S_S14336x2048 (constantI S_ 32 1#32))) (broadcastInDim S14336x2048 ![] bcast_S_S14336x2048 (constantI S_ 32 1#32))) (select (cmpi .eq (andi (Host.shrsi c (broadcastInDim S14336x2048 ![] bcast_S_S14336x2048 (constantI S_ 32 1#32))) (broadcastInDim S14336x2048 ![] bcast_S_S14336x2048 (constantI S_ 32 1#32))) (broadcastInDim S14336x2048 ![] bcast_S_S14336x2048 (constantI S_ 32 1#32))) (select (cmpi .eq (andi (Host.shrsi c (broadcastInDim S14336x2048 ![] bcast_S_S14336x2048 (constantI S_ 32 0#32))) (broadcastInDim S14336x2048 ![] bcast_S_S14336x2048 (constantI S_ 32 1#32))) (broadcastInDim S14336x2048 ![] bcast_S_S14336x2048 (constantI S_ 32 1#32))) (broadcastInDim S14336x2048 ![] bcast_S_S14336x2048 (constant S_ .f32 0x00000000#32)) (broadcastInDim S14336x2048 ![] bcast_S_S14336x2048 (constant S_ .f32 0xBDBA7871#32))) (select (cmpi .eq (andi (Host.shrsi c (broadcastInDim S14336x2048 ![] bcast_S_S14336x2048 (constantI S_ 32 0#32))) (broadcastInDim S14336x2048 ![] bcast_S_S14336x2048 (constantI S_ 32 1#32))) (broadcastInDim S14336x2048 ![] bcast_S_S14336x2048 (constantI S_ 32 1#32))) (broadcastInDim S14336x2048 ![] bcast_S_S14336x2048 (constant S_ .f32 0xBE3D353F#32)) (broadcastInDim S14336x2048 ![] bcast_S_S14336x2048 (constant S_ .f32 0xBE91A24D#32)))) (select (cmpi .eq (andi (Host.shrsi c (broadcastInDim S14336x2048 ![] bcast_S_S14336x2048 (constantI S_ 32 1#32))) (broadcastInDim S14336x2048 ![] bcast_S_S14336x2048 (constantI S_ 32 1#32))) (broadcastInDim S14336x2048 ![] bcast_S_S14336x2048 (constantI S_ 32 1#32))) (select (cmpi .eq (andi (Host.shrsi c (broadcastInDim S14336x2048 ![] bcast_S_S14336x2048 (constantI S_ 32 0#32))) (broadcastInDim S14336x2048 ![] bcast_S_S14336x2048 (constantI S_ 32 1#32))) (broadcastInDim S14336x2048 ![] bcast_S_S14336x2048 (constantI S_ 32 1#32))) (broadcastInDim S14336x2048 ![] bcast_S_S14336x2048 (constant S_ .f32 0xBECA32A0#32)) (broadcastInDim S14336x2048 ![] bcast_S_S14336x2048 (constant S_ .f32 0xBF066B30#32))) (select (cmpi .eq (andi (Host.shrsi c (broadcastInDim S14336x2048 ![] bcast_S_S14336x2048 (constantI S_ 32 0#32))) (broadcastInDim S14336x2048 ![] bcast_S_S14336x2048 (constantI S_ 32 1#32))) (broadcastInDim S14336x2048 ![] bcast_S_S14336x2048 (constantI S_ 32 1#32))) (broadcastInDim S14336x2048 ![] bcast_S_S14336x2048 (constant S_ .f32 0xBF3239B1#32)) (broadcastInDim S14336x2048 ![] bcast_S_S14336x2048 (constant S_ .f32 0xBF800000#32)))))) shapeCasts_S14336x2048_S14336x64x32) (broadcastInDim S14336x64x32 ![0, 1, 2] bcast_S14336x64x1_S14336x64x32_0_1_2 (broadcastInDim S14336x64x1 ![0, 1] bcast_S14336x64_S14336x64x1_0_1 am))) bitsLt_bf16_f32) shapeCasts_S14336x64x32_S14336x2048

theorem field0_apply (c : IVec S14336x2048 32) (am : FVec Ideal S14336x64 .f32) (f : Fin 14336) (j : Fin 2048) :
    field0 c am (ix2 f j) = tree (c (ix2 f j)) * am (ix2 f ⟨j.val / 32, by omega⟩) := by
  pointwise [field0]
  unfold tree
  simp only [Ideal.ofBits_zero_f32, Ideal.ofBits_one_f32]

/-- The rounded weights of one field of the packed codes (words `c`), scaled by the block scales `am`. -/
def field1 (c : IVec S4096x7168 32) (am : FVec Ideal S4096x224 .f32) : FVec Ideal S4096x7168 .bf16 :=
  shapeCast S4096x7168 (truncf .bf16 (mulf (shapeCast S4096x224x32 (select (cmpi .eq (andi (Host.shrsi c (broadcastInDim S4096x7168 ![] bcast_S_S4096x7168 (constantI S_ 32 3#32))) (broadcastInDim S4096x7168 ![] bcast_S_S4096x7168 (constantI S_ 32 1#32))) (broadcastInDim S4096x7168 ![] bcast_S_S4096x7168 (constantI S_ 32 1#32))) (select (cmpi .eq (andi (Host.shrsi c (broadcastInDim S4096x7168 ![] bcast_S_S4096x7168 (constantI S_ 32 2#32))) (broadcastInDim S4096x7168 ![] bcast_S_S4096x7168 (constantI S_ 32 1#32))) (broadcastInDim S4096x7168 ![] bcast_S_S4096x7168 (constantI S_ 32 1#32))) (select (cmpi .eq (andi (Host.shrsi c (broadcastInDim S4096x7168 ![] bcast_S_S4096x7168 (constantI S_ 32 1#32))) (broadcastInDim S4096x7168 ![] bcast_S_S4096x7168 (constantI S_ 32 1#32))) (broadcastInDim S4096x7168 ![] bcast_S_S4096x7168 (constantI S_ 32 1#32))) (select (cmpi .eq (andi (Host.shrsi c (broadcastInDim S4096x7168 ![] bcast_S_S4096x7168 (constantI S_ 32 0#32))) (broadcastInDim S4096x7168 ![] bcast_S_S4096x7168 (constantI S_ 32 1#32))) (broadcastInDim S4096x7168 ![] bcast_S_S4096x7168 (constantI S_ 32 1#32))) (broadcastInDim S4096x7168 ![] bcast_S_S4096x7168 (constant S_ .f32 0x3F800000#32)) (broadcastInDim S4096x7168 ![] bcast_S_S4096x7168 (constant S_ .f32 0x3F3913B3#32))) (select (cmpi .eq (andi (Host.shrsi c (broadcastInDim S4096x7168 ![] bcast_S_S4096x7168 (constantI S_ 32 0#32))) (broadcastInDim S4096x7168 ![] bcast_S_S4096x7168 (constantI S_ 32 1#32))) (broadcastInDim S4096x7168 ![] bcast_S_S4096x7168 (constantI S_ 32 1#32))) (broadcastInDim S4096x7168 ![] bcast_S_S4096x7168 (constant S_ .f32 0x3F1007AB#32)) (broadcastInDim S4096x7168 ![] bcast_S_S4096x7168 (constant S_ .f32 0x3EE1A4B8#32)))) (select (cmpi .eq (andi (Host.shrsi c (broadcastInDim S4096x7168 ![] bcast_S_S4096x7168 (constantI S_ 32 1#32))) (broadcastInDim S4096x7168 ![] bcast_S_S4096x7168 (constantI S_ 32 1#32))) (broadcastInDim S4096x7168 ![] bcast_S_S4096x7168 (constantI S_ 32 1#32))) (select (cmpi .eq (andi (Host.shrsi c (broadcastInDim S4096x7168 ![] bcast_S_S4096x7168 (constantI S_ 32 0#32))) (broadcastInDim S4096x7168 ![] bcast_S_S4096x7168 (constantI S_ 32 1#32))) (broadcastInDim S4096x7168 ![] bcast_S_S4096x7168 (constantI S_ 32 1#32))) (broadcastInDim S4096x7168 ![] bcast_S_S4096x7168 (constant S_ .f32 0x3EAD033A#32)) (broadcastInDim S4096x7168 ![] bcast_S_S4096x7168 (constant S_ .f32 0x3E7C04DD#32))) (select (cmpi .eq (andi (Host.shrsi c (broadcastInDim S4096x7168 ![] bcast_S_S4096x7168 (constantI S_ 32 0#32))) (broadcastInDim S4096x7168 ![] bcast_S_S4096x7168 (constantI S_ 32 1#32))) (broadcastInDim S4096x7168 ![] bcast_S_S4096x7168 (constantI S_ 32 1#32))) (broadcastInDim S4096x7168 ![] bcast_S_S4096x7168 (constant S_ .f32 0x3E24CAE3#32)) (broadcastInDim S4096x7168 ![] bcast_S_S4096x7168 (constant S_ .f32 0x3DA2FAFF#32))))) (select (cmpi .eq (andi (Host.shrsi c (broadcastInDim S4096x7168 ![] bcast_S_S4096x7168 (constantI S_ 32 2#32))) (broadcastInDim S4096x7168 ![] bcast_S_S4096x7168 (constantI S_ 32 1#32))) (broadcastInDim S4096x7168 ![] bcast_S_S4096x7168 (constantI S_ 32 1#32))) (select (cmpi .eq (andi (Host.shrsi c (broadcastInDim S4096x7168 ![] bcast_S_S4096x7168 (constantI S_ 32 1#32))) (broadcastInDim S4096x7168 ![] bcast_S_S4096x7168 (constantI S_ 32 1#32))) (broadcastInDim S4096x7168 ![] bcast_S_S4096x7168 (constantI S_ 32 1#32))) (select (cmpi .eq (andi (Host.shrsi c (broadcastInDim S4096x7168 ![] bcast_S_S4096x7168 (constantI S_ 32 0#32))) (broadcastInDim S4096x7168 ![] bcast_S_S4096x7168 (constantI S_ 32 1#32))) (broadcastInDim S4096x7168 ![] bcast_S_S4096x7168 (constantI S_ 32 1#32))) (broadcastInDim S4096x7168 ![] bcast_S_S4096x7168 (constant S_ .f32 0x00000000#32)) (broadcastInDim S4096x7168 ![] bcast_S_S4096x7168 (constant S_ .f32 0xBDBA7871#32))) (select (cmpi .eq (andi (Host.shrsi c (broadcastInDim S4096x7168 ![] bcast_S_S4096x7168 (constantI S_ 32 0#32))) (broadcastInDim S4096x7168 ![] bcast_S_S4096x7168 (constantI S_ 32 1#32))) (broadcastInDim S4096x7168 ![] bcast_S_S4096x7168 (constantI S_ 32 1#32))) (broadcastInDim S4096x7168 ![] bcast_S_S4096x7168 (constant S_ .f32 0xBE3D353F#32)) (broadcastInDim S4096x7168 ![] bcast_S_S4096x7168 (constant S_ .f32 0xBE91A24D#32)))) (select (cmpi .eq (andi (Host.shrsi c (broadcastInDim S4096x7168 ![] bcast_S_S4096x7168 (constantI S_ 32 1#32))) (broadcastInDim S4096x7168 ![] bcast_S_S4096x7168 (constantI S_ 32 1#32))) (broadcastInDim S4096x7168 ![] bcast_S_S4096x7168 (constantI S_ 32 1#32))) (select (cmpi .eq (andi (Host.shrsi c (broadcastInDim S4096x7168 ![] bcast_S_S4096x7168 (constantI S_ 32 0#32))) (broadcastInDim S4096x7168 ![] bcast_S_S4096x7168 (constantI S_ 32 1#32))) (broadcastInDim S4096x7168 ![] bcast_S_S4096x7168 (constantI S_ 32 1#32))) (broadcastInDim S4096x7168 ![] bcast_S_S4096x7168 (constant S_ .f32 0xBECA32A0#32)) (broadcastInDim S4096x7168 ![] bcast_S_S4096x7168 (constant S_ .f32 0xBF066B30#32))) (select (cmpi .eq (andi (Host.shrsi c (broadcastInDim S4096x7168 ![] bcast_S_S4096x7168 (constantI S_ 32 0#32))) (broadcastInDim S4096x7168 ![] bcast_S_S4096x7168 (constantI S_ 32 1#32))) (broadcastInDim S4096x7168 ![] bcast_S_S4096x7168 (constantI S_ 32 1#32))) (broadcastInDim S4096x7168 ![] bcast_S_S4096x7168 (constant S_ .f32 0xBF3239B1#32)) (broadcastInDim S4096x7168 ![] bcast_S_S4096x7168 (constant S_ .f32 0xBF800000#32)))))) shapeCasts_S4096x7168_S4096x224x32) (broadcastInDim S4096x224x32 ![0, 1, 2] bcast_S4096x224x1_S4096x224x32_0_1_2 (broadcastInDim S4096x224x1 ![0, 1] bcast_S4096x224_S4096x224x1_0_1 am))) bitsLt_bf16_f32) shapeCasts_S4096x224x32_S4096x7168

theorem field1_apply (c : IVec S4096x7168 32) (am : FVec Ideal S4096x224 .f32) (f : Fin 4096) (j : Fin 7168) :
    field1 c am (ix2 f j) = tree (c (ix2 f j)) * am (ix2 f ⟨j.val / 32, by omega⟩) := by
  pointwise [field1]
  unfold tree
  simp only [Ideal.ofBits_zero_f32, Ideal.ofBits_one_f32]

end Cert.ReferenceIdeal.Hand

end
-- ==== Proof.Value.Ref.lean ====
/-
  The reference's two results read at an index.
-/
module

public import proofs.«01_k».proof.Proof.Gen.ReferenceIdeal.Run
public import proofs.«01_k».proof.Proof.Value.Field
public import Idealize.ShloMosaic.Lib.Tactic.CleanTypes

@[expose] public section

set_option maxRecDepth 16384

noncomputable section

namespace Cert.ReferenceIdeal.Hand

open Cert.ReferenceIdeal Cert.ReferenceIdeal.Gen Cert.ReferenceIdeal.Value
open Idealize.ShloMosaic
open Cert.Nf4

variable (V : Valuation τ sig (Elt Ideal))

theorem v8_apply (f : Fin 14336) (b : Fin 64) :
    res_main_v8 V (ix2 f b) = absmax0 (V (Proc.devRef .tc main_arg2)) (V (Proc.devRef .tc main_arg3)) (V (Proc.devRef .tc main_arg4)) f b := by
  unfold res_main_v8
  clean_types
  pointwise
  rfl

theorem v117_apply (f : Fin 14336) (b : Fin 64) :
    res_main_v117 V (ix2 f b) = absmax0 (V (Proc.devRef .tc main_arg6)) (V (Proc.devRef .tc main_arg7)) (V (Proc.devRef .tc main_arg8)) f b := by
  unfold res_main_v117
  clean_types
  pointwise
  rfl

theorem v235_apply (f : Fin 4096) (b : Fin 224) :
    res_main_v235 V (ix2 f b) = absmax1 (V (Proc.devRef .tc main_arg10)) (V (Proc.devRef .tc main_arg11)) (V (Proc.devRef .tc main_arg12)) f b := by
  unfold res_main_v235
  clean_types
  pointwise
  rfl

theorem v11_apply (f : Fin 14336) (j : Fin 2048) :
    res_main_v11 V (ix2 f j) = IntOp.shrsi .host (BitVec.setWidth 32 (V (Proc.devRef .tc main_arg1) (ix2 f j) : BitVec 8)) 4#32 := by
  unfold res_main_v11 res_main_v9
  clean_types
  pointwise

theorem v58_apply (f : Fin 14336) (j : Fin 2048) :
    res_main_v58 V (ix2 f j) = IntOp.andi (BitVec.setWidth 32 (V (Proc.devRef .tc main_arg1) (ix2 f j) : BitVec 8)) 15#32 := by
  unfold res_main_v58 res_main_v9
  clean_types
  pointwise

theorem v120_apply (f : Fin 14336) (j : Fin 2048) :
    res_main_v120 V (ix2 f j) = IntOp.shrsi .host (BitVec.setWidth 32 (V (Proc.devRef .tc main_arg5) (ix2 f j) : BitVec 8)) 4#32 := by
  unfold res_main_v120 res_main_v118
  clean_types
  pointwise

theorem v167_apply (f : Fin 14336) (j : Fin 2048) :
    res_main_v167 V (ix2 f j) = IntOp.andi (BitVec.setWidth 32 (V (Proc.devRef .tc main_arg5) (ix2 f j) : BitVec 8)) 15#32 := by
  unfold res_main_v167 res_main_v118
  clean_types
  pointwise

theorem v238_apply (f : Fin 4096) (j : Fin 7168) :
    res_main_v238 V (ix2 f j) = IntOp.shrsi .host (BitVec.setWidth 32 (V (Proc.devRef .tc main_arg9) (ix2 f j) : BitVec 8)) 4#32 := by
  unfold res_main_v238 res_main_v236
  clean_types
  pointwise

theorem v285_apply (f : Fin 4096) (j : Fin 7168) :
    res_main_v285 V (ix2 f j) = IntOp.andi (BitVec.setWidth 32 (V (Proc.devRef .tc main_arg9) (ix2 f j) : BitVec 8)) 15#32 := by
  unfold res_main_v285 res_main_v236
  clean_types
  pointwise

/-- Both fields of the first kind, scaled: the level of each code times its block's scale. -/
theorem hi0 (c : IVec S14336x2048 32) (am : FVec Ideal S14336x64 .f32) (w : S14336x2048.Idx → BitVec 8) (A : Fin 14336 → Fin 64 → EReal)
    (hc : ∀ f j, c (ix2 f j) = IntOp.shrsi .host (BitVec.setWidth 32 (w (ix2 f j))) 4#32) (ha : ∀ f b, am (ix2 f b) = A f b) (f : Fin 14336) (j : Fin 2048) :
    field0 c am (ix2 f j) = level (nib (w (ix2 f j)) 0) * A f ⟨j.val / 32, by omega⟩ := by
  rw [field0_apply, hc, ha, tree_hi]

theorem lo0 (c : IVec S14336x2048 32) (am : FVec Ideal S14336x64 .f32) (w : S14336x2048.Idx → BitVec 8) (A : Fin 14336 → Fin 64 → EReal)
    (hc : ∀ f j, c (ix2 f j) = IntOp.andi (BitVec.setWidth 32 (w (ix2 f j))) 15#32) (ha : ∀ f b, am (ix2 f b) = A f b) (f : Fin 14336) (j : Fin 2048) :
    field0 c am (ix2 f j) = level (nib (w (ix2 f j)) 1) * A f ⟨j.val / 32, by omega⟩ := by
  rw [field0_apply, hc, ha, tree_lo]

/-- Both fields of the second kind, scaled: the level of each code times its block's scale. -/
theorem hi1 (c : IVec S4096x7168 32) (am : FVec Ideal S4096x224 .f32) (w : S4096x7168.Idx → BitVec 8) (A : Fin 4096 → Fin 224 → EReal)
    (hc : ∀ f j, c (ix2 f j) = IntOp.shrsi .host (BitVec.setWidth 32 (w (ix2 f j))) 4#32) (ha : ∀ f b, am (ix2 f b) = A f b) (f : Fin 4096) (j : Fin 7168) :
    field1 c am (ix2 f j) = level (nib (w (ix2 f j)) 0) * A f ⟨j.val / 32, by omega⟩ := by
  rw [field1_apply, hc, ha, tree_hi]

theorem lo1 (c : IVec S4096x7168 32) (am : FVec Ideal S4096x224 .f32) (w : S4096x7168.Idx → BitVec 8) (A : Fin 4096 → Fin 224 → EReal)
    (hc : ∀ f j, c (ix2 f j) = IntOp.andi (BitVec.setWidth 32 (w (ix2 f j))) 15#32) (ha : ∀ f b, am (ix2 f b) = A f b) (f : Fin 4096) (j : Fin 7168) :
    field1 c am (ix2 f j) = level (nib (w (ix2 f j)) 1) * A f ⟨j.val / 32, by omega⟩ := by
  rw [field1_apply, hc, ha, tree_lo]

theorem v108_apply (r : Fin 6144) (f : Fin 14336) :
    res_main_v108 V (ix3 r 0 f) = lin (fun k => V (Proc.devRef .tc main_arg0) (ix3 r 0 k)) (weight0 (V (Proc.devRef .tc main_arg1)) (V (Proc.devRef .tc main_arg2)) (V (Proc.devRef .tc main_arg3)) (V (Proc.devRef .tc main_arg4))) f := by
  have h (X : FVec Ideal S6144x1x4096 .bf16) (e : X = V (Proc.devRef .tc main_arg0)) : res_main_v108 V = addf (Host.dotGeneral dot_S6144x1x2048_S14336x2048_S6144x1x14336_2_1_01_0_n_n none (Host.slice S6144x1x2048 ![0, 0, 0] ![1, 1, 2] X slicesBy_S6144x1x4096_S6144x1x2048_0s1_0s1_0s2) (field0 (res_main_v11 V) (res_main_v8 V)))
      (Host.dotGeneral dot_S6144x1x2048_S14336x2048_S6144x1x14336_2_1_01_0_n_n none (Host.slice S6144x1x2048 ![0, 0, 1] ![1, 1, 2] X slicesBy_S6144x1x4096_S6144x1x2048_0s1_0s1_1s2) (field0 (res_main_v58 V) (res_main_v8 V))) := by
    subst e; rfl
  rw [h _ rfl]
  clean_types
  pointwise
  simp only [hi0 _ _ _ _ (v11_apply V) (v8_apply V), lo0 _ _ _ _ (v58_apply V) (v8_apply V), Nat.add_comm 1]
  exact lin_eq (N := 14336) (K := 2048) (B := 64) (by decide) _ _ (fun k => V (Proc.devRef .tc main_arg0) (ix3 r 0 k)) f

theorem v217_apply (r : Fin 6144) (f : Fin 14336) :
    res_main_v217 V (ix3 r 0 f) = lin (fun k => V (Proc.devRef .tc main_arg0) (ix3 r 0 k)) (weight0 (V (Proc.devRef .tc main_arg5)) (V (Proc.devRef .tc main_arg6)) (V (Proc.devRef .tc main_arg7)) (V (Proc.devRef .tc main_arg8))) f := by
  have h (X : FVec Ideal S6144x1x4096 .bf16) (e : X = V (Proc.devRef .tc main_arg0)) : res_main_v217 V = addf (Host.dotGeneral dot_S6144x1x2048_S14336x2048_S6144x1x14336_2_1_01_0_n_n none (Host.slice S6144x1x2048 ![0, 0, 0] ![1, 1, 2] X slicesBy_S6144x1x4096_S6144x1x2048_0s1_0s1_0s2) (field0 (res_main_v120 V) (res_main_v117 V)))
      (Host.dotGeneral dot_S6144x1x2048_S14336x2048_S6144x1x14336_2_1_01_0_n_n none (Host.slice S6144x1x2048 ![0, 0, 1] ![1, 1, 2] X slicesBy_S6144x1x4096_S6144x1x2048_0s1_0s1_1s2) (field0 (res_main_v167 V) (res_main_v117 V))) := by
    subst e; rfl
  rw [h _ rfl]
  clean_types
  pointwise
  simp only [hi0 _ _ _ _ (v120_apply V) (v117_apply V), lo0 _ _ _ _ (v167_apply V) (v117_apply V), Nat.add_comm 1]
  exact lin_eq (N := 14336) (K := 2048) (B := 64) (by decide) _ _ (fun k => V (Proc.devRef .tc main_arg0) (ix3 r 0 k)) f

theorem v226_apply (r : Fin 6144) (f : Fin 14336) :
    res_main_v226 V (ix3 r 0 f) = gated (V (Proc.devRef .tc main_arg0))
      (weight0 (V (Proc.devRef .tc main_arg1)) (V (Proc.devRef .tc main_arg2)) (V (Proc.devRef .tc main_arg3)) (V (Proc.devRef .tc main_arg4)))
      (weight0 (V (Proc.devRef .tc main_arg5)) (V (Proc.devRef .tc main_arg6)) (V (Proc.devRef .tc main_arg7)) (V (Proc.devRef .tc main_arg8))) r f := by
  unfold res_main_v226 gated
  rw [← v108_apply, ← v217_apply]
  clean_types
  pointwise
  rfl

theorem v335_apply (r : Fin 6144) (f : Fin 4096) :
    res_main_v335 V (ix3 r 0 f) = lin (fun k => res_main_v226 V (ix3 r 0 k)) (weight1 (V (Proc.devRef .tc main_arg9)) (V (Proc.devRef .tc main_arg10)) (V (Proc.devRef .tc main_arg11)) (V (Proc.devRef .tc main_arg12))) f := by
  have h (X : FVec Ideal S6144x1x14336 .bf16) (e : X = res_main_v226 V) : res_main_v335 V = addf (Host.dotGeneral dot_S6144x1x7168_S4096x7168_S6144x1x4096_2_1_01_0_n_n none (Host.slice S6144x1x7168 ![0, 0, 0] ![1, 1, 2] X slicesBy_S6144x1x14336_S6144x1x7168_0s1_0s1_0s2) (field1 (res_main_v238 V) (res_main_v235 V)))
      (Host.dotGeneral dot_S6144x1x7168_S4096x7168_S6144x1x4096_2_1_01_0_n_n none (Host.slice S6144x1x7168 ![0, 0, 1] ![1, 1, 2] X slicesBy_S6144x1x14336_S6144x1x7168_0s1_0s1_1s2) (field1 (res_main_v285 V) (res_main_v235 V))) := by
    subst e; rfl
  rw [h _ rfl]
  clean_types
  pointwise
  simp only [hi1 _ _ _ _ (v238_apply V) (v235_apply V), lo1 _ _ _ _ (v285_apply V) (v235_apply V), Nat.add_comm 1]
  exact lin_eq (N := 4096) (K := 7168) (B := 224) (by decide) _ _ (fun k => res_main_v226 V (ix3 r 0 k)) f

end Cert.ReferenceIdeal.Hand

end
-- ==== Proof.Value.Tile.lean ====
/-
  The kernel's tiles read at an index: a decoded weight is its code's level times its block's scale, a product is a sum.
-/
module

public import proofs.«01_k».proof.Proof.Ideal.Decode
public import proofs.«01_k».proof.Proof.Value.Spec

@[expose] public section

set_option maxRecDepth 16384

noncomputable section

namespace Cert.KernelIdeal.Hand

open Cert.KernelIdeal.Gen
open Idealize.ShloMosaic
open Cert.Nf4

/-- The table's first sixteen lanes are the levels. -/
def IsTable (x5 : Vec Ideal S1x128 .f32) : Prop := ∀ n : Fin 16, x5 (ix2 0 ⟨n.val, by omega⟩) = level n

theorem table_at (x5 : Vec Ideal S1x128 .f32) (h : IsTable x5) (n : Fin 16) (k : ℕ) (hk : k < 128) (e : k = n.val) :
    x5 (ix2 0 ⟨k, hk⟩) = level n := by subst e; exact h n

theorem tile_apply (x5 : Vec Ideal S1x128 .f32) (h5 : IsTable x5) (q : Vec Ideal S128x128 .i8) (a : Vec Ideal S1x4x128 .f32) (r : Fin 256) (c : Fin 128) :
    tile (F := Ideal) (table x5) q a (ix2 r c)
      = level (nib (q (ix2 c ⟨r.val / 2, by omega⟩)) r.val) * a (ix3 0 ⟨r.val / 64, by omega⟩ c) := by
  have e : (⟨r.val / 2 / 32, by omega⟩ : Fin 4) = ⟨r.val / 64, by omega⟩ := Fin.ext (by show r.val / 2 / 32 = r.val / 64; omega)
  pointwise [tile, table, k0_pay8, k0_pay1]
  rw [← e]
  split
  · rename_i hr
    rw [nib_even _ _ hr]
    exact congrArg (· * _) (table_at x5 h5 _ _ _ (wrap_hi _))
  · rename_i hr
    rw [nib_odd _ _ hr]
    exact congrArg (· * _) (table_at x5 h5 _ _ _ (wrap_lo _))

theorem hTile_apply (x : Vec Ideal S512x4096 .bf16) (w : Vec Ideal S4096x1024 .bf16) (r : Fin 512) (c : Fin 512) :
    hTile (F := Ideal) x w (ix2 r c)
      = (∑ k : Fin 4096, x (ix2 r k) * w (ix2 k ⟨c.val, by omega⟩)) * Ideal.logistic (∑ k : Fin 4096, x (ix2 r k) * w (ix2 k ⟨c.val, by omega⟩))
        * ∑ k : Fin 4096, x (ix2 r k) * w (ix2 k ⟨512 + c.val, by omega⟩) := by
  pointwise [hTile, k0_pay3]

theorem yTile_apply (x : Vec Ideal S256x14336 .bf16) (w : Vec Ideal S14336x512 .bf16) (r : Fin 256) (c : Fin 512) :
    yTile (F := Ideal) x w (ix2 r c) = ∑ k : Fin 14336, x (ix2 r k) * w (ix2 k c) := by
  pointwise [yTile, k1_pay2]

theorem window2 {n0 n1 : ℕ} {α : Type} (x : (⟨2, ![n0, n1]⟩ : Shape).Idx → α) (o0 o1 s0 s1 : ℕ)
    (h : ∀ a, (![o0, o1] : Fin 2 → ℕ) a + (![s0, s1] : Fin 2 → ℕ) a ≤ (⟨2, ![n0, n1]⟩ : Shape).size a) (i : Fin s0) (j : Fin s1)
    (i' : Fin n0) (j' : Fin n1) (hi : i'.val = o0 + i.val) (hj : j'.val = o1 + j.val) :
    VecWindow.window (s := ⟨2, ![n0, n1]⟩) x ![o0, o1] ![s0, s1] h (ix2 i j) = x (ix2 i' j') := by
  refine congrArg x (funext fun a => Fin.ext ?_)
  match a with
  | ⟨0, _⟩ => exact Eq.trans (by show o0 + 1 * i.val = _; omega) hi.symm
  | ⟨1, _⟩ => exact Eq.trans (by show o1 + 1 * j.val = _; omega) hj.symm

theorem window3 {n0 n1 n2 : ℕ} {α : Type} (x : (⟨3, ![n0, n1, n2]⟩ : Shape).Idx → α) (o0 o1 o2 s0 s1 s2 : ℕ)
    (h : ∀ a, (![o0, o1, o2] : Fin 3 → ℕ) a + (![s0, s1, s2] : Fin 3 → ℕ) a ≤ (⟨3, ![n0, n1, n2]⟩ : Shape).size a) (i : Fin s0) (j : Fin s1) (l : Fin s2)
    (i' : Fin n0) (j' : Fin n1) (l' : Fin n2) (hi : i'.val = o0 + i.val) (hj : j'.val = o1 + j.val) (hl : l'.val = o2 + l.val) :
    VecWindow.window (s := ⟨3, ![n0, n1, n2]⟩) x ![o0, o1, o2] ![s0, s1, s2] h (ix3 i j l) = x (ix3 i' j' l') := by
  refine congrArg x (funext fun a => Fin.ext ?_)
  match a with
  | ⟨0, _⟩ => exact Eq.trans (by show o0 + 1 * i.val = _; omega) hi.symm
  | ⟨1, _⟩ => exact Eq.trans (by show o1 + 1 * j.val = _; omega) hj.symm
  | ⟨2, _⟩ => exact Eq.trans (by show o2 + 1 * l.val = _; omega) hl.symm

theorem tileAt0_apply (x1 : Vec Ideal S512x2048 .i8) (x2 : Vec Ideal S16x4x512 .f32) (x5 : Vec Ideal S1x128 .f32) (h5 : IsTable x5)
    (g : Fin 4) (k : Fin 16) (r : Fin 256) (c : Fin 128) :
    tileAt0 (F := Ideal) x1 x2 x5 g k (ix2 r c)
      = level (nib (x1 (ix2 ⟨128 * g.val + c.val, by omega⟩ ⟨128 * k.val + r.val / 2, by omega⟩)) r.val)
        * x2 (ix3 k ⟨r.val / 64, by omega⟩ ⟨128 * g.val + c.val, by omega⟩) := by
  unfold tileAt0
  rw [tile_apply _ h5,
    window2 x1 _ _ _ _ _ c ⟨r.val / 2, by omega⟩ ⟨128 * g.val + c.val, by omega⟩ ⟨128 * k.val + r.val / 2, by omega⟩ rfl rfl,
    window3 x2 _ _ _ _ _ _ _ 0 ⟨r.val / 64, by omega⟩ c k ⟨r.val / 64, by omega⟩ ⟨128 * g.val + c.val, by omega⟩ (by simp) (by simp) rfl]

theorem tileAt1_apply (x1 : Vec Ideal S512x7168 .i8) (x2 : Vec Ideal S56x4x512 .f32) (x5 : Vec Ideal S1x128 .f32) (h5 : IsTable x5)
    (g : Fin 4) (k : Fin 56) (r : Fin 256) (c : Fin 128) :
    tileAt1 (F := Ideal) x1 x2 x5 g k (ix2 r c)
      = level (nib (x1 (ix2 ⟨128 * g.val + c.val, by omega⟩ ⟨128 * k.val + r.val / 2, by omega⟩)) r.val)
        * x2 (ix3 k ⟨r.val / 64, by omega⟩ ⟨128 * g.val + c.val, by omega⟩) := by
  unfold tileAt1
  rw [tile_apply _ h5,
    window2 x1 _ _ _ _ _ c ⟨r.val / 2, by omega⟩ ⟨128 * g.val + c.val, by omega⟩ ⟨128 * k.val + r.val / 2, by omega⟩ rfl rfl,
    window3 x2 _ _ _ _ _ _ _ 0 ⟨r.val / 64, by omega⟩ c k ⟨r.val / 64, by omega⟩ ⟨128 * g.val + c.val, by omega⟩ (by simp) (by simp) rfl]

/-- Bytes and scales at equal places give equal weights. -/
theorem weight_congr {n0 n1 m0 m1 m2 : ℕ} (x1 : (⟨2, ![n0, n1]⟩ : Shape).Idx → BitVec 8) (x2 : (⟨3, ![m0, m1, m2]⟩ : Shape).Idx → EReal)
    (i i' : Fin n0) (j j' : Fin n1) (k k' : ℕ) (a a' : Fin m0) (b b' : Fin m1) (d d' : Fin m2)
    (hi : i.val = i'.val) (hj : j.val = j'.val) (hk : k % 2 = k' % 2) (ha : a.val = a'.val) (hb : b.val = b'.val) (hd : d.val = d'.val) :
    level (nib (x1 (ix2 i j)) k) * x2 (ix3 a b d) = level (nib (x1 (ix2 i' j')) k') * x2 (ix3 a' b' d') := by
  rw [Fin.ext hi, Fin.ext hj, Fin.ext ha, Fin.ext hb, Fin.ext hd]
  unfold nib
  rw [hk]

theorem w0_gate_apply (x1 : Vec Ideal S512x2048 .i8) (x2 : Vec Ideal S16x4x512 .f32) (x3 : Vec Ideal S512x2048 .i8) (x4 : Vec Ideal S16x4x512 .f32)
    (x5 : Vec Ideal S1x128 .f32) (h5 : IsTable x5) (k : Fin 4096) (c : Fin 512) :
    w0 (F := Ideal) x1 x2 x3 x4 x5 (ix2 k ⟨c.val, by omega⟩)
      = level (nib (x1 (ix2 c ⟨k.val / 2, by omega⟩)) k.val) * x2 (ix3 ⟨k.val / 256, by omega⟩ ⟨k.val / 64 % 4, by omega⟩ c) := by
  rw [w0_gate x1 x2 x3 x4 x5 ⟨c.val / 128, by omega⟩ ⟨k.val / 256, by omega⟩ (ix2 ⟨k.val % 256, by omega⟩ ⟨c.val % 128, by omega⟩) _
    (by show k.val = 256 * (k.val / 256) + k.val % 256; omega) (by show c.val = 128 * (c.val / 128) + c.val % 128; omega), tileAt0_apply _ _ _ h5]
  exact weight_congr _ _ _ _ _ _ _ _ _ _ _ _ _ _ (by dsimp only; omega) (by dsimp only; omega) (by dsimp only; omega) (by dsimp only) (by dsimp only; omega) (by dsimp only; omega)

theorem w0_up_apply (x1 : Vec Ideal S512x2048 .i8) (x2 : Vec Ideal S16x4x512 .f32) (x3 : Vec Ideal S512x2048 .i8) (x4 : Vec Ideal S16x4x512 .f32)
    (x5 : Vec Ideal S1x128 .f32) (h5 : IsTable x5) (k : Fin 4096) (c : Fin 512) :
    w0 (F := Ideal) x1 x2 x3 x4 x5 (ix2 k ⟨512 + c.val, by omega⟩)
      = level (nib (x3 (ix2 c ⟨k.val / 2, by omega⟩)) k.val) * x4 (ix3 ⟨k.val / 256, by omega⟩ ⟨k.val / 64 % 4, by omega⟩ c) := by
  rw [w0_up x1 x2 x3 x4 x5 ⟨c.val / 128, by omega⟩ ⟨k.val / 256, by omega⟩ (ix2 ⟨k.val % 256, by omega⟩ ⟨c.val % 128, by omega⟩) _
    (by show k.val = 256 * (k.val / 256) + k.val % 256; omega) (by show 512 + c.val = 512 + 128 * (c.val / 128) + c.val % 128; omega), tileAt0_apply _ _ _ h5]
  exact weight_congr _ _ _ _ _ _ _ _ _ _ _ _ _ _ (by dsimp only; omega) (by dsimp only; omega) (by dsimp only; omega) (by dsimp only) (by dsimp only; omega) (by dsimp only; omega)

theorem w1_apply (x1 : Vec Ideal S512x7168 .i8) (x2 : Vec Ideal S56x4x512 .f32) (x5 : Vec Ideal S1x128 .f32) (h5 : IsTable x5) (k : Fin 14336) (c : Fin 512) :
    w1 (F := Ideal) x1 x2 x5 (ix2 k c)
      = level (nib (x1 (ix2 c ⟨k.val / 2, by omega⟩)) k.val) * x2 (ix3 ⟨k.val / 256, by omega⟩ ⟨k.val / 64 % 4, by omega⟩ c) := by
  rw [w1_at x1 x2 x5 ⟨c.val / 128, by omega⟩ ⟨k.val / 256, by omega⟩ (ix2 ⟨k.val % 256, by omega⟩ ⟨c.val % 128, by omega⟩) _
    (by show k.val = 256 * (k.val / 256) + k.val % 256; omega) (by show c.val = 128 * (c.val / 128) + c.val % 128; omega), tileAt1_apply _ _ _ h5]
  exact weight_congr _ _ _ _ _ _ _ _ _ _ _ _ _ _ (by dsimp only; omega) (by dsimp only; omega) (by dsimp only; omega) (by dsimp only) (by dsimp only; omega) (by dsimp only; omega)

end Cert.KernelIdeal.Hand

end
-- ==== Proof.Value.Host.lean ====
/-
  What the kernel's host operations leave in the arrays the two regions read.
-/
module

public import proofs.«01_k».proof.Proof.Ideal.Run
public import proofs.«01_k».proof.Proof.Value.Tile
public import Idealize.ShloMosaic.Lib.StableHlo.Run
public import Idealize.ShloMosaic.Lib.StableHlo.RunRead
public import Idealize.ShloMosaic.Lib.Tactic.CleanTypes

@[expose] public section

set_option maxRecDepth 16384

noncomputable section

namespace Cert.KernelIdeal.Hand

open Cert.KernelIdeal.Gen
open Idealize.ShloMosaic Idealize.ShloMosaic.TcCoe
open Cert.Nf4

variable (m : (ℓ : Loc nD τ sig) → Buf (Elt Ideal) ℓ)

/-- The activations, their middle axis of one dropped. -/
theorem V1_v0 (c : Dev nD) (r : Fin 6144) (k : Fin 4096) :
    V1 m c main_v0 (ix2 r k) = m ((c.tc : Thread nD τ).loc main_arg0) (ix3 r 0 k) := by
  have h : V1 m c main_v0 = shapeCast S6144x4096 (m ((c.tc : Thread nD τ).loc main_arg0)) shapeCasts_S6144x1x4096_S6144x4096 := by
    unfold V1 hostOps0
    after_reads_simp
    rfl
  rw [h]
  clean_types
  pointwise

/-- The printed table's patterns are the levels' patterns. -/
theorem lit0_eq : ∀ n : Fin 16, lit0 (S16.rowMajor (ix1 ⟨n.val % 16, Nat.mod_lt _ (by decide)⟩)) = levelBits n := by decide +kernel

/-- Equal places give equal scales. -/
theorem scale_congr {N B : ℕ} (q : (⟨2, ![N, B]⟩ : Shape).Idx → BitVec 8) (s : (⟨1, ![3584]⟩ : Shape).Idx → EReal) (o : (⟨0, ![]⟩ : Shape).Idx → EReal)
    (f : Fin N) (j j' : Fin B) (k k' : Fin 3584) (hj : j.val = j'.val) (hk : k.val = k'.val) :
    (FloatOps.sitofp FTy.f32 (BitVec.signExtend 32 (q (ix2 f j))) : Ideal .f32) * s (ix1 k) + o ix0
      = (FloatOps.sitofp FTy.f32 (BitVec.signExtend 32 (q (ix2 f j'))) : Ideal .f32) * s (ix1 k') + o ix0 := by
  rw [Fin.ext hj, Fin.ext hk]

/-- The table array holds the levels. -/
theorem V1_v4 (c : Dev nD) : IsTable (V1 m c main_v4) := by
  intro n
  have h : V1 m c main_v4 = shapeCast S1x128 (shapeCast S128 (broadcastInDim S8x16 ![0, 1] bcast_S1x16_S8x16_0_1 (shapeCast S1x16 (fun i => FloatOps.ofBits .f32 (lit0 (S16.rowMajor i)) : FVec Ideal S16 .f32) shapeCasts_S16_S1x16)) shapeCasts_S8x16_S128) shapeCasts_S128_S1x128 := by
    unfold V1 hostOps0
    after_reads_simp
    rfl
  rw [h]
  clean_types
  pointwise
  exact congrArg (Ideal.ofBits .f32) (lit0_eq n)

/-- The block scales as the regions take them: decoded, transposed, four to a chunk of 256 weights. -/
def scales0 (q : Vec Ideal S14336x64 .i8) (s : Vec Ideal S3584 .f32) (o : Vec Ideal S_ .f32) : FVec Ideal S16x4x14336 .f32 :=
  shapeCast S16x4x14336 (transpose S64x14336 [1, 0] (shapeCast S14336x64 (addf (mulf (sitofp .f32 (extsi 32 (shapeCast S3584x256 q shapeCasts_S14336x64_S3584x256) natLt_8_32)) (broadcastInDim S3584x256 ![0, 1] bcast_S3584x1_S3584x256_0_1 (broadcastInDim S3584x1 ![0] bcast_S3584_S3584x1_0 s))) (broadcastInDim S3584x256 ![] bcast_S_S3584x256 o)) shapeCasts_S3584x256_S14336x64) transposes_S14336x64_S64x14336_1_0) shapeCasts_S64x14336_S16x4x14336

theorem scales0_apply (q : Vec Ideal S14336x64 .i8) (s : Vec Ideal S3584 .f32) (o : Vec Ideal S_ .f32) (g : Fin 16) (e : Fin 4) (f : Fin 14336) :
    scales0 q s o (ix3 g e f) = absmax0 q s o f ⟨4 * g.val + e.val, by omega⟩ := by
  pointwise [scales0]
  exact scale_congr q s o f _ _ _ _ (by dsimp only; omega) (by dsimp only; try omega)

/-- The block scales as the regions take them: decoded, transposed, four to a chunk of 256 weights. -/
def scales1 (q : Vec Ideal S4096x224 .i8) (s : Vec Ideal S3584 .f32) (o : Vec Ideal S_ .f32) : FVec Ideal S56x4x4096 .f32 :=
  shapeCast S56x4x4096 (transpose S224x4096 [1, 0] (shapeCast S4096x224 (addf (mulf (sitofp .f32 (extsi 32 (shapeCast S3584x256 q shapeCasts_S4096x224_S3584x256) natLt_8_32)) (broadcastInDim S3584x256 ![0, 1] bcast_S3584x1_S3584x256_0_1 (broadcastInDim S3584x1 ![0] bcast_S3584_S3584x1_0 s))) (broadcastInDim S3584x256 ![] bcast_S_S3584x256 o)) shapeCasts_S3584x256_S4096x224) transposes_S4096x224_S224x4096_1_0) shapeCasts_S224x4096_S56x4x4096

theorem scales1_apply (q : Vec Ideal S4096x224 .i8) (s : Vec Ideal S3584 .f32) (o : Vec Ideal S_ .f32) (g : Fin 56) (e : Fin 4) (f : Fin 4096) :
    scales1 q s o (ix3 g e f) = absmax1 q s o f ⟨4 * g.val + e.val, by omega⟩ := by
  pointwise [scales1]
  exact scale_congr q s o f _ _ _ _ (by dsimp only; omega) (by dsimp only; try omega)

theorem V1_v15 (c : Dev nD) :
    V1 m c main_v15 = scales0 (m ((c.tc : Thread nD τ).loc main_arg2)) (m ((c.tc : Thread nD τ).loc main_arg3)) (m ((c.tc : Thread nD τ).loc main_arg4)) := by
  unfold V1 hostOps0
  after_reads_simp
  rfl

theorem V1_v26 (c : Dev nD) :
    V1 m c main_v26 = scales0 (m ((c.tc : Thread nD τ).loc main_arg6)) (m ((c.tc : Thread nD τ).loc main_arg7)) (m ((c.tc : Thread nD τ).loc main_arg8)) := by
  unfold V1 hostOps0
  after_reads_simp
  rfl

theorem V1_v37 (c : Dev nD) :
    V1 m c main_v37 = scales1 (m ((c.tc : Thread nD τ).loc main_arg10)) (m ((c.tc : Thread nD τ).loc main_arg11)) (m ((c.tc : Thread nD τ).loc main_arg12)) := by
  unfold V1 hostOps0
  after_reads_simp
  rfl

end Cert.KernelIdeal.Hand

end
-- ==== Proof.Value.Array0.lean ====
/-
  The first region's array after the run: the gated activation, column by column.
-/
module

public import proofs.«01_k».proof.Proof.Value.Host

@[expose] public section

set_option maxRecDepth 16384

noncomputable section

namespace Cert.KernelIdeal.Hand

open Cert.KernelIdeal.Gen
open Idealize.ShloMosaic Idealize.ShloMosaic.TcCoe
open Cert.Nf4

variable (m : (ℓ : Loc nD τ sig) → Buf (Elt Ideal) ℓ)

/-- The gate weights the launch's arguments give. -/
def Wg (c : Dev nD) : Fin 4096 → Fin 14336 → EReal := weight0 (m ((c.tc : Thread nD τ).loc main_arg1)) (m ((c.tc : Thread nD τ).loc main_arg2)) (m ((c.tc : Thread nD τ).loc main_arg3)) (m ((c.tc : Thread nD τ).loc main_arg4))
/-- The up weights. -/
def Wu (c : Dev nD) : Fin 4096 → Fin 14336 → EReal := weight0 (m ((c.tc : Thread nD τ).loc main_arg5)) (m ((c.tc : Thread nD τ).loc main_arg6)) (m ((c.tc : Thread nD τ).loc main_arg7)) (m ((c.tc : Thread nD τ).loc main_arg8))
/-- The down weights. -/
def Wd (c : Dev nD) : Fin 14336 → Fin 4096 → EReal := weight1 (m ((c.tc : Thread nD τ).loc main_arg9)) (m ((c.tc : Thread nD τ).loc main_arg10)) (m ((c.tc : Thread nD τ).loc main_arg11)) (m ((c.tc : Thread nD τ).loc main_arg12))

/-- The index maps of region 0, decided over the grid. -/
theorem index0 : ∀ t : Fin grid0.N,
    (win0_0.index t (0 : Fin 2) = t.val % 12 ∧ win0_0.index t (1 : Fin 2) = 0)
    ∧ (win0_1.index t (0 : Fin 2) = t.val / 12 ∧ win0_1.index t (1 : Fin 2) = 0)
    ∧ (win0_2.index t (0 : Fin 3) = 0 ∧ win0_2.index t (1 : Fin 3) = 0 ∧ win0_2.index t (2 : Fin 3) = t.val / 12)
    ∧ (win0_3.index t (0 : Fin 2) = t.val / 12 ∧ win0_3.index t (1 : Fin 2) = 0)
    ∧ (win0_4.index t (0 : Fin 3) = 0 ∧ win0_4.index t (1 : Fin 3) = 0 ∧ win0_4.index t (2 : Fin 3) = t.val / 12)
    ∧ (win0_5.index t (0 : Fin 2) = 0 ∧ win0_5.index t (1 : Fin 2) = 0)
    ∧ (win0_6.index t (0 : Fin 2) = t.val % 12 ∧ win0_6.index t (1 : Fin 2) = t.val / 12)
    ∧ win0_6.flush t = true := by
  decide +kernel

section Blocks

variable (W : Dev nD → Valuation τ sig (Elt Ideal)) (c : Dev nD) (t : Fin cfg0.N)

theorem t0_lt : t.val < 336 := Nat.lt_of_lt_of_eq t.isLt N_0

theorem iblk0_0_apply (i : Fin 512) (j : Fin 4096) :
    (iblk0 W c 0 t : Vec Ideal S512x4096 _) (ix2 i j) = W c main_v0 (ix2 ⟨512 * (t.val % 12) + i.val, by have := t0_lt t; omega⟩ j) := by
  have h := index0 t
  refine congrArg (W c (Proc.devRef .tc (Pipeline.arrRef spec0 0))) (funext fun a => Fin.ext ?_)
  match a with
  | ⟨0, _⟩ =>
    show win0_0.index t (0 : Fin 2) * 512 + 1 * i.val = 512 * (t.val % 12) + i.val
    omega
  | ⟨1, _⟩ =>
    show win0_0.index t (1 : Fin 2) * 4096 + 1 * j.val = j.val
    omega

theorem iblk0_1_apply (i : Fin 512) (j : Fin 2048) :
    (iblk0 W c 1 t : Vec Ideal S512x2048 _) (ix2 i j) = W c main_arg1 (ix2 ⟨512 * (t.val / 12) + i.val, by have := t0_lt t; omega⟩ j) := by
  have h := index0 t
  refine congrArg (W c (Proc.devRef .tc (Pipeline.arrRef spec0 1))) (funext fun a => Fin.ext ?_)
  match a with
  | ⟨0, _⟩ =>
    show win0_1.index t (0 : Fin 2) * 512 + 1 * i.val = 512 * (t.val / 12) + i.val
    omega
  | ⟨1, _⟩ =>
    show win0_1.index t (1 : Fin 2) * 2048 + 1 * j.val = j.val
    omega

theorem iblk0_2_apply (g : Fin 16) (e : Fin 4) (j : Fin 512) :
    (iblk0 W c 2 t : Vec Ideal S16x4x512 _) (ix3 g e j) = W c main_v15 (ix3 g e ⟨512 * (t.val / 12) + j.val, by have := t0_lt t; omega⟩) := by
  have h := index0 t
  refine congrArg (W c (Proc.devRef .tc (Pipeline.arrRef spec0 2))) (funext fun a => Fin.ext ?_)
  match a with
  | ⟨0, _⟩ =>
    show win0_2.index t (0 : Fin 3) * 16 + 1 * g.val = g.val
    omega
  | ⟨1, _⟩ =>
    show win0_2.index t (1 : Fin 3) * 4 + 1 * e.val = e.val
    omega
  | ⟨2, _⟩ =>
    show win0_2.index t (2 : Fin 3) * 512 + 1 * j.val = 512 * (t.val / 12) + j.val
    omega

theorem iblk0_3_apply (i : Fin 512) (j : Fin 2048) :
    (iblk0 W c 3 t : Vec Ideal S512x2048 _) (ix2 i j) = W c main_arg5 (ix2 ⟨512 * (t.val / 12) + i.val, by have := t0_lt t; omega⟩ j) := by
  have h := index0 t
  refine congrArg (W c (Proc.devRef .tc (Pipeline.arrRef spec0 3))) (funext fun a => Fin.ext ?_)
  match a with
  | ⟨0, _⟩ =>
    show win0_3.index t (0 : Fin 2) * 512 + 1 * i.val = 512 * (t.val / 12) + i.val
    omega
  | ⟨1, _⟩ =>
    show win0_3.index t (1 : Fin 2) * 2048 + 1 * j.val = j.val
    omega

theorem iblk0_4_apply (g : Fin 16) (e : Fin 4) (j : Fin 512) :
    (iblk0 W c 4 t : Vec Ideal S16x4x512 _) (ix3 g e j) = W c main_v26 (ix3 g e ⟨512 * (t.val / 12) + j.val, by have := t0_lt t; omega⟩) := by
  have h := index0 t
  refine congrArg (W c (Proc.devRef .tc (Pipeline.arrRef spec0 4))) (funext fun a => Fin.ext ?_)
  match a with
  | ⟨0, _⟩ =>
    show win0_4.index t (0 : Fin 3) * 16 + 1 * g.val = g.val
    omega
  | ⟨1, _⟩ =>
    show win0_4.index t (1 : Fin 3) * 4 + 1 * e.val = e.val
    omega
  | ⟨2, _⟩ =>
    show win0_4.index t (2 : Fin 3) * 512 + 1 * j.val = 512 * (t.val / 12) + j.val
    omega

theorem iblk0_5_apply (i : Fin 1) (j : Fin 128) :
    (iblk0 W c 5 t : Vec Ideal S1x128 _) (ix2 i j) = W c main_v4 (ix2 i j) := by
  have h := index0 t
  refine congrArg (W c (Proc.devRef .tc (Pipeline.arrRef spec0 5))) (funext fun a => Fin.ext ?_)
  match a with
  | ⟨0, _⟩ =>
    show win0_5.index t (0 : Fin 2) * 1 + 1 * i.val = i.val
    omega
  | ⟨1, _⟩ =>
    show win0_5.index t (1 : Fin 2) * 128 + 1 * j.val = j.val
    omega

end Blocks

section Region0

variable (c : Dev nD) (t : Fin cfg0.N)

theorem isTable0 : IsTable (iblk0 (V1 m) c 5 t) := fun n => (iblk0_5_apply (V1 m) c t 0 ⟨n.val, by omega⟩).trans (V1_v4 m c n)

theorem wt0_gate_apply (k : Fin 4096) (j : Fin 512) :
    wt0 (V1 m) c t (ix2 k ⟨j.val, by omega⟩) = Wg m c k ⟨512 * (t.val / 12) + j.val, by have := t0_lt t; omega⟩ := by
  unfold wt0
  rw [w0_gate_apply _ _ _ _ _ (isTable0 m c t), iblk0_1_apply (V1 m) c t, iblk0_2_apply (V1 m) c t, V1_v15, scales0_apply,
    V1_of m c main_arg1 (by decide)]
  exact congrArg₂ (· * ·) rfl (congrArg (absmax0 _ _ _ _) (Fin.ext (by dsimp only; omega)))

theorem wt0_up_apply (k : Fin 4096) (j : Fin 512) :
    wt0 (V1 m) c t (ix2 k ⟨512 + j.val, by omega⟩) = Wu m c k ⟨512 * (t.val / 12) + j.val, by have := t0_lt t; omega⟩ := by
  unfold wt0
  rw [w0_up_apply _ _ _ _ _ (isTable0 m c t), iblk0_3_apply (V1 m) c t, iblk0_4_apply (V1 m) c t, V1_v26, scales0_apply,
    V1_of m c main_arg5 (by decide)]
  exact congrArg₂ (· * ·) rfl (congrArg (absmax0 _ _ _ _) (Fin.ext (by dsimp only; omega)))

/-- What region 0's array ends holding. -/
def G0 (c : Dev nD) : Buf (Elt Ideal) ((c : Thread nD τ).loc main_v38) :=
  fun i => gated (m ((c.tc : Thread nD τ).loc main_arg0)) (Wg m c) (Wu m c) ⟨(i 0).val, (i 0).isLt⟩ ⟨(i 1).val, (i 1).isLt⟩

/-- The activation tile from what its two operands hold. -/
theorem hTile_gated (X : Vec Ideal S512x4096 .bf16) (w : Vec Ideal S4096x1024 .bf16) (i j : Fin 512) (x : (⟨3, ![6144, 1, 4096]⟩ : Shape).Idx → EReal)
    (A B : Fin 4096 → Fin 14336 → EReal) (r : Fin 6144) (f : Fin 14336) (hx : ∀ k, X (ix2 i k) = x (ix3 r 0 k))
    (hA : ∀ k, w (ix2 k ⟨j.val, by omega⟩) = A k f) (hB : ∀ k, w (ix2 k ⟨512 + j.val, by omega⟩) = B k f) :
    hTile (F := Ideal) X w (ix2 i j) = gated x A B r f := by
  rw [hTile_apply]
  simp only [hx, hA, hB]
  rfl

theorem hTile_block (i : Fin 512) (j : Fin 512) :
    hTile (F := Ideal) (iblk0 (V1 m) c 0 t) (wt0 (V1 m) c t) (ix2 i j)
      = gated (m ((c.tc : Thread nD τ).loc main_arg0)) (Wg m c) (Wu m c) ⟨512 * (t.val % 12) + i.val, by omega⟩
          ⟨512 * (t.val / 12) + j.val, by have := t0_lt t; omega⟩ := by
  exact hTile_gated _ _ i j _ _ _ _ _ (fun k => (iblk0_0_apply (V1 m) c t i k).trans (V1_v0 m c _ k)) (fun k => wt0_gate_apply m c t k j) (fun k => wt0_up_apply m c t k j)

theorem flushed0 : (dat0 (V1 m) c).flushed 6 t = ((cfg0.win 6).blk t).view.read (Elt Ideal) (G0 m c) := by
  show (cfg0.win 6).cut (grid0.coords t) ((dat0 (V1 m) c).after 6 t) = _
  rw [after0_6]
  have h := index0 t
  funext y
  have hy0 : (y 0).val < 512 := (y 0).isLt
  have hy1 : (y 1).val < 512 := (y 1).isLt
  have hb0 : (((cfg0.win 6).blk t).view.emb y 0).val = win0_6.index t (0 : Fin 2) * 512 + 1 * (y 0).val := rfl
  have hb1 : (((cfg0.win 6).blk t).view.emb y 1).val = win0_6.index t (1 : Fin 2) * 512 + 1 * (y 1).val := rfl
  have hx : (cfg0.win 6).xinj (grid0.coords t) y = ix2 (⟨(y 0).val, hy0⟩ : Fin 512) (⟨(y 1).val, hy1⟩ : Fin 512) := by
    funext a; apply Fin.ext
    match a with
    | ⟨0, _⟩ => rfl
    | ⟨1, _⟩ => rfl
  show hTile (F := Ideal) (iblk0 (V1 m) c 0 t) (wt0 (V1 m) c t) ((cfg0.win 6).xinj (grid0.coords t) y) = G0 m c (((cfg0.win 6).blk t).view.emb y)
  rw [hx]
  refine (hTile_block m c t _ _).trans ?_
  unfold G0
  refine congrArg₂ (gated _ _ _) (Fin.ext ?_) (Fin.ext ?_)
  · show 512 * (t.val % 12) + (y 0).val = (((cfg0.win 6).blk t).view.emb y 0).val
    rw [hb0]; omega
  · show 512 * (t.val / 12) + (y 1).val = (((cfg0.win 6).blk t).view.emb y 1).val
    rw [hb1]; omega

theorem mem_blk0 (i : S6144x14336.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v38).slice (win0_6.rect t)).set ↔ _
  rw [View.set_slice_whole, Rect.mem_set_unit]
  exact Iff.rfl

/-- The blocks tile the array. -/
theorem covered0 (i : S6144x14336.Idx) : ∃ t : Fin cfg0.N, (cfg0.win 6).flush t = true ∧ i ∈ ((cfg0.win 6).blk t).view.set := by
  have hi0 : (i 0).val < 6144 := (i 0).isLt
  have hi1 : (i 1).val < 14336 := (i 1).isLt
  obtain ⟨t, ht⟩ : ∃ t : Fin cfg0.N, t.val = 12 * ((i 1).val / 512) + (i 0).val / 512 := ⟨⟨_, lt_of_lt_of_eq (by omega) N_0.symm⟩, rfl⟩
  have h := index0 t
  refine ⟨t, h.2.2.2.2.2.2.2, ?_⟩
  rw [mem_blk0]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 512 ≤ (i 1).val ∧ (i 1).val < win0_6.index t (1 : Fin 2) * 512 + 512; omega

/-- Region 0's array after the run. -/
theorem res0_eq : res0 m c = G0 m c :=
  (Pipeline.afterRegion_arr (dat0 (V1 m) c) (V1 m c) winFacts0.arr_inj 6).trans
    ((dat0 (V1 m) c).arrAt_eq_of_cover 6 _ (fun t _ => flushed0 m c t) covered0)

end Region0

end Cert.KernelIdeal.Hand

end
-- ==== Proof.Value.Array1.lean ====
/-
  The second region's array after the run: the product of the gated activation with the down weights, and the two results.
-/
module

public import proofs.«01_k».proof.Proof.Value.Array0

@[expose] public section

set_option maxRecDepth 16384

noncomputable section

namespace Cert.KernelIdeal.Hand

open Cert.KernelIdeal.Gen
open Idealize.ShloMosaic Idealize.ShloMosaic.TcCoe
open Cert.Nf4

variable (m : (ℓ : Loc nD τ sig) → Buf (Elt Ideal) ℓ)

/-- The index maps of region 1, decided over the grid. -/
theorem index1 : ∀ t : Fin grid1.N,
    (win1_0.index t (0 : Fin 2) = t.val % 24 ∧ win1_0.index t (1 : Fin 2) = 0)
    ∧ (win1_1.index t (0 : Fin 2) = t.val / 24 ∧ win1_1.index t (1 : Fin 2) = 0)
    ∧ (win1_2.index t (0 : Fin 3) = 0 ∧ win1_2.index t (1 : Fin 3) = 0 ∧ win1_2.index t (2 : Fin 3) = t.val / 24)
    ∧ (win1_3.index t (0 : Fin 2) = 0 ∧ win1_3.index t (1 : Fin 2) = 0)
    ∧ (win1_4.index t (0 : Fin 2) = t.val % 24 ∧ win1_4.index t (1 : Fin 2) = t.val / 24)
    ∧ win1_4.flush t = true := by
  decide +kernel

section Blocks

variable (W : Dev nD → Valuation τ sig (Elt Ideal)) (c : Dev nD) (t : Fin cfg1.N)

theorem t1_lt : t.val < 192 := Nat.lt_of_lt_of_eq t.isLt N_1

theorem iblk1_0_apply (i : Fin 256) (j : Fin 14336) :
    (iblk1 W c 0 t : Vec Ideal S256x14336 _) (ix2 i j) = W c main_v38 (ix2 ⟨256 * (t.val % 24) + i.val, by have := t1_lt t; omega⟩ j) := by
  have h := index1 t
  refine congrArg (W c (Proc.devRef .tc (Pipeline.arrRef spec1 0))) (funext fun a => Fin.ext ?_)
  match a with
  | ⟨0, _⟩ =>
    show win1_0.index t (0 : Fin 2) * 256 + 1 * i.val = 256 * (t.val % 24) + i.val
    omega
  | ⟨1, _⟩ =>
    show win1_0.index t (1 : Fin 2) * 14336 + 1 * j.val = j.val
    omega

theorem iblk1_1_apply (i : Fin 512) (j : Fin 7168) :
    (iblk1 W c 1 t : Vec Ideal S512x7168 _) (ix2 i j) = W c main_arg9 (ix2 ⟨512 * (t.val / 24) + i.val, by have := t1_lt t; omega⟩ j) := by
  have h := index1 t
  refine congrArg (W c (Proc.devRef .tc (Pipeline.arrRef spec1 1))) (funext fun a => Fin.ext ?_)
  match a with
  | ⟨0, _⟩ =>
    show win1_1.index t (0 : Fin 2) * 512 + 1 * i.val = 512 * (t.val / 24) + i.val
    omega
  | ⟨1, _⟩ =>
    show win1_1.index t (1 : Fin 2) * 7168 + 1 * j.val = j.val
    omega

theorem iblk1_2_apply (g : Fin 56) (e : Fin 4) (j : Fin 512) :
    (iblk1 W c 2 t : Vec Ideal S56x4x512 _) (ix3 g e j) = W c main_v37 (ix3 g e ⟨512 * (t.val / 24) + j.val, by have := t1_lt t; omega⟩) := by
  have h := index1 t
  refine congrArg (W c (Proc.devRef .tc (Pipeline.arrRef spec1 2))) (funext fun a => Fin.ext ?_)
  match a with
  | ⟨0, _⟩ =>
    show win1_2.index t (0 : Fin 3) * 56 + 1 * g.val = g.val
    omega
  | ⟨1, _⟩ =>
    show win1_2.index t (1 : Fin 3) * 4 + 1 * e.val = e.val
    omega
  | ⟨2, _⟩ =>
    show win1_2.index t (2 : Fin 3) * 512 + 1 * j.val = 512 * (t.val / 24) + j.val
    omega

theorem iblk1_3_apply (i : Fin 1) (j : Fin 128) :
    (iblk1 W c 3 t : Vec Ideal S1x128 _) (ix2 i j) = W c main_v4 (ix2 i j) := by
  have h := index1 t
  refine congrArg (W c (Proc.devRef .tc (Pipeline.arrRef spec1 3))) (funext fun a => Fin.ext ?_)
  match a with
  | ⟨0, _⟩ =>
    show win1_3.index t (0 : Fin 2) * 1 + 1 * i.val = i.val
    omega
  | ⟨1, _⟩ =>
    show win1_3.index t (1 : Fin 2) * 128 + 1 * j.val = j.val
    omega

end Blocks

section Region1

variable (c : Dev nD) (t : Fin cfg1.N)

/-- Region 1 is entered with what the host operations left, but region 0's array. -/
theorem W1_of (r : Ref sig .tc) (h : r ∉ ([main_v38] : List (Ref sig .tc))) : W1 m c r = V1 m c r := V2_of m (outs m) c r h

theorem W1_v38 : W1 m c main_v38 = G0 m c := (Function.update_self _ _ _).trans (res0_eq m c)

theorem isTable1 : IsTable (iblk1 (W1 m) c 3 t) := fun n => (iblk1_3_apply (W1 m) c t 0 ⟨n.val, by omega⟩).trans
  ((congrFun (W1_of m c main_v4 (by decide)) _).trans (V1_v4 m c n))

theorem wt1_apply (k : Fin 14336) (j : Fin 512) :
    wt1 (W1 m) c t (ix2 k j) = Wd m c k ⟨512 * (t.val / 24) + j.val, by have := t1_lt t; omega⟩ := by
  unfold wt1
  rw [w1_apply _ _ _ (isTable1 m c t), iblk1_1_apply (W1 m) c t, iblk1_2_apply (W1 m) c t, W1_of m c main_v37 (by decide), V1_v37, scales1_apply,
    W1_of m c main_arg9 (by decide), V1_of m c main_arg9 (by decide)]
  exact congrArg₂ (· * ·) rfl (congrArg (absmax1 _ _ _ _) (Fin.ext (by dsimp only; omega)))

/-- The output at row `r`, column `f`. -/
def out (c : Dev nD) (r : Fin 6144) (f : Fin 4096) : EReal :=
  lin (fun k : Fin 14336 => gated (m ((c.tc : Thread nD τ).loc main_arg0)) (Wg m c) (Wu m c) r k) (Wd m c) f

/-- What region 1's array ends holding. -/
def G1 (c : Dev nD) : Buf (Elt Ideal) ((c : Thread nD τ).loc main_v39) :=
  fun i => out m c ⟨(i 0).val, (i 0).isLt⟩ ⟨(i 1).val, (i 1).isLt⟩

theorem G0_apply (r : Fin 6144) (k : Fin 14336) : G0 m c (ix2 r k) = gated (m ((c.tc : Thread nD τ).loc main_arg0)) (Wg m c) (Wu m c) r k := rfl

/-- The output tile from what its two operands hold. -/
theorem yTile_lin (X : Vec Ideal S256x14336 .bf16) (w : Vec Ideal S14336x512 .bf16) (i : Fin 256) (j : Fin 512) (x : Fin 14336 → EReal)
    (A : Fin 14336 → Fin 4096 → EReal) (f : Fin 4096) (hx : ∀ k, X (ix2 i k) = x k) (hA : ∀ k, w (ix2 k j) = A k f) :
    yTile (F := Ideal) X w (ix2 i j) = lin x A f := by
  rw [yTile_apply]
  simp only [hx, hA]
  rfl

theorem yTile_block (i : Fin 256) (j : Fin 512) :
    yTile (F := Ideal) (iblk1 (W1 m) c 0 t) (wt1 (W1 m) c t) (ix2 i j)
      = out m c ⟨256 * (t.val % 24) + i.val, by omega⟩ ⟨512 * (t.val / 24) + j.val, by have := t1_lt t; omega⟩ := by
  exact yTile_lin _ _ i j (fun k => gated (m ((c.tc : Thread nD τ).loc main_arg0)) (Wg m c) (Wu m c) ⟨256 * (t.val % 24) + i.val, by omega⟩ k) (Wd m c) _
    (fun k => (iblk1_0_apply (W1 m) c t i k).trans ((congrFun (W1_v38 m c) _).trans (G0_apply m c _ k))) (fun k => wt1_apply m c t k j)

theorem flushed1 : (dat1 (W1 m) c).flushed 4 t = ((cfg1.win 4).blk t).view.read (Elt Ideal) (G1 m c) := by
  show (cfg1.win 4).cut (grid1.coords t) ((dat1 (W1 m) c).after 4 t) = _
  rw [after1_4]
  have h := index1 t
  funext y
  have hy0 : (y 0).val < 256 := (y 0).isLt
  have hy1 : (y 1).val < 512 := (y 1).isLt
  have hb0 : (((cfg1.win 4).blk t).view.emb y 0).val = win1_4.index t (0 : Fin 2) * 256 + 1 * (y 0).val := rfl
  have hb1 : (((cfg1.win 4).blk t).view.emb y 1).val = win1_4.index t (1 : Fin 2) * 512 + 1 * (y 1).val := rfl
  have hx : (cfg1.win 4).xinj (grid1.coords t) y = ix2 (⟨(y 0).val, hy0⟩ : Fin 256) (⟨(y 1).val, hy1⟩ : Fin 512) := by
    funext a; apply Fin.ext
    match a with
    | ⟨0, _⟩ => rfl
    | ⟨1, _⟩ => rfl
  show yTile (F := Ideal) (iblk1 (W1 m) c 0 t) (wt1 (W1 m) c t) ((cfg1.win 4).xinj (grid1.coords t) y) = G1 m c (((cfg1.win 4).blk t).view.emb y)
  rw [hx]
  refine (yTile_block m c t _ _).trans ?_
  unfold G1
  refine congrArg₂ (out m c) (Fin.ext ?_) (Fin.ext ?_)
  · show 256 * (t.val % 24) + (y 0).val = (((cfg1.win 4).blk t).view.emb y 0).val
    rw [hb0]; omega
  · show 512 * (t.val / 24) + (y 1).val = (((cfg1.win 4).blk t).view.emb y 1).val
    rw [hb1]; omega

theorem mem_blk1 (i : S6144x4096.Idx) :
    i ∈ ((cfg1.win 4).blk t).view.set ↔ ∀ a : Fin 2, win1_4.index t a * S256x512.size a ≤ (i a).val ∧ (i a).val < win1_4.index t a * S256x512.size a + S256x512.size a := by
  show i ∈ ((View.whole main_v39).slice (win1_4.rect t)).set ↔ _
  rw [View.set_slice_whole, Rect.mem_set_unit]
  exact Iff.rfl

/-- The blocks tile the array. -/
theorem covered1 (i : S6144x4096.Idx) : ∃ t : Fin cfg1.N, (cfg1.win 4).flush t = true ∧ i ∈ ((cfg1.win 4).blk t).view.set := by
  have hi0 : (i 0).val < 6144 := (i 0).isLt
  have hi1 : (i 1).val < 4096 := (i 1).isLt
  obtain ⟨t, ht⟩ : ∃ t : Fin cfg1.N, t.val = 24 * ((i 1).val / 512) + (i 0).val / 256 := ⟨⟨_, lt_of_lt_of_eq (by omega) N_1.symm⟩, rfl⟩
  have h := index1 t
  refine ⟨t, h.2.2.2.2.2, ?_⟩
  rw [mem_blk1]
  intro a
  match a with
  | ⟨0, _⟩ => show win1_4.index t (0 : Fin 2) * 256 ≤ (i 0).val ∧ (i 0).val < win1_4.index t (0 : Fin 2) * 256 + 256; omega
  | ⟨1, _⟩ => show win1_4.index t (1 : Fin 2) * 512 ≤ (i 1).val ∧ (i 1).val < win1_4.index t (1 : Fin 2) * 512 + 512; omega

/-- Region 1's array after the run. -/
theorem res1_eq : outs m 3 main_v39 c = G1 m c :=
  (Pipeline.afterRegion_arr (dat1 (W1 m) c) (W1 m c) winFacts1.arr_inj 4).trans
    ((dat1 (W1 m) c).arrAt_eq_of_cover 4 _ (fun t _ => flushed1 m c t) covered1)

/-! ## The two results -/

theorem V4_v40 (r : Fin 6144) (f : Fin 4096) : V4 m (outs m) c main_v40 (ix3 r 0 f) = out m c r f := by
  have h : V4 m (outs m) c main_v40 = shapeCast S6144x1x4096 (G1 m c : Vec Ideal S6144x4096 .bf16) shapeCasts_S6144x4096_S6144x1x4096 := by
    rw [← res1_eq]
    unfold V4 hostOps2
    after_reads_simp
    rfl
  rw [h]
  clean_types
  pointwise
  rfl

theorem V4_v41 (r : Fin 6144) (f : Fin 14336) :
    V4 m (outs m) c main_v41 (ix3 r 0 f) = gated (m ((c.tc : Thread nD τ).loc main_arg0)) (Wg m c) (Wu m c) r f := by
  have h : V4 m (outs m) c main_v41 = shapeCast S6144x1x14336 (G0 m c : Vec Ideal S6144x14336 .bf16) shapeCasts_S6144x14336_S6144x1x14336 := by
    rw [← res0_eq]
    unfold V4 hostOps2
    after_reads_simp
    rfl
  rw [h]
  clean_types
  pointwise
  rfl

end Region1

end Cert.KernelIdeal.Hand

end
-- ==== Proof.Value.Equal.lean ====
/-
  The two programs' results agree: each is the same function of the arguments, index by index.
-/
module

public import proofs.«01_k».proof.Proof.Value.Ref
public import proofs.«01_k».proof.Proof.Value.Array1

@[expose] public section

set_option maxRecDepth 16384

noncomputable section

namespace Cert.Value

open Idealize.ShloMosaic Idealize.ShloMosaic.TcCoe
open Cert.Nf4

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two launches give core `c` the same thirteen arguments. -/
def Same (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧
  m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧
  m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧
  m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧
  m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧
  m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧
  m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧
  m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧
  m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) ∧
  m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) ∧
  m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10) ∧
  m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11) ∧
  m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)

/-- An index whose middle coordinate has one value. -/
theorem ix3_mid {n k : ℕ} {P : (⟨3, ![n, 1, k]⟩ : Shape).Idx → Prop} (h : ∀ (r : Fin n) (f : Fin k), P (ix3 r 0 f)) (i) : P i := by
  have e : i = ix3 (⟨(i 0).val, (i 0).isLt⟩ : Fin n) 0 (⟨(i 2).val, (i 2).isLt⟩ : Fin k) := by
    funext a; apply Fin.ext
    match a with
    | ⟨0, _⟩ => rfl
    | ⟨1, _⟩ => show (i 1).val = 0; have : (i 1).val < 1 := (i 1).isLt; omega
    | ⟨2, _⟩ => rfl
  rw [e]; exact h _ _

/-- The hidden activation. -/
theorem hidden_eq (c : Dev Cert.KernelIdeal.nD) (h : Same m m' c) :
    Cert.ReferenceIdeal.Value.res_main_v226 (F := Ideal) (StableHlo.launchContents m' c)
      = Cert.KernelIdeal.Gen.V4 m (Cert.KernelIdeal.Hand.outs m) c Cert.KernelIdeal.main_v41 := by
  obtain ⟨h0, h1, h2, h3, h4, h5, h6, h7, h8, h9, h10, h11, h12⟩ := h
  funext i
  revert i
  refine ix3_mid fun r f => ?_
  refine (Cert.ReferenceIdeal.Hand.v226_apply _ r f).trans (Eq.trans ?_ (Cert.KernelIdeal.Hand.V4_v41 m c r f).symm)
  unfold Cert.KernelIdeal.Hand.Wg Cert.KernelIdeal.Hand.Wu
  rw [← h0, ← h1, ← h2, ← h3, ← h4, ← h5, ← h6, ← h7, ← h8]

/-- The output. -/
theorem out_eq (c : Dev Cert.KernelIdeal.nD) (h : Same m m' c) :
    (truncf .bf16 (Cert.ReferenceIdeal.Value.res_main_v335 (F := Ideal) (StableHlo.launchContents m' c)) Cert.ReferenceIdeal.Gen.bitsLt_bf16_f32 : FVec Ideal Cert.ReferenceIdeal.S6144x1x4096 .bf16)
      = Cert.KernelIdeal.Gen.V4 m (Cert.KernelIdeal.Hand.outs m) c Cert.KernelIdeal.main_v40 := by
  have hh := hidden_eq m m' c h
  obtain ⟨h0, h1, h2, h3, h4, h5, h6, h7, h8, h9, h10, h11, h12⟩ := h
  funext i
  revert i
  refine ix3_mid fun r f => ?_
  refine (Cert.ReferenceIdeal.Hand.v335_apply _ r f).trans (Eq.trans ?_ (Cert.KernelIdeal.Hand.V4_v40 m c r f).symm)
  unfold Cert.KernelIdeal.Hand.out
  refine congrArg₂ (fun x W => lin x W f) (funext fun k => ?_) ?_
  · exact (congrFun hh _).trans (Cert.KernelIdeal.Hand.V4_v41 m c r k)
  · unfold Cert.KernelIdeal.Hand.Wd
    rw [← h9, ← h10, ← h11, ← h12]

end Cert.Value

end
-- ==== Proof.lean ====
/-
  The proof of `Cert.Claim`: the three frames, the idealization's conjuncts, and the two results over the
  extended reals. The runs are `Proof/Bits` and `Proof/Ideal`, the results' equality `Proof/Value`.
-/
module

public import proofs.«01_k».proof.Defs
public import proofs.«01_k».proof.Proof.Bits.Run
public import proofs.«01_k».proof.Proof.Ideal.Run
public import proofs.«01_k».proof.Proof.Gen.ReferenceIdeal.Run
public import proofs.«01_k».proof.Proof.Value.Equal
public import Idealize.ShloMosaic.Lib.Bf16Pair

@[expose] public section

noncomputable section

namespace Cert.Proof

open Idealize.ShloMosaic Idealize.SL.Sem Cert.Kernel

/-- The reference uses no semaphore, so its frame is the unchanged arguments of its run. -/
theorem frame_ref : Cert.quiescent_ReferenceIdeal (hReferenceIdeal := Cert.ReferenceIdeal.Gen.facts) :=
  fun m g _ => (θ_run _ _ _).mono
    (fun r h => ⟨fun c => (h c).2.2, sem_eq_zero_of_no_sems rfl r.2⟩)
    (Cert.ReferenceIdeal.Value.run (F := Ideal) m g)

theorem preserves : Cert.preserves_Kernel_KernelIdeal :=
  ⟨IdealRules.bf16_pair.packStatement _, IdealRules.bf16_pair.statement _ _⟩

/-- Both results: the kernel's run and the reference's end at the same two arrays. -/
theorem algebraic : Cert.algebraic_KernelIdeal_ReferenceIdeal (hKernelIdeal := Cert.KernelIdeal.Gen.facts) (hReferenceIdeal := Cert.ReferenceIdeal.Gen.facts) :=
  fun m g m' g' _ h => ⟨_, _, Cert.KernelIdeal.Hand.run_results m g,
    (θ_run _ _ _).mono (fun _ hr c => ⟨(hr c).1.trans (Cert.Value.out_eq m m' c (h c)), (hr c).2.1.trans (Cert.Value.hidden_eq m m' c (h c)), (hr c).2.2⟩)
      (Cert.ReferenceIdeal.Value.run (F := Ideal) m' g')⟩

theorem claim : Cert.Claim := ⟨Cert.Kernel.Gen.facts, Cert.KernelIdeal.Gen.facts, Cert.ReferenceIdeal.Gen.facts,
  fun m g _ => Cert.Kernel.Hand.frame m g,
  fun m g _ => Cert.KernelIdeal.Hand.frame m g,
  frame_ref, preserves, algebraic⟩

end Cert.Proof

end
